-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_bounded [hPre_logits_bounded : Cert.Pre_logits_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_logits_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_bounded [hPre_logits_bounded : Cert.Pre_logits_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_logits_bounded [hKernelIdeal : Cert.KernelIdeal.Facts] [hPre_logits_bounded : Cert.Pre_logits_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_logits_bounded [hReferenceIdeal : Cert.ReferenceIdeal.Facts] [hPre_logits_bounded : Cert.Pre_logits_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_deriv" .f32 0x3FB86621#32 ((16777216 / 11645857 : ℝ) : EReal)

def algebraic_KernelIdeal_ReferenceIdeal_pre_logits_bounded [hKernelIdeal : Cert.KernelIdeal.Facts] [hReferenceIdeal : Cert.ReferenceIdeal.Facts] [hPre_logits_bounded : Cert.Pre_logits_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_logits_bounded : Cert.Pre_logits_bounded.Facts),
    quiescent_Kernel (hKernel := hKernel)
    ∧ quiescent_KernelIdeal (hKernelIdeal := hKernelIdeal)
    ∧ quiescent_KernelIdeal_pre_logits_bounded (hKernelIdeal := hKernelIdeal) (hPre_logits_bounded := hPre_logits_bounded)
    ∧ quiescent_ReferenceIdeal (hReferenceIdeal := hReferenceIdeal)
    ∧ quiescent_ReferenceIdeal_pre_logits_bounded (hReferenceIdeal := hReferenceIdeal) (hPre_logits_bounded := hPre_logits_bounded)
    ∧ preserves_Kernel_KernelIdeal
    ∧ algebraic_KernelIdeal_ReferenceIdeal_pre_logits_bounded (hKernelIdeal := hKernelIdeal) (hReferenceIdeal := hReferenceIdeal) (hPre_logits_bounded := hPre_logits_bounded)
-- ==== Pre_logits_bounded.lean ====
abbrev S131072x8 : Shape := ⟨2, ![131072, 8]⟩
abbrev S131072x4 : Shape := ⟨2, ![131072, 4]⟩
abbrev S6x8x32 : Shape := ⟨3, ![6, 8, 32]⟩
abbrev S6x32 : Shape := ⟨2, ![6, 32]⟩
abbrev S6x32x32 : Shape := ⟨3, ![6, 32, 32]⟩
abbrev S6x32x124 : Shape := ⟨3, ![6, 32, 124]⟩
abbrev S6x124 : Shape := ⟨2, ![6, 124]⟩
abbrev S_ : Shape := ⟨0, ![]⟩
abbrev S6x32x1 : Shape := ⟨3, ![6, 32, 1]⟩
abbrev S6x4x31 : Shape := ⟨3, ![6, 4, 31]⟩
abbrev S6x4x20 : Shape := ⟨3, ![6, 4, 20]⟩

class Facts : Prop where
  reducesTo_S131072x8_S_d0_1 : S131072x8.ReducesTo [0, 1] S_
  h_S_ : 0 < S_.numel
  reducesTo_S131072x4_S_d0_1 : S131072x4.ReducesTo [0, 1] S_
  reducesTo_S6x8x32_S_d0_1_2 : S6x8x32.ReducesTo [0, 1, 2] S_
  reducesTo_S6x32_S_d0_1 : S6x32.ReducesTo [0, 1] S_
  reducesTo_S6x32x32_S_d0_1_2 : S6x32x32.ReducesTo [0, 1, 2] S_
  reducesTo_S6x32x124_S_d0_1_2 : S6x32x124.ReducesTo [0, 1, 2] S_
  reducesTo_S6x124_S_d0_1 : S6x124.ReducesTo [0, 1] S_
  bcast_S_S6x8x32 : S_.BroadcastsInDim S6x8x32 (![] : Fin 0 → Fin S6x8x32.rank)
  reducesTo_S6x8x32_S6x32_d1 : S6x8x32.ReducesTo [1] S6x32
  bcast_S6x32_S6x32x1_0_1 : S6x32.BroadcastsInDim S6x32x1 (![0, 1] : Fin 2 → Fin S6x32x1.rank)
  bcast_S6x32x1_S6x32x32_0_1_2 : S6x32x1.BroadcastsInDim S6x32x32 (![0, 1, 2] : Fin 3 → Fin S6x32x32.rank)
  reducesTo_S6x32x32_S6x32_d1 : S6x32x32.ReducesTo [1] S6x32
  bcast_S6x32x1_S6x32x124_0_1_2 : S6x32x1.BroadcastsInDim S6x32x124 (![0, 1, 2] : Fin 3 → Fin S6x32x124.rank)
  reducesTo_S6x32x124_S6x124_d1 : S6x32x124.ReducesTo [1] S6x124
  shapeCasts_S6x124_S6x4x31 : S6x124.ShapeCasts S6x4x31
  slices_S6x4x31_S6x4x20_0_0_0 : S6x4x31.Slices ![0, 0, 0] S6x4x20
  bcast_S_S6x4x20 : S_.BroadcastsInDim S6x4x20 (![] : Fin 0 → Fin S6x4x20.rank)

variable [Facts]

def fn_part3 {F : FTy → Type} [FloatOps F] (main_v2 : IVec S_ 1) (main_v5 : IVec S_ 1) (main_v8 : IVec S_ 1) (main_v11 : IVec S_ 1) (main_v14 : IVec S_ 1) (main_v17 : IVec S_ 1) (main_v20 : IVec S_ 1) (main_v23 : IVec S_ 1) (main_v49 : FVec F S6x124 .f32) : IVec S6x4x20 1 :=
  let main_v50 : FVec F S6x4x31 .f32 := shapeCast S6x4x31 main_v49 shapeCasts_S6x124_S6x4x31
  let main_v51 : FVec F S6x4x20 .f32 := (extractStridedSlice S6x4x20 ![0, 0, 0] · slices_S6x4x31_S6x4x20_0_0_0) main_v50
  let main_cst_21 : FVec F S_ .f32 := constant S_ .f32 0x42700000#32
  let main_v52 : FVec F S6x4x20 .f32 := broadcastInDim S6x4x20 ![] bcast_S_S6x4x20 main_cst_21
  let main_v53 : IVec S6x4x20 1 := cmpf .ole main_v51 main_v52
  let main_v54 : IVec S6x4x20 1 := broadcastInDim S6x4x20 ![] bcast_S_S6x4x20 main_v2
  let main_v55 : IVec S6x4x20 1 := andi main_v53 main_v54
  let main_v56 : IVec S6x4x20 1 := broadcastInDim S6x4x20 ![] bcast_S_S6x4x20 main_v5
  let main_v57 : IVec S6x4x20 1 := andi main_v55 main_v56
  let main_v58 : IVec S6x4x20 1 := broadcastInDim S6x4x20 ![] bcast_S_S6x4x20 main_v8
  let main_v59 : IVec S6x4x20 1 := andi main_v57 main_v58
  let main_v60 : IVec S6x4x20 1 := broadcastInDim S6x4x20 ![] bcast_S_S6x4x20 main_v11
  let main_v61 : IVec S6x4x20 1 := andi main_v59 main_v60
  let main_v62 : IVec S6x4x20 1 := broadcastInDim S6x4x20 ![] bcast_S_S6x4x20 main_v14
  let main_v63 : IVec S6x4x20 1 := andi main_v61 main_v62
  let main_v64 : IVec S6x4x20 1 := broadcastInDim S6x4x20 ![] bcast_S_S6x4x20 main_v17
  let main_v65 : IVec S6x4x20 1 := andi main_v63 main_v64
  let main_v66 : IVec S6x4x20 1 := broadcastInDim S6x4x20 ![] bcast_S_S6x4x20 main_v20
  let main_v67 : IVec S6x4x20 1 := andi main_v65 main_v66
  let main_v68 : IVec S6x4x20 1 := broadcastInDim S6x4x20 ![] bcast_S_S6x4x20 main_v23
  let main_v69 : IVec S6x4x20 1 := andi main_v67 main_v68
  main_v69

def fn_part2 {F : FTy → Type} [FloatOps F] (main_arg2 : FVec F S6x8x32 .f32) (main_arg3 : FVec F S6x32 .f32) (main_arg4 : FVec F S6x32x32 .f32) (main_arg5 : FVec F S6x32 .f32) (main_arg6 : FVec F S6x32x124 .f32) (main_arg7 : FVec F S6x124 .f32) (main_v2 : IVec S_ 1) (main_v5 : IVec S_ 1) (main_v8 : IVec S_ 1) (main_v11 : IVec S_ 1) (main_v14 : IVec S_ 1) (main_v17 : IVec S_ 1) (main_v20 : IVec S_ 1) (main_v23 : IVec S_ 1) (main_v28 : FVec F S_ .f32) (main_cst_17 : FVec F S_ .f32) : IVec S6x4x20 1 :=
  let main_v29 : FVec F S_ .f32 := maximumf main_v28 main_cst_17
  let main_v30 : FVec F S6x8x32 .f32 := Host.absf main_arg2
  let main_v31 : FVec F S6x8x32 .f32 := broadcastInDim S6x8x32 ![] bcast_S_S6x8x32 main_v29
  let main_v32 : FVec F S6x8x32 .f32 := mulf main_v31 main_v30
  let main_cst_18 : FVec F S_ .f32 := constant S_ .f32 0x00000000#32
  let main_v33 : FVec F S6x32 .f32 := (fun x v => Host.reduceAdd x v reducesTo_S6x8x32_S6x32_d1 h_S_) main_v32 main_cst_18
  let main_v34 : FVec F S6x32 .f32 := Host.absf main_arg3
  let main_v35 : FVec F S6x32 .f32 := addf main_v33 main_v34
  let main_v36 : FVec F S6x32x1 .f32 := broadcastInDim S6x32x1 ![0, 1] bcast_S6x32_S6x32x1_0_1 main_v35
  let main_v37 : FVec F S6x32x32 .f32 := Host.absf main_arg4
  let main_v38 : FVec F S6x32x32 .f32 := broadcastInDim S6x32x32 ![0, 1, 2] bcast_S6x32x1_S6x32x32_0_1_2 main_v36
  let main_v39 : FVec F S6x32x32 .f32 := mulf main_v38 main_v37
  let main_cst_19 : FVec F S_ .f32 := constant S_ .f32 0x00000000#32
  let main_v40 : FVec F S6x32 .f32 := (fun x v => Host.reduceAdd x v reducesTo_S6x32x32_S6x32_d1 h_S_) main_v39 main_cst_19
  let main_v41 : FVec F S6x32 .f32 := Host.absf main_arg5
  let main_v42 : FVec F S6x32 .f32 := addf main_v40 main_v41
  let main_v43 : FVec F S6x32x1 .f32 := broadcastInDim S6x32x1 ![0, 1] bcast_S6x32_S6x32x1_0_1 main_v42
  let main_v44 : FVec F S6x32x124 .f32 := Host.absf main_arg6
  let main_v45 : FVec F S6x32x124 .f32 := broadcastInDim S6x32x124 ![0, 1, 2] bcast_S6x32x1_S6x32x124_0_1_2 main_v43
  let main_v46 : FVec F S6x32x124 .f32 := mulf main_v45 main_v44
  let main_cst_20 : FVec F S_ .f32 := constant S_ .f32 0x00000000#32
  let main_v47 : FVec F S6x124 .f32 := (fun x v => Host.reduceAdd x v reducesTo_S6x32x124_S6x124_d1 h_S_) main_v46 main_cst_20
  let main_v48 : FVec F S6x124 .f32 := Host.absf main_arg7
  let main_v49 : FVec F S6x124 .f32 := addf main_v47 main_v48
  fn_part3 (F := F) main_v2 main_v5 main_v8 main_v11 main_v14 main_v17 main_v20 main_v23 main_v49

def fn_part1 {F : FTy → Type} [FloatOps F] (main_arg0 : FVec F S131072x8 .f32) (main_arg1 : FVec F S131072x4 .f32) (main_arg2 : FVec F S6x8x32 .f32) (main_arg3 : FVec F S6x32 .f32) (main_arg4 : FVec F S6x32x32 .f32) (main_arg5 : FVec F S6x32 .f32) (main_arg6 : FVec F S6x32x124 .f32) (main_arg7 : FVec F S6x124 .f32) (main_v2 : IVec S_ 1) (main_v5 : IVec S_ 1) (main_v8 : IVec S_ 1) (main_v11 : IVec S_ 1) (main_v13 : FVec F S_ .f32) (main_cst_8 : FVec F S_ .f32) : IVec S6x4x20 1 :=
  let main_v14 : IVec S_ 1 := cmpf .olt main_v13 main_cst_8
  let main_v15 : FVec F S6x32 .f32 := Host.absf main_arg5
  let main_cst_9 : FVec F S_ .f32 := constant S_ .f32 0xFF800000#32
  let main_v16 : FVec F S_ .f32 := (fun x v => Host.reduce FloatOps.maximumf x v reducesTo_S6x32_S_d0_1 h_S_) main_v15 main_cst_9
  let main_cst_10 : FVec F S_ .f32 := constant S_ .f32 0x7F800000#32
  let main_v17 : IVec S_ 1 := cmpf .olt main_v16 main_cst_10
  let main_v18 : FVec F S6x32x124 .f32 := Host.absf main_arg6
  let main_cst_11 : FVec F S_ .f32 := constant S_ .f32 0xFF800000#32
  let main_v19 : FVec F S_ .f32 := (fun x v => Host.reduce FloatOps.maximumf x v reducesTo_S6x32x124_S_d0_1_2 h_S_) main_v18 main_cst_11
  let main_cst_12 : FVec F S_ .f32 := constant S_ .f32 0x7F800000#32
  let main_v20 : IVec S_ 1 := cmpf .olt main_v19 main_cst_12
  let main_v21 : FVec F S6x124 .f32 := Host.absf main_arg7
  let main_cst_13 : FVec F S_ .f32 := constant S_ .f32 0xFF800000#32
  let main_v22 : FVec F S_ .f32 := (fun x v => Host.reduce FloatOps.maximumf x v reducesTo_S6x124_S_d0_1 h_S_) main_v21 main_cst_13
  let main_cst_14 : FVec F S_ .f32 := constant S_ .f32 0x7F800000#32
  let main_v23 : IVec S_ 1 := cmpf .olt main_v22 main_cst_14
  let main_v24 : FVec F S131072x8 .f32 := Host.absf main_arg0
  let main_cst_15 : FVec F S_ .f32 := constant S_ .f32 0xFF800000#32
  let main_v25 : FVec F S_ .f32 := (fun x v => Host.reduce FloatOps.maximumf x v reducesTo_S131072x8_S_d0_1 h_S_) main_v24 main_cst_15
  let main_v26 : FVec F S131072x4 .f32 := Host.absf main_arg1
  let main_cst_16 : FVec F S_ .f32 := constant S_ .f32 0xFF800000#32
  let main_v27 : FVec F S_ .f32 := (fun x v => Host.reduce FloatOps.maximumf x v reducesTo_S131072x4_S_d0_1 h_S_) main_v26 main_cst_16
  let main_v28 : FVec F S_ .f32 := maximumf main_v25 main_v27
  let main_cst_17 : FVec F S_ .f32 := constant S_ .f32 0x3F800000#32
  fn_part2 (F := F) main_arg2 main_arg3 main_arg4 main_arg5 main_arg6 main_arg7 main_v2 main_v5 main_v8 main_v11 main_v14 main_v17 main_v20 main_v23 main_v28 main_cst_17

def fn {F : FTy → Type} [FloatOps F] (main_arg0 : FVec F S131072x8 .f32) (main_arg1 : FVec F S131072x4 .f32) (main_arg2 : FVec F S6x8x32 .f32) (main_arg3 : FVec F S6x32 .f32) (main_arg4 : FVec F S6x32x32 .f32) (main_arg5 : FVec F S6x32 .f32) (main_arg6 : FVec F S6x32x124 .f32) (main_arg7 : FVec F S6x124 .f32) : IVec S6x4x20 1 :=
  let main_v0 : FVec F S131072x8 .f32 := Host.absf main_arg0
  let main_cst : FVec F S_ .f32 := constant S_ .f32 0xFF800000#32
  let main_v1 : FVec F S_ .f32 := (fun x v => Host.reduce FloatOps.maximumf x v reducesTo_S131072x8_S_d0_1 h_S_) main_v0 main_cst
  let main_cst_0 : FVec F S_ .f32 := constant S_ .f32 0x7F800000#32
  let main_v2 : IVec S_ 1 := cmpf .olt main_v1 main_cst_0
  let main_v3 : FVec F S131072x4 .f32 := Host.absf main_arg1
  let main_cst_1 : FVec F S_ .f32 := constant S_ .f32 0xFF800000#32
  let main_v4 : FVec F S_ .f32 := (fun x v => Host.reduce FloatOps.maximumf x v reducesTo_S131072x4_S_d0_1 h_S_) main_v3 main_cst_1
  let main_cst_2 : FVec F S_ .f32 := constant S_ .f32 0x7F800000#32
  let main_v5 : IVec S_ 1 := cmpf .olt main_v4 main_cst_2
  let main_v6 : FVec F S6x8x32 .f32 := Host.absf main_arg2
  let main_cst_3 : FVec F S_ .f32 := constant S_ .f32 0xFF800000#32
  let main_v7 : FVec F S_ .f32 := (fun x v => Host.reduce FloatOps.maximumf x v reducesTo_S6x8x32_S_d0_1_2 h_S_) main_v6 main_cst_3
  let main_cst_4 : FVec F S_ .f32 := constant S_ .f32 0x7F800000#32
  let main_v8 : IVec S_ 1 := cmpf .olt main_v7 main_cst_4
  let main_v9 : FVec F S6x32 .f32 := Host.absf main_arg3
  let main_cst_5 : FVec F S_ .f32 := constant S_ .f32 0xFF800000#32
  let main_v10 : FVec F S_ .f32 := (fun x v => Host.reduce FloatOps.maximumf x v reducesTo_S6x32_S_d0_1 h_S_) main_v9 main_cst_5
  let main_cst_6 : FVec F S_ .f32 := constant S_ .f32 0x7F800000#32
  let main_v11 : IVec S_ 1 := cmpf .olt main_v10 main_cst_6
  let main_v12 : FVec F S6x32x32 .f32 := Host.absf main_arg4
  let main_cst_7 : FVec F S_ .f32 := constant S_ .f32 0xFF800000#32
  let main_v13 : FVec F S_ .f32 := (fun x v => Host.reduce FloatOps.maximumf x v reducesTo_S6x32x32_S_d0_1_2 h_S_) main_v12 main_cst_7
  let main_cst_8 : FVec F S_ .f32 := constant S_ .f32 0x7F800000#32
  fn_part1 (F := F) main_arg0 main_arg1 main_arg2 main_arg3 main_arg4 main_arg5 main_arg6 main_arg7 main_v2 main_v5 main_v8 main_v11 main_v13 main_cst_8
-- ==== Kernel.lean ====
abbrev S131072x8 : Shape := ⟨2, ![131072, 8]⟩
abbrev S131072x4 : Shape := ⟨2, ![131072, 4]⟩
abbrev S6x8x32 : Shape := ⟨3, ![6, 8, 32]⟩
abbrev S6x32 : Shape := ⟨2, ![6, 32]⟩
abbrev S6x32x32 : Shape := ⟨3, ![6, 32, 32]⟩
abbrev S6x32x124 : Shape := ⟨3, ![6, 32, 124]⟩
abbrev S6x124 : Shape := ⟨2, ![6, 124]⟩
abbrev S124 : Shape := ⟨1, ![124]⟩
abbrev S8x131072 : Shape := ⟨2, ![8, 131072]⟩
abbrev S4x131072 : Shape := ⟨2, ![4, 131072]⟩
abbrev S6x32x8 : Shape := ⟨3, ![6, 32, 8]⟩
abbrev S6x124x32 : Shape := ⟨3, ![6, 124, 32]⟩
abbrev S_ : Shape := ⟨0, ![]⟩
abbrev S124x1 : Shape := ⟨2, ![124, 1]⟩
abbrev S6x32x1 : Shape := ⟨3, ![6, 32, 1]⟩
abbrev S6x124x1 : Shape := ⟨3, ![6, 124, 1]⟩
abbrev S1x131072 : Shape := ⟨2, ![1, 131072]⟩
abbrev S8x4096 : Shape := ⟨2, ![8, 4096]⟩
abbrev S4x4096 : Shape := ⟨2, ![4, 4096]⟩
abbrev S1x4096 : Shape := ⟨2, ![1, 4096]⟩
abbrev S8x128 : Shape := ⟨2, ![8, 128]⟩
abbrev S40x4096 : Shape := ⟨2, ![40, 4096]⟩
abbrev S36x4096 : Shape := ⟨2, ![36, 4096]⟩
abbrev S36x40 : Shape := ⟨2, ![36, 40]⟩
abbrev S1x32x8 : Shape := ⟨3, ![1, 32, 8]⟩
abbrev S32x8 : Shape := ⟨2, ![32, 8]⟩
abbrev S32x4096 : Shape := ⟨2, ![32, 4096]⟩
abbrev S1x32x1 : Shape := ⟨3, ![1, 32, 1]⟩
abbrev S32x1 : Shape := ⟨2, ![32, 1]⟩
abbrev S1x32x32 : Shape := ⟨3, ![1, 32, 32]⟩
abbrev S32x32 : Shape := ⟨2, ![32, 32]⟩
abbrev S1x124x32 : Shape := ⟨3, ![1, 124, 32]⟩
abbrev S124x32 : Shape := ⟨2, ![124, 32]⟩
abbrev S124x4096 : Shape := ⟨2, ![124, 4096]⟩
abbrev S1x124x1 : Shape := ⟨3, ![1, 124, 1]⟩
abbrev S44x4096 : Shape := ⟨2, ![44, 4096]⟩
abbrev S4096 : Shape := ⟨1, ![4096]⟩

abbrev nBuf : Space → Nat
  | .hbm => 45
  | .vmem => 18
  | .smem => 0
  | _ => 0

abbrev bufTy : (tb : Table) → Fin (tcTables nBuf tb) → BufTy
  | .hbm, ⟨0, _⟩ => ⟨S131072x8, .f32⟩
  | .hbm, ⟨1, _⟩ => ⟨S131072x4, .f32⟩
  | .hbm, ⟨2, _⟩ => ⟨S6x8x32, .f32⟩
  | .hbm, ⟨3, _⟩ => ⟨S6x32, .f32⟩
  | .hbm, ⟨4, _⟩ => ⟨S6x32x32, .f32⟩
  | .hbm, ⟨5, _⟩ => ⟨S6x32, .f32⟩
  | .hbm, ⟨6, _⟩ => ⟨S6x32x124, .f32⟩
  | .hbm, ⟨7, _⟩ => ⟨S6x124, .f32⟩
  | .hbm, ⟨8, _⟩ => ⟨S124, .i32⟩
  | .hbm, ⟨9, _⟩ => ⟨S124, .i1⟩
  | .hbm, ⟨10, _⟩ => ⟨S124, .i1⟩
  | .hbm, ⟨11, _⟩ => ⟨S8x131072, .f32⟩
  | .hbm, ⟨12, _⟩ => ⟨S4x131072, .f32⟩
  | .hbm, ⟨13, _⟩ => ⟨S6x32x8, .f32⟩
  | .hbm, ⟨14, _⟩ => ⟨S6x32x32, .f32⟩
  | .hbm, ⟨15, _⟩ => ⟨S6x124x32, .f32⟩
  | .hbm, ⟨16, _⟩ => ⟨S_, .i32⟩
  | .hbm, ⟨17, _⟩ => ⟨S124, .i32⟩
  | .hbm, ⟨18, _⟩ => ⟨S124, .i32⟩
  | .hbm, ⟨19, _⟩ => ⟨S124, .i32⟩
  | .hbm, ⟨20, _⟩ => ⟨S124x1, .i32⟩
  | .hbm, ⟨21, _⟩ => ⟨S6x124x32, .f32⟩
  | .hbm, ⟨22, _⟩ => ⟨S6x32x8, .bf16⟩
  | .hbm, ⟨23, _⟩ => ⟨S6x32x8, .f32⟩
  | .hbm, ⟨24, _⟩ => ⟨S6x32x8, .f32⟩
  | .hbm, ⟨25, _⟩ => ⟨S6x32x8, .bf16⟩
  | .hbm, ⟨26, _⟩ => ⟨S6x32x32, .bf16⟩
  | .hbm, ⟨27, _⟩ => ⟨S6x32x32, .f32⟩
  | .hbm, ⟨28, _⟩ => ⟨S6x32x32, .f32⟩
  | .hbm, ⟨29, _⟩ => ⟨S6x32x32, .bf16⟩
  | .hbm, ⟨30, _⟩ => ⟨S6x124x32, .bf16⟩
  | .hbm, ⟨31, _⟩ => ⟨S6x124x32, .f32⟩
  | .hbm, ⟨32, _⟩ => ⟨S6x124x32, .f32⟩
  | .hbm, ⟨33, _⟩ => ⟨S6x124x32, .bf16⟩
  | .hbm, ⟨34, _⟩ => ⟨S6x32x1, .f32⟩
  | .hbm, ⟨35, _⟩ => ⟨S6x32x1, .f32⟩
  | .hbm, ⟨36, _⟩ => ⟨S_, .i32⟩
  | .hbm, ⟨37, _⟩ => ⟨S124, .i32⟩
  | .hbm, ⟨38, _⟩ => ⟨S124, .i32⟩
  | .hbm, ⟨39, _⟩ => ⟨S124, .i32⟩
  | .hbm, ⟨40, _⟩ => ⟨S124x1, .i32⟩
  | .hbm, ⟨41, _⟩ => ⟨S6x124, .f32⟩
  | .hbm, ⟨42, _⟩ => ⟨S6x124x1, .f32⟩
  | .hbm, ⟨43, _⟩ => ⟨S8x131072, .f32⟩
  | .hbm, ⟨44, _⟩ => ⟨S1x131072, .f32⟩
  | .local _ .vmem, ⟨0, _⟩ => ⟨S8x4096, .f32⟩
  | .local _ .vmem, ⟨1, _⟩ => ⟨S8x4096, .f32⟩
  | .local _ .vmem, ⟨2, _⟩ => ⟨S4x4096, .f32⟩
  | .local _ .vmem, ⟨3, _⟩ => ⟨S4x4096, .f32⟩
  | .local _ .vmem, ⟨4, _⟩ => ⟨S6x32x8, .bf16⟩
  | .local _ .vmem, ⟨5, _⟩ => ⟨S6x32x8, .bf16⟩
  | .local _ .vmem, ⟨6, _⟩ => ⟨S6x32x1, .f32⟩
  | .local _ .vmem, ⟨7, _⟩ => ⟨S6x32x32, .bf16⟩
  | .local _ .vmem, ⟨8, _⟩ => ⟨S6x32x32, .bf16⟩
  | .local _ .vmem, ⟨9, _⟩ => ⟨S6x32x1, .f32⟩
  | .local _ .vmem, ⟨10, _⟩ => ⟨S6x124x32, .bf16⟩
  | .local _ .vmem, ⟨11, _⟩ => ⟨S6x124x32, .bf16⟩
  | .local _ .vmem, ⟨12, _⟩ => ⟨S6x124x1, .f32⟩
  | .local _ .vmem, ⟨13, _⟩ => ⟨S8x4096, .f32⟩
  | .local _ .vmem, ⟨14, _⟩ => ⟨S8x4096, .f32⟩
  | .local _ .vmem, ⟨15, _⟩ => ⟨S1x4096, .f32⟩
  | .local _ .vmem, ⟨16, _⟩ => ⟨S1x4096, .f32⟩
  | .local _ .vmem, ⟨17, _⟩ => ⟨S8x128, .f32⟩
  | _, _ => ⟨S131072x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x32x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x32x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x32x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x124x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x124x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x124x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "inv_deriv" => some ((16777216 / 11645857 : ℝ) : EReal)
  | _ => none
-- ==== ReferenceIdeal.lean ====
abbrev S131072x8 : Shape := ⟨2, ![131072, 8]⟩
abbrev S131072x4 : Shape := ⟨2, ![131072, 4]⟩
abbrev S6x8x32 : Shape := ⟨3, ![6, 8, 32]⟩
abbrev S6x32 : Shape := ⟨2, ![6, 32]⟩
abbrev S6x32x32 : Shape := ⟨3, ![6, 32, 32]⟩
abbrev S6x32x124 : Shape := ⟨3, ![6, 32, 124]⟩
abbrev S6x124 : Shape := ⟨2, ![6, 124]⟩
abbrev S6x8 : Shape := ⟨2, ![6, 8]⟩
abbrev S6x4 : Shape := ⟨2, ![6, 4]⟩
abbrev S_ : Shape := ⟨0, ![]⟩
abbrev S131072 : Shape := ⟨1, ![131072]⟩
abbrev S1x8 : Shape := ⟨2, ![1, 8]⟩
abbrev S8 : Shape := ⟨1, ![8]⟩
abbrev S1x4 : Shape := ⟨2, ![1, 4]⟩
abbrev S4 : Shape := ⟨1, ![4]⟩
abbrev S1x8x32 : Shape := ⟨3, ![1, 8, 32]⟩
abbrev S8x32 : Shape := ⟨2, ![8, 32]⟩
abbrev S1x32 : Shape := ⟨2, ![1, 32]⟩
abbrev S32 : Shape := ⟨1, ![32]⟩
abbrev S1x32x32 : Shape := ⟨3, ![1, 32, 32]⟩
abbrev S32x32 : Shape := ⟨2, ![32, 32]⟩
abbrev S1x32x124 : Shape := ⟨3, ![1, 32, 124]⟩
abbrev S32x124 : Shape := ⟨2, ![32, 124]⟩
abbrev S1x124 : Shape := ⟨2, ![1, 124]⟩
abbrev S124 : Shape := ⟨1, ![124]⟩
abbrev S4x1 : Shape := ⟨2, ![4, 1]⟩
abbrev S131072x32 : Shape := ⟨2, ![131072, 32]⟩
abbrev S131072x124 : Shape := ⟨2, ![131072, 124]⟩
abbrev S131072x4x31 : Shape := ⟨3, ![131072, 4, 31]⟩
abbrev S131072x4x10 : Shape := ⟨3, ![131072, 4, 10]⟩
abbrev S131072x4x11 : Shape := ⟨3, ![131072, 4, 11]⟩
abbrev S131072x4x1 : Shape := ⟨3, ![131072, 4, 1]⟩
abbrev S131072x4x9 : Shape := ⟨3, ![131072, 4, 9]⟩
abbrev S11 : Shape := ⟨1, ![11]⟩
abbrev S131072x4x1x1 : Shape := ⟨4, ![131072, 4, 1, 1]⟩
abbrev S131072x1 : Shape := ⟨2, ![131072, 1]⟩
abbrev S8x1 : Shape := ⟨2, ![8, 1]⟩
abbrev S8x131072 : Shape := ⟨2, ![8, 131072]⟩
abbrev S1x131072 : Shape := ⟨2, ![1, 131072]⟩

abbrev nBuf : Space → Nat
  | .hbm => 364
  | .vmem => 0
  | .smem => 0
  | _ => 0

abbrev hbmTy0_0 (i : Nat) : BufTy := match i % 128 with
  | 0 => ⟨S131072x8, .f32⟩
  | 1 => ⟨S131072x4, .f32⟩
  | 2 => ⟨S6x8x32, .f32⟩
  | 3 => ⟨S6x32, .f32⟩
  | 4 => ⟨S6x32x32, .f32⟩
  | 5 => ⟨S6x32, .f32⟩
  | 6 => ⟨S6x32x124, .f32⟩
  | 7 => ⟨S6x124, .f32⟩
  | 8 => ⟨S6x8, .i1⟩
  | 9 => ⟨S6x4, .i32⟩
  | 10 => ⟨S6x4, .i32⟩
  | 11 => ⟨S6x8, .i32⟩
  | 12 => ⟨S_, .f32⟩
  | 13 => ⟨S131072, .f32⟩
  | 14 => ⟨S_, .i32⟩
  | 15 => ⟨S6x8, .i1⟩
  | 16 => ⟨S6x4, .i32⟩
  | 17 => ⟨S6x4, .i32⟩
  | 18 => ⟨S6x8, .i32⟩
  | 19 => ⟨S6x8x32, .f32⟩
  | 20 => ⟨S6x32, .f32⟩
  | 21 => ⟨S6x32x32, .f32⟩
  | 22 => ⟨S6x32, .f32⟩
  | 23 => ⟨S6x32x124, .f32⟩
  | 24 => ⟨S6x124, .f32⟩
  | 25 => ⟨S131072x4, .f32⟩
  | 26 => ⟨S_, .i32⟩
  | 27 => ⟨S131072x8, .f32⟩
  | 28 => ⟨S131072, .f32⟩
  | 29 => ⟨S_, .i32⟩
  | 30 => ⟨S_, .i1⟩
  | 31 => ⟨S_, .i32⟩
  | 32 => ⟨S1x8, .i1⟩
  | 33 => ⟨S8, .i1⟩
  | 34 => ⟨S_, .i32⟩
  | 35 => ⟨S1x4, .i32⟩
  | 36 => ⟨S4, .i32⟩
  | 37 => ⟨S_, .i32⟩
  | 38 => ⟨S1x4, .i32⟩
  | 39 => ⟨S4, .i32⟩
  | 40 => ⟨S_, .i32⟩
  | 41 => ⟨S1x8, .i32⟩
  | 42 => ⟨S8, .i32⟩
  | 43 => ⟨S_, .i32⟩
  | 44 => ⟨S_, .i32⟩
  | 45 => ⟨S1x8x32, .f32⟩
  | 46 => ⟨S8x32, .f32⟩
  | 47 => ⟨S_, .i32⟩
  | 48 => ⟨S1x32, .f32⟩
  | 49 => ⟨S32, .f32⟩
  | 50 => ⟨S_, .i32⟩
  | 51 => ⟨S_, .i32⟩
  | 52 => ⟨S1x32x32, .f32⟩
  | 53 => ⟨S32x32, .f32⟩
  | 54 => ⟨S_, .i32⟩
  | 55 => ⟨S1x32, .f32⟩
  | 56 => ⟨S32, .f32⟩
  | 57 => ⟨S_, .i32⟩
  | 58 => ⟨S_, .i32⟩
  | 59 => ⟨S1x32x124, .f32⟩
  | 60 => ⟨S32x124, .f32⟩
  | 61 => ⟨S_, .i32⟩
  | 62 => ⟨S1x124, .f32⟩
  | 63 => ⟨S124, .f32⟩
  | 64 => ⟨S4x1, .i32⟩
  | 65 => ⟨S131072x4, .f32⟩
  | 66 => ⟨S4x1, .i32⟩
  | 67 => ⟨S131072x4, .f32⟩
  | 68 => ⟨S131072x8, .f32⟩
  | 69 => ⟨S131072x32, .f32⟩
  | 70 => ⟨S1x32, .f32⟩
  | 71 => ⟨S131072x32, .f32⟩
  | 72 => ⟨S131072x32, .f32⟩
  | 73 => ⟨S_, .f32⟩
  | 74 => ⟨S_, .f32⟩
  | 75 => ⟨S131072x32, .f32⟩
  | 76 => ⟨S131072x32, .i1⟩
  | 77 => ⟨S_, .f32⟩
  | 78 => ⟨S131072x32, .f32⟩
  | 79 => ⟨S131072x32, .f32⟩
  | 80 => ⟨S131072x32, .f32⟩
  | 81 => ⟨S131072x32, .f32⟩
  | 82 => ⟨S1x32, .f32⟩
  | 83 => ⟨S131072x32, .f32⟩
  | 84 => ⟨S131072x32, .f32⟩
  | 85 => ⟨S_, .f32⟩
  | 86 => ⟨S_, .f32⟩
  | 87 => ⟨S131072x32, .f32⟩
  | 88 => ⟨S131072x32, .i1⟩
  | 89 => ⟨S_, .f32⟩
  | 90 => ⟨S131072x32, .f32⟩
  | 91 => ⟨S131072x32, .f32⟩
  | 92 => ⟨S131072x32, .f32⟩
  | 93 => ⟨S131072x124, .f32⟩
  | 94 => ⟨S1x124, .f32⟩
  | 95 => ⟨S131072x124, .f32⟩
  | 96 => ⟨S131072x124, .f32⟩
  | 97 => ⟨S131072x4x31, .f32⟩
  | 98 => ⟨S131072x4x10, .f32⟩
  | 99 => ⟨S131072x4x10, .f32⟩
  | 100 => ⟨S131072x4x11, .f32⟩
  | 101 => ⟨S_, .f32⟩
  | 102 => ⟨S131072x4, .f32⟩
  | 103 => ⟨S131072x4, .i1⟩
  | 104 => ⟨S_, .f32⟩
  | 105 => ⟨S131072x4, .f32⟩
  | 106 => ⟨S131072x4, .i1⟩
  | 107 => ⟨S131072x4, .i1⟩
  | 108 => ⟨S_, .i1⟩
  | 109 => ⟨S131072, .i1⟩
  | 110 => ⟨S_, .f32⟩
  | 111 => ⟨S_, .f32⟩
  | 112 => ⟨S_, .f32⟩
  | 113 => ⟨S131072x4, .f32⟩
  | 114 => ⟨S131072x4, .f32⟩
  | 115 => ⟨S_, .f32⟩
  | 116 => ⟨S131072x4, .f32⟩
  | 117 => ⟨S131072x4, .f32⟩
  | 118 => ⟨S_, .f32⟩
  | 119 => ⟨S131072x4, .f32⟩
  | 120 => ⟨S_, .f32⟩
  | 121 => ⟨S131072x4, .f32⟩
  | 122 => ⟨S131072x4, .f32⟩
  | 123 => ⟨S131072x4x1, .f32⟩
  | 124 => ⟨S131072x4x10, .f32⟩
  | 125 => ⟨S131072x4x10, .f32⟩
  | 126 => ⟨S131072x4x10, .f32⟩
  | 127 => ⟨S_, .f32⟩
  | _ => ⟨S131072x8, .f32⟩

abbrev hbmTy0_1 (i : Nat) : BufTy := match i % 128 with
  | 0 => ⟨S131072x4, .f32⟩
  | 1 => ⟨S131072x4x1, .f32⟩
  | 2 => ⟨S131072x4x10, .f32⟩
  | 3 => ⟨S131072x4x10, .f32⟩
  | 4 => ⟨S_, .f32⟩
  | 5 => ⟨S131072x4x10, .f32⟩
  | 6 => ⟨S131072x4x10, .f32⟩
  | 7 => ⟨S_, .f32⟩
  | 8 => ⟨S131072x4x10, .f32⟩
  | 9 => ⟨S131072x4x10, .f32⟩
  | 10 => ⟨S_, .f32⟩
  | 11 => ⟨S_, .f32⟩
  | 12 => ⟨S131072x4x10, .f32⟩
  | 13 => ⟨S131072x4x9, .f32⟩
  | 14 => ⟨S_, .f32⟩
  | 15 => ⟨S131072x4x1, .f32⟩
  | 16 => ⟨S_, .f32⟩
  | 17 => ⟨S131072x4x1, .f32⟩
  | 18 => ⟨S131072x4x1, .f32⟩
  | 19 => ⟨S131072x4x11, .f32⟩
  | 20 => ⟨S131072x4x10, .f32⟩
  | 21 => ⟨S131072x4x10, .f32⟩
  | 22 => ⟨S131072x4x10, .f32⟩
  | 23 => ⟨S_, .f32⟩
  | 24 => ⟨S131072x4x11, .f32⟩
  | 25 => ⟨S131072x4x11, .f32⟩
  | 26 => ⟨S131072x4x11, .f32⟩
  | 27 => ⟨S131072x4x11, .f32⟩
  | 28 => ⟨S131072x4x11, .i1⟩
  | 29 => ⟨S131072x4x11, .f32⟩
  | 30 => ⟨S131072x4x11, .f32⟩
  | 31 => ⟨S131072x4x11, .f32⟩
  | 32 => ⟨S131072x4x11, .f32⟩
  | 33 => ⟨S131072x4x11, .f32⟩
  | 34 => ⟨S131072x4x11, .f32⟩
  | 35 => ⟨S131072x4x11, .f32⟩
  | 36 => ⟨S131072x4x11, .f32⟩
  | 37 => ⟨S_, .f32⟩
  | 38 => ⟨S131072x4x11, .f32⟩
  | 39 => ⟨S131072x4x11, .f32⟩
  | 40 => ⟨S_, .f32⟩
  | 41 => ⟨S131072x4x11, .f32⟩
  | 42 => ⟨S131072x4x11, .f32⟩
  | 43 => ⟨S_, .f32⟩
  | 44 => ⟨S131072x4, .f32⟩
  | 45 => ⟨S_, .f32⟩
  | 46 => ⟨S131072x4, .f32⟩
  | 47 => ⟨S131072x4, .f32⟩
  | 48 => ⟨S131072x4x1, .f32⟩
  | 49 => ⟨S131072x4x10, .f32⟩
  | 50 => ⟨S131072x4x10, .f32⟩
  | 51 => ⟨S131072x4x10, .f32⟩
  | 52 => ⟨S_, .f32⟩
  | 53 => ⟨S131072x4, .f32⟩
  | 54 => ⟨S131072x4x1, .f32⟩
  | 55 => ⟨S131072x4x10, .f32⟩
  | 56 => ⟨S131072x4x10, .f32⟩
  | 57 => ⟨S_, .f32⟩
  | 58 => ⟨S131072x4x10, .f32⟩
  | 59 => ⟨S131072x4x10, .f32⟩
  | 60 => ⟨S_, .f32⟩
  | 61 => ⟨S131072x4x10, .f32⟩
  | 62 => ⟨S131072x4x10, .f32⟩
  | 63 => ⟨S_, .f32⟩
  | 64 => ⟨S_, .f32⟩
  | 65 => ⟨S131072x4x10, .f32⟩
  | 66 => ⟨S131072x4x9, .f32⟩
  | 67 => ⟨S_, .f32⟩
  | 68 => ⟨S131072x4x1, .f32⟩
  | 69 => ⟨S_, .f32⟩
  | 70 => ⟨S131072x4x1, .f32⟩
  | 71 => ⟨S131072x4x1, .f32⟩
  | 72 => ⟨S131072x4x11, .f32⟩
  | 73 => ⟨S131072x4x10, .f32⟩
  | 74 => ⟨S131072x4x10, .f32⟩
  | 75 => ⟨S131072x4x10, .f32⟩
  | 76 => ⟨S11, .i32⟩
  | 77 => ⟨S_, .i32⟩
  | 78 => ⟨S11, .i32⟩
  | 79 => ⟨S11, .i1⟩
  | 80 => ⟨S_, .f32⟩
  | 81 => ⟨S131072x4x11, .f32⟩
  | 82 => ⟨S131072x4x11, .f32⟩
  | 83 => ⟨S131072x4x11, .i1⟩
  | 84 => ⟨S131072x4x11, .f32⟩
  | 85 => ⟨S131072x4x1, .f32⟩
  | 86 => ⟨S131072x4x11, .f32⟩
  | 87 => ⟨S131072x4x11, .i1⟩
  | 88 => ⟨S131072x4x11, .i32⟩
  | 89 => ⟨S_, .i32⟩
  | 90 => ⟨S131072x4, .i32⟩
  | 91 => ⟨S_, .i32⟩
  | 92 => ⟨S131072x4, .i32⟩
  | 93 => ⟨S131072x4, .i32⟩
  | 94 => ⟨S_, .i32⟩
  | 95 => ⟨S_, .i32⟩
  | 96 => ⟨S_, .i32⟩
  | 97 => ⟨S131072x4, .i32⟩
  | 98 => ⟨S131072x4, .i32⟩
  | 99 => ⟨S_, .i32⟩
  | 100 => ⟨S131072x4, .i32⟩
  | 101 => ⟨S131072x4, .i32⟩
  | 102 => ⟨S131072x4x1, .i32⟩
  | 103 => ⟨S_, .i32⟩
  | 104 => ⟨S131072x4x1, .i32⟩
  | 105 => ⟨S131072x4x1, .i1⟩
  | 106 => ⟨S_, .i32⟩
  | 107 => ⟨S131072x4x1, .i32⟩
  | 108 => ⟨S131072x4x1, .i32⟩
  | 109 => ⟨S131072x4x1, .i32⟩
  | 110 => ⟨S131072x4x1x1, .i32⟩
  | 111 => ⟨S131072x4x1, .f32⟩
  | 112 => ⟨S131072x4, .f32⟩
  | 113 => ⟨S_, .i32⟩
  | 114 => ⟨S131072x4x1, .i32⟩
  | 115 => ⟨S131072x4x1, .i1⟩
  | 116 => ⟨S_, .i32⟩
  | 117 => ⟨S131072x4x1, .i32⟩
  | 118 => ⟨S131072x4x1, .i32⟩
  | 119 => ⟨S131072x4x1, .i32⟩
  | 120 => ⟨S131072x4x1x1, .i32⟩
  | 121 => ⟨S131072x4x1, .f32⟩
  | 122 => ⟨S131072x4, .f32⟩
  | 123 => ⟨S_, .i32⟩
  | 124 => ⟨S131072x4x1, .i32⟩
  | 125 => ⟨S131072x4x1, .i1⟩
  | 126 => ⟨S_, .i32⟩
  | 127 => ⟨S131072x4x1, .i32⟩
  | _ => ⟨S131072x8, .f32⟩

abbrev hbmTy0_2 (i : Nat) : BufTy := match i % 128 with
  | 0 => ⟨S131072x4x1, .i32⟩
  | 1 => ⟨S131072x4x1, .i32⟩
  | 2 => ⟨S131072x4x1x1, .i32⟩
  | 3 => ⟨S131072x4x1, .f32⟩
  | 4 => ⟨S131072x4, .f32⟩
  | 5 => ⟨S131072x4x10, .f32⟩
  | 6 => ⟨S_, .i32⟩
  | 7 => ⟨S131072x4x1, .i32⟩
  | 8 => ⟨S131072x4x1, .i1⟩
  | 9 => ⟨S_, .i32⟩
  | 10 => ⟨S131072x4x1, .i32⟩
  | 11 => ⟨S131072x4x1, .i32⟩
  | 12 => ⟨S131072x4x1, .i32⟩
  | 13 => ⟨S131072x4x1x1, .i32⟩
  | 14 => ⟨S131072x4x1, .f32⟩
  | 15 => ⟨S131072x4, .f32⟩
  | 16 => ⟨S_, .i32⟩
  | 17 => ⟨S131072x4x1, .i32⟩
  | 18 => ⟨S131072x4x1, .i1⟩
  | 19 => ⟨S_, .i32⟩
  | 20 => ⟨S131072x4x1, .i32⟩
  | 21 => ⟨S131072x4x1, .i32⟩
  | 22 => ⟨S131072x4x1, .i32⟩
  | 23 => ⟨S131072x4x1x1, .i32⟩
  | 24 => ⟨S131072x4x1, .f32⟩
  | 25 => ⟨S131072x4, .f32⟩
  | 26 => ⟨S131072x4x10, .f32⟩
  | 27 => ⟨S_, .i32⟩
  | 28 => ⟨S131072x4x1, .i32⟩
  | 29 => ⟨S131072x4x1, .i1⟩
  | 30 => ⟨S_, .i32⟩
  | 31 => ⟨S131072x4x1, .i32⟩
  | 32 => ⟨S131072x4x1, .i32⟩
  | 33 => ⟨S131072x4x1, .i32⟩
  | 34 => ⟨S131072x4x1x1, .i32⟩
  | 35 => ⟨S131072x4x1, .f32⟩
  | 36 => ⟨S131072x4, .f32⟩
  | 37 => ⟨S_, .i32⟩
  | 38 => ⟨S131072x4x1, .i32⟩
  | 39 => ⟨S131072x4x1, .i1⟩
  | 40 => ⟨S_, .i32⟩
  | 41 => ⟨S131072x4x1, .i32⟩
  | 42 => ⟨S131072x4x1, .i32⟩
  | 43 => ⟨S131072x4x1, .i32⟩
  | 44 => ⟨S131072x4x1x1, .i32⟩
  | 45 => ⟨S131072x4x1, .f32⟩
  | 46 => ⟨S131072x4, .f32⟩
  | 47 => ⟨S131072x4, .f32⟩
  | 48 => ⟨S131072x4, .f32⟩
  | 49 => ⟨S_, .f32⟩
  | 50 => ⟨S131072x4, .f32⟩
  | 51 => ⟨S131072x4, .f32⟩
  | 52 => ⟨S131072x4, .f32⟩
  | 53 => ⟨S131072x4, .f32⟩
  | 54 => ⟨S131072x4, .f32⟩
  | 55 => ⟨S131072x4, .f32⟩
  | 56 => ⟨S131072x4, .f32⟩
  | 57 => ⟨S131072x4, .f32⟩
  | 58 => ⟨S131072x4, .f32⟩
  | 59 => ⟨S_, .f32⟩
  | 60 => ⟨S131072x4, .f32⟩
  | 61 => ⟨S131072x4, .f32⟩
  | 62 => ⟨S131072x4, .f32⟩
  | 63 => ⟨S131072x4, .f32⟩
  | 64 => ⟨S131072x4, .f32⟩
  | 65 => ⟨S131072x4, .f32⟩
  | 66 => ⟨S131072x4, .f32⟩
  | 67 => ⟨S131072x4, .f32⟩
  | 68 => ⟨S131072x4, .f32⟩
  | 69 => ⟨S131072x4, .f32⟩
  | 70 => ⟨S_, .f32⟩
  | 71 => ⟨S131072x4, .f32⟩
  | 72 => ⟨S131072x4, .f32⟩
  | 73 => ⟨S131072x4, .f32⟩
  | 74 => ⟨S131072x4, .f32⟩
  | 75 => ⟨S_, .f32⟩
  | 76 => ⟨S131072x4, .f32⟩
  | 77 => ⟨S131072x4, .f32⟩
  | 78 => ⟨S131072x4, .f32⟩
  | 79 => ⟨S131072x4, .f32⟩
  | 80 => ⟨S131072x4, .f32⟩
  | 81 => ⟨S131072x4, .f32⟩
  | 82 => ⟨S131072x4, .f32⟩
  | 83 => ⟨S131072x4, .f32⟩
  | 84 => ⟨S_, .f32⟩
  | 85 => ⟨S131072x4, .f32⟩
  | 86 => ⟨S131072x4, .f32⟩
  | 87 => ⟨S131072x4, .f32⟩
  | 88 => ⟨S131072x1, .i1⟩
  | 89 => ⟨S131072x4, .i1⟩
  | 90 => ⟨S131072x4, .f32⟩
  | 91 => ⟨S131072x1, .i1⟩
  | 92 => ⟨S_, .f32⟩
  | 93 => ⟨S_, .f32⟩
  | 94 => ⟨S131072x4, .i1⟩
  | 95 => ⟨S131072x4, .f32⟩
  | 96 => ⟨S131072x4, .f32⟩
  | 97 => ⟨S_, .f32⟩
  | 98 => ⟨S131072, .f32⟩
  | 99 => ⟨S131072, .f32⟩
  | 100 => ⟨S8x1, .i32⟩
  | 101 => ⟨S131072x8, .f32⟩
  | 102 => ⟨S131072x8, .i1⟩
  | 103 => ⟨S131072x8, .f32⟩
  | 104 => ⟨S_, .i32⟩
  | 105 => ⟨S_, .i32⟩
  | 106 => ⟨S8x131072, .f32⟩
  | 107 => ⟨S1x131072, .f32⟩
  | _ => ⟨S131072x8, .f32⟩

abbrev hbmTy (i : Nat) : BufTy := match i / 128 with
  | 0 => hbmTy0_0 i
  | 1 => hbmTy0_1 i
  | 2 => hbmTy0_2 i
  | _ => ⟨S131072x8, .f32⟩

abbrev bufTy : (tb : Table) → Fin (tcTables nBuf tb) → BufTy
  | .hbm, ⟨i, _⟩ => hbmTy i
  | _, _ => ⟨S131072x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_cst : Ref sig .tc := ⟨.hbm, 12, rfl⟩
abbrev main_v0 : Ref sig .tc := ⟨.hbm, 13, rfl⟩
abbrev main_c_3 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_v1_3 : Ref sig .tc := ⟨.hbm, 18, rfl⟩
abbrev main_v1_4 : Ref sig .tc := ⟨.hbm, 19, rfl⟩
abbrev main_v1_5 : Ref sig .tc := ⟨.hbm, 20, rfl⟩
abbrev main_v1_6 : Ref sig .tc := ⟨.hbm, 21, rfl⟩
abbrev main_v1_7 : Ref sig .tc := ⟨.hbm, 22, rfl⟩
abbrev main_v1_8 : Ref sig .tc := ⟨.hbm, 23, rfl⟩
abbrev main_v1_9 : Ref sig .tc := ⟨.hbm, 24, rfl⟩
abbrev main_v1_10 : Ref sig .tc := ⟨.hbm, 25, rfl⟩
abbrev main_v1_11 : Ref sig .tc := ⟨.hbm, 26, rfl⟩
abbrev main_v1_12 : Ref sig .tc := ⟨.hbm, 27, rfl⟩
abbrev main_v1_13 : Ref sig .tc := ⟨.hbm, 28, rfl⟩
abbrev main_while0c_c_17 : Ref sig .tc := ⟨.hbm, 29, rfl⟩
abbrev main_while0c_v4 : Ref sig .tc := ⟨.hbm, 30, rfl⟩
abbrev main_while0b_call0_c : Ref sig .tc := ⟨.hbm, 31, rfl⟩
abbrev main_while0b_call0_v0 : Ref sig .tc := ⟨.hbm, 32, rfl⟩
abbrev main_while0b_v4 : Ref sig .tc := ⟨.hbm, 33, rfl⟩
abbrev main_while0b_call1_c : Ref sig .tc := ⟨.hbm, 34, rfl⟩
abbrev main_while0b_call1_v0 : Ref sig .tc := ⟨.hbm, 35, rfl⟩
abbrev main_while0b_v5 : Ref sig .tc := ⟨.hbm, 36, rfl⟩
abbrev main_while0b_call2_c : Ref sig .tc := ⟨.hbm, 37, rfl⟩
abbrev main_while0b_call2_v0 : Ref sig .tc := ⟨.hbm, 38, rfl⟩
abbrev main_while0b_v6 : Ref sig .tc := ⟨.hbm, 39, rfl⟩
abbrev main_while0b_call3_c : Ref sig .tc := ⟨.hbm, 40, rfl⟩
abbrev main_while0b_call3_v0 : Ref sig .tc := ⟨.hbm, 41, rfl⟩
abbrev main_while0b_v7 : Ref sig .tc := ⟨.hbm, 42, rfl⟩
abbrev main_while0b_call4_c : Ref sig .tc := ⟨.hbm, 43, rfl⟩
abbrev main_while0b_call4_c_0 : Ref sig .tc := ⟨.hbm, 44, rfl⟩
abbrev main_while0b_call4_v0 : Ref sig .tc := ⟨.hbm, 45, rfl⟩
abbrev main_while0b_v8 : Ref sig .tc := ⟨.hbm, 46, rfl⟩
abbrev main_while0b_call5_c : Ref sig .tc := ⟨.hbm, 47, rfl⟩
abbrev main_while0b_call5_v0 : Ref sig .tc := ⟨.hbm, 48, rfl⟩
abbrev main_while0b_v9 : Ref sig .tc := ⟨.hbm, 49, rfl⟩
abbrev main_while0b_call6_c : Ref sig .tc := ⟨.hbm, 50, rfl⟩
abbrev main_while0b_call6_c_0 : Ref sig .tc := ⟨.hbm, 51, rfl⟩
abbrev main_while0b_call6_v0 : Ref sig .tc := ⟨.hbm, 52, rfl⟩
abbrev main_while0b_v10 : Ref sig .tc := ⟨.hbm, 53, rfl⟩
abbrev main_while0b_call7_c : Ref sig .tc := ⟨.hbm, 54, rfl⟩
abbrev main_while0b_call7_v0 : Ref sig .tc := ⟨.hbm, 55, rfl⟩
abbrev main_while0b_v11 : Ref sig .tc := ⟨.hbm, 56, rfl⟩
abbrev main_while0b_call8_c : Ref sig .tc := ⟨.hbm, 57, rfl⟩
abbrev main_while0b_call8_c_0 : Ref sig .tc := ⟨.hbm, 58, rfl⟩
abbrev main_while0b_call8_v0 : Ref sig .tc := ⟨.hbm, 59, rfl⟩
abbrev main_while0b_v12 : Ref sig .tc := ⟨.hbm, 60, rfl⟩
abbrev main_while0b_call9_c : Ref sig .tc := ⟨.hbm, 61, rfl⟩
abbrev main_while0b_call9_v0 : Ref sig .tc := ⟨.hbm, 62, rfl⟩
abbrev main_while0b_v13 : Ref sig .tc := ⟨.hbm, 63, rfl⟩
abbrev main_while0b_v14 : Ref sig .tc := ⟨.hbm, 64, rfl⟩
abbrev main_while0b_v15 : Ref sig .tc := ⟨.hbm, 65, rfl⟩
abbrev main_while0b_v16 : Ref sig .tc := ⟨.hbm, 66, rfl⟩
abbrev main_while0b_v17 : Ref sig .tc := ⟨.hbm, 67, rfl⟩
abbrev main_while0b_v18 : Ref sig .tc := ⟨.hbm, 68, rfl⟩
abbrev main_while0b_v19 : Ref sig .tc := ⟨.hbm, 69, rfl⟩
abbrev main_while0b_v20 : Ref sig .tc := ⟨.hbm, 70, rfl⟩
abbrev main_while0b_v21 : Ref sig .tc := ⟨.hbm, 71, rfl⟩
abbrev main_while0b_v22 : Ref sig .tc := ⟨.hbm, 72, rfl⟩
abbrev main_while0b_cst_17 : Ref sig .tc := ⟨.hbm, 73, rfl⟩
abbrev main_while0b_call10_cst : Ref sig .tc := ⟨.hbm, 74, rfl⟩
abbrev main_while0b_call10_v0 : Ref sig .tc := ⟨.hbm, 75, rfl⟩
abbrev main_while0b_call10_v1 : Ref sig .tc := ⟨.hbm, 76, rfl⟩
abbrev main_while0b_call10_v2 : Ref sig .tc := ⟨.hbm, 77, rfl⟩
abbrev main_while0b_call10_v3 : Ref sig .tc := ⟨.hbm, 78, rfl⟩
abbrev main_while0b_call10_v4 : Ref sig .tc := ⟨.hbm, 79, rfl⟩
abbrev main_while0b_v23 : Ref sig .tc := ⟨.hbm, 80, rfl⟩
abbrev main_while0b_v24 : Ref sig .tc := ⟨.hbm, 81, rfl⟩
abbrev main_while0b_v25 : Ref sig .tc := ⟨.hbm, 82, rfl⟩
abbrev main_while0b_v26 : Ref sig .tc := ⟨.hbm, 83, rfl⟩
abbrev main_while0b_v27 : Ref sig .tc := ⟨.hbm, 84, rfl⟩
abbrev main_while0b_cst_18 : Ref sig .tc := ⟨.hbm, 85, rfl⟩
abbrev main_while0b_call11_cst : Ref sig .tc := ⟨.hbm, 86, rfl⟩
abbrev main_while0b_call11_v0 : Ref sig .tc := ⟨.hbm, 87, rfl⟩
abbrev main_while0b_call11_v1 : Ref sig .tc := ⟨.hbm, 88, rfl⟩
abbrev main_while0b_call11_v2 : Ref sig .tc := ⟨.hbm, 89, rfl⟩
abbrev main_while0b_call11_v3 : Ref sig .tc := ⟨.hbm, 90, rfl⟩
abbrev main_while0b_call11_v4 : Ref sig .tc := ⟨.hbm, 91, rfl⟩
abbrev main_while0b_v28 : Ref sig .tc := ⟨.hbm, 92, rfl⟩
abbrev main_while0b_v29 : Ref sig .tc := ⟨.hbm, 93, rfl⟩
abbrev main_while0b_v30 : Ref sig .tc := ⟨.hbm, 94, rfl⟩
abbrev main_while0b_v31 : Ref sig .tc := ⟨.hbm, 95, rfl⟩
abbrev main_while0b_v32 : Ref sig .tc := ⟨.hbm, 96, rfl⟩
abbrev main_while0b_v33 : Ref sig .tc := ⟨.hbm, 97, rfl⟩
abbrev main_while0b_v34 : Ref sig .tc := ⟨.hbm, 98, rfl⟩
abbrev main_while0b_v35 : Ref sig .tc := ⟨.hbm, 99, rfl⟩
abbrev main_while0b_v36 : Ref sig .tc := ⟨.hbm, 100, rfl⟩
abbrev main_while0b_cst_19 : Ref sig .tc := ⟨.hbm, 101, rfl⟩
abbrev main_while0b_v37 : Ref sig .tc := ⟨.hbm, 102, rfl⟩
abbrev main_while0b_v38 : Ref sig .tc := ⟨.hbm, 103, rfl⟩
abbrev main_while0b_cst_20 : Ref sig .tc := ⟨.hbm, 104, rfl⟩
abbrev main_while0b_v39 : Ref sig .tc := ⟨.hbm, 105, rfl⟩
abbrev main_while0b_v40 : Ref sig .tc := ⟨.hbm, 106, rfl⟩
abbrev main_while0b_v41 : Ref sig .tc := ⟨.hbm, 107, rfl⟩
abbrev main_while0b_c_21 : Ref sig .tc := ⟨.hbm, 108, rfl⟩
abbrev main_while0b_v42 : Ref sig .tc := ⟨.hbm, 109, rfl⟩
abbrev main_while0b_cst_22 : Ref sig .tc := ⟨.hbm, 110, rfl⟩
abbrev main_while0b_cst_23 : Ref sig .tc := ⟨.hbm, 111, rfl⟩
abbrev main_while0b_call12_v0 : Ref sig .tc := ⟨.hbm, 112, rfl⟩
abbrev main_while0b_call12_v1 : Ref sig .tc := ⟨.hbm, 113, rfl⟩
abbrev main_while0b_call12_v2 : Ref sig .tc := ⟨.hbm, 114, rfl⟩
abbrev main_while0b_call12_v3 : Ref sig .tc := ⟨.hbm, 115, rfl⟩
abbrev main_while0b_call12_v4 : Ref sig .tc := ⟨.hbm, 116, rfl⟩
abbrev main_while0b_v43 : Ref sig .tc := ⟨.hbm, 117, rfl⟩
abbrev main_while0b_cst_24 : Ref sig .tc := ⟨.hbm, 118, rfl⟩
abbrev main_while0b_v44 : Ref sig .tc := ⟨.hbm, 119, rfl⟩
abbrev main_while0b_cst_25 : Ref sig .tc := ⟨.hbm, 120, rfl⟩
abbrev main_while0b_v45 : Ref sig .tc := ⟨.hbm, 121, rfl⟩
abbrev main_while0b_v46 : Ref sig .tc := ⟨.hbm, 122, rfl⟩
abbrev main_while0b_v47 : Ref sig .tc := ⟨.hbm, 123, rfl⟩
abbrev main_while0b_v48 : Ref sig .tc := ⟨.hbm, 124, rfl⟩
abbrev main_while0b_v49 : Ref sig .tc := ⟨.hbm, 125, rfl⟩
abbrev main_while0b_v50 : Ref sig .tc := ⟨.hbm, 126, rfl⟩
abbrev main_while0b_cst_26 : Ref sig .tc := ⟨.hbm, 127, rfl⟩
abbrev main_while0b_v51 : Ref sig .tc := ⟨.hbm, 128, rfl⟩
abbrev main_while0b_v52 : Ref sig .tc := ⟨.hbm, 129, rfl⟩
abbrev main_while0b_v53 : Ref sig .tc := ⟨.hbm, 130, rfl⟩
abbrev main_while0b_v54 : Ref sig .tc := ⟨.hbm, 131, rfl⟩
abbrev main_while0b_cst_27 : Ref sig .tc := ⟨.hbm, 132, rfl⟩
abbrev main_while0b_v55 : Ref sig .tc := ⟨.hbm, 133, rfl⟩
abbrev main_while0b_v56 : Ref sig .tc := ⟨.hbm, 134, rfl⟩
abbrev main_while0b_cst_28 : Ref sig .tc := ⟨.hbm, 135, rfl⟩
abbrev main_while0b_v57 : Ref sig .tc := ⟨.hbm, 136, rfl⟩
abbrev main_while0b_v58 : Ref sig .tc := ⟨.hbm, 137, rfl⟩
abbrev main_while0b_call13_call0_cst : Ref sig .tc := ⟨.hbm, 138, rfl⟩
abbrev main_while0b_call13_call0_v0 : Ref sig .tc := ⟨.hbm, 139, rfl⟩
abbrev main_while0b_v59 : Ref sig .tc := ⟨.hbm, 140, rfl⟩
abbrev main_while0b_v60 : Ref sig .tc := ⟨.hbm, 141, rfl⟩
abbrev main_while0b_cst_29 : Ref sig .tc := ⟨.hbm, 142, rfl⟩
abbrev main_while0b_v61 : Ref sig .tc := ⟨.hbm, 143, rfl⟩
abbrev main_while0b_cst_30 : Ref sig .tc := ⟨.hbm, 144, rfl⟩
abbrev main_while0b_v62 : Ref sig .tc := ⟨.hbm, 145, rfl⟩
abbrev main_while0b_v63 : Ref sig .tc := ⟨.hbm, 146, rfl⟩
abbrev main_while0b_v64 : Ref sig .tc := ⟨.hbm, 147, rfl⟩
abbrev main_while0b_v65 : Ref sig .tc := ⟨.hbm, 148, rfl⟩
abbrev main_while0b_v66 : Ref sig .tc := ⟨.hbm, 149, rfl⟩
abbrev main_while0b_v67 : Ref sig .tc := ⟨.hbm, 150, rfl⟩
abbrev main_while0b_call14_cst : Ref sig .tc := ⟨.hbm, 151, rfl⟩
abbrev main_while0b_call14_v0 : Ref sig .tc := ⟨.hbm, 152, rfl⟩
abbrev main_while0b_call14_v1 : Ref sig .tc := ⟨.hbm, 153, rfl⟩
abbrev main_while0b_call14_v2 : Ref sig .tc := ⟨.hbm, 154, rfl⟩
abbrev main_while0b_call14_v3 : Ref sig .tc := ⟨.hbm, 155, rfl⟩
abbrev main_while0b_call14_v4 : Ref sig .tc := ⟨.hbm, 156, rfl⟩
abbrev main_while0b_call14_v5 : Ref sig .tc := ⟨.hbm, 157, rfl⟩
abbrev main_while0b_call14_v6 : Ref sig .tc := ⟨.hbm, 158, rfl⟩
abbrev main_while0b_call14_v7 : Ref sig .tc := ⟨.hbm, 159, rfl⟩
abbrev main_while0b_call14_v8 : Ref sig .tc := ⟨.hbm, 160, rfl⟩
abbrev main_while0b_call14_v9 : Ref sig .tc := ⟨.hbm, 161, rfl⟩
abbrev main_while0b_call14_v10 : Ref sig .tc := ⟨.hbm, 162, rfl⟩
abbrev main_while0b_call14_v11 : Ref sig .tc := ⟨.hbm, 163, rfl⟩
abbrev main_while0b_v68 : Ref sig .tc := ⟨.hbm, 164, rfl⟩
abbrev main_while0b_cst_31 : Ref sig .tc := ⟨.hbm, 165, rfl⟩
abbrev main_while0b_v69 : Ref sig .tc := ⟨.hbm, 166, rfl⟩
abbrev main_while0b_v70 : Ref sig .tc := ⟨.hbm, 167, rfl⟩
abbrev main_while0b_cst_32 : Ref sig .tc := ⟨.hbm, 168, rfl⟩
abbrev main_while0b_v71 : Ref sig .tc := ⟨.hbm, 169, rfl⟩
abbrev main_while0b_v72 : Ref sig .tc := ⟨.hbm, 170, rfl⟩
abbrev main_while0b_cst_33 : Ref sig .tc := ⟨.hbm, 171, rfl⟩
abbrev main_while0b_v73 : Ref sig .tc := ⟨.hbm, 172, rfl⟩
abbrev main_while0b_cst_34 : Ref sig .tc := ⟨.hbm, 173, rfl⟩
abbrev main_while0b_v74 : Ref sig .tc := ⟨.hbm, 174, rfl⟩
abbrev main_while0b_v75 : Ref sig .tc := ⟨.hbm, 175, rfl⟩
abbrev main_while0b_v76 : Ref sig .tc := ⟨.hbm, 176, rfl⟩
abbrev main_while0b_v77 : Ref sig .tc := ⟨.hbm, 177, rfl⟩
abbrev main_while0b_v78 : Ref sig .tc := ⟨.hbm, 178, rfl⟩
abbrev main_while0b_v79 : Ref sig .tc := ⟨.hbm, 179, rfl⟩
abbrev main_while0b_cst_35 : Ref sig .tc := ⟨.hbm, 180, rfl⟩
abbrev main_while0b_v80 : Ref sig .tc := ⟨.hbm, 181, rfl⟩
abbrev main_while0b_v81 : Ref sig .tc := ⟨.hbm, 182, rfl⟩
abbrev main_while0b_v82 : Ref sig .tc := ⟨.hbm, 183, rfl⟩
abbrev main_while0b_v83 : Ref sig .tc := ⟨.hbm, 184, rfl⟩
abbrev main_while0b_cst_36 : Ref sig .tc := ⟨.hbm, 185, rfl⟩
abbrev main_while0b_v84 : Ref sig .tc := ⟨.hbm, 186, rfl⟩
abbrev main_while0b_v85 : Ref sig .tc := ⟨.hbm, 187, rfl⟩
abbrev main_while0b_cst_37 : Ref sig .tc := ⟨.hbm, 188, rfl⟩
abbrev main_while0b_v86 : Ref sig .tc := ⟨.hbm, 189, rfl⟩
abbrev main_while0b_v87 : Ref sig .tc := ⟨.hbm, 190, rfl⟩
abbrev main_while0b_call15_call0_cst : Ref sig .tc := ⟨.hbm, 191, rfl⟩
abbrev main_while0b_call15_call0_v0 : Ref sig .tc := ⟨.hbm, 192, rfl⟩
abbrev main_while0b_v88 : Ref sig .tc := ⟨.hbm, 193, rfl⟩
abbrev main_while0b_v89 : Ref sig .tc := ⟨.hbm, 194, rfl⟩
abbrev main_while0b_cst_38 : Ref sig .tc := ⟨.hbm, 195, rfl⟩
abbrev main_while0b_v90 : Ref sig .tc := ⟨.hbm, 196, rfl⟩
abbrev main_while0b_cst_39 : Ref sig .tc := ⟨.hbm, 197, rfl⟩
abbrev main_while0b_v91 : Ref sig .tc := ⟨.hbm, 198, rfl⟩
abbrev main_while0b_v92 : Ref sig .tc := ⟨.hbm, 199, rfl⟩
abbrev main_while0b_v93 : Ref sig .tc := ⟨.hbm, 200, rfl⟩
abbrev main_while0b_v94 : Ref sig .tc := ⟨.hbm, 201, rfl⟩
abbrev main_while0b_v95 : Ref sig .tc := ⟨.hbm, 202, rfl⟩
abbrev main_while0b_v96 : Ref sig .tc := ⟨.hbm, 203, rfl⟩
abbrev main_while0b_v97 : Ref sig .tc := ⟨.hbm, 204, rfl⟩
abbrev main_while0b_c_40 : Ref sig .tc := ⟨.hbm, 205, rfl⟩
abbrev main_while0b_v98 : Ref sig .tc := ⟨.hbm, 206, rfl⟩
abbrev main_while0b_v99 : Ref sig .tc := ⟨.hbm, 207, rfl⟩
abbrev main_while0b_cst_41 : Ref sig .tc := ⟨.hbm, 208, rfl⟩
abbrev main_while0b_v100 : Ref sig .tc := ⟨.hbm, 209, rfl⟩
abbrev main_while0b_v101 : Ref sig .tc := ⟨.hbm, 210, rfl⟩
abbrev main_while0b_call16_v0 : Ref sig .tc := ⟨.hbm, 211, rfl⟩
abbrev main_while0b_v102 : Ref sig .tc := ⟨.hbm, 212, rfl⟩
abbrev main_while0b_v103 : Ref sig .tc := ⟨.hbm, 213, rfl⟩
abbrev main_while0b_v104 : Ref sig .tc := ⟨.hbm, 214, rfl⟩
abbrev main_while0b_v105 : Ref sig .tc := ⟨.hbm, 215, rfl⟩
abbrev main_while0b_v106 : Ref sig .tc := ⟨.hbm, 216, rfl⟩
abbrev main_while0b_c_42 : Ref sig .tc := ⟨.hbm, 217, rfl⟩
abbrev main_while0b_v107 : Ref sig .tc := ⟨.hbm, 218, rfl⟩
abbrev main_while0b_c_43 : Ref sig .tc := ⟨.hbm, 219, rfl⟩
abbrev main_while0b_v108 : Ref sig .tc := ⟨.hbm, 220, rfl⟩
abbrev main_while0b_v109 : Ref sig .tc := ⟨.hbm, 221, rfl⟩
abbrev main_while0b_c_44 : Ref sig .tc := ⟨.hbm, 222, rfl⟩
abbrev main_while0b_c_45 : Ref sig .tc := ⟨.hbm, 223, rfl⟩
abbrev main_while0b_call17_v0 : Ref sig .tc := ⟨.hbm, 224, rfl⟩
abbrev main_while0b_call17_v1 : Ref sig .tc := ⟨.hbm, 225, rfl⟩
abbrev main_while0b_call17_v2 : Ref sig .tc := ⟨.hbm, 226, rfl⟩
abbrev main_while0b_call17_v3 : Ref sig .tc := ⟨.hbm, 227, rfl⟩
abbrev main_while0b_call17_v4 : Ref sig .tc := ⟨.hbm, 228, rfl⟩
abbrev main_while0b_v110 : Ref sig .tc := ⟨.hbm, 229, rfl⟩
abbrev main_while0b_v111 : Ref sig .tc := ⟨.hbm, 230, rfl⟩
abbrev main_while0b_call18_c : Ref sig .tc := ⟨.hbm, 231, rfl⟩
abbrev main_while0b_call18_v0 : Ref sig .tc := ⟨.hbm, 232, rfl⟩
abbrev main_while0b_call18_v1 : Ref sig .tc := ⟨.hbm, 233, rfl⟩
abbrev main_while0b_call18_c_0 : Ref sig .tc := ⟨.hbm, 234, rfl⟩
abbrev main_while0b_call18_v2 : Ref sig .tc := ⟨.hbm, 235, rfl⟩
abbrev main_while0b_call18_v3 : Ref sig .tc := ⟨.hbm, 236, rfl⟩
abbrev main_while0b_call18_v4 : Ref sig .tc := ⟨.hbm, 237, rfl⟩
abbrev main_while0b_call18_v5 : Ref sig .tc := ⟨.hbm, 238, rfl⟩
abbrev main_while0b_v112 : Ref sig .tc := ⟨.hbm, 239, rfl⟩
abbrev main_while0b_v113 : Ref sig .tc := ⟨.hbm, 240, rfl⟩
abbrev main_while0b_call19_c : Ref sig .tc := ⟨.hbm, 241, rfl⟩
abbrev main_while0b_call19_v0 : Ref sig .tc := ⟨.hbm, 242, rfl⟩
abbrev main_while0b_call19_v1 : Ref sig .tc := ⟨.hbm, 243, rfl⟩
abbrev main_while0b_call19_c_0 : Ref sig .tc := ⟨.hbm, 244, rfl⟩
abbrev main_while0b_call19_v2 : Ref sig .tc := ⟨.hbm, 245, rfl⟩
abbrev main_while0b_call19_v3 : Ref sig .tc := ⟨.hbm, 246, rfl⟩
abbrev main_while0b_call19_v4 : Ref sig .tc := ⟨.hbm, 247, rfl⟩
abbrev main_while0b_call19_v5 : Ref sig .tc := ⟨.hbm, 248, rfl⟩
abbrev main_while0b_v114 : Ref sig .tc := ⟨.hbm, 249, rfl⟩
abbrev main_while0b_v115 : Ref sig .tc := ⟨.hbm, 250, rfl⟩
abbrev main_while0b_call20_c : Ref sig .tc := ⟨.hbm, 251, rfl⟩
abbrev main_while0b_call20_v0 : Ref sig .tc := ⟨.hbm, 252, rfl⟩
abbrev main_while0b_call20_v1 : Ref sig .tc := ⟨.hbm, 253, rfl⟩
abbrev main_while0b_call20_c_0 : Ref sig .tc := ⟨.hbm, 254, rfl⟩
abbrev main_while0b_call20_v2 : Ref sig .tc := ⟨.hbm, 255, rfl⟩
abbrev main_while0b_call20_v3 : Ref sig .tc := ⟨.hbm, 256, rfl⟩
abbrev main_while0b_call20_v4 : Ref sig .tc := ⟨.hbm, 257, rfl⟩
abbrev main_while0b_call20_v5 : Ref sig .tc := ⟨.hbm, 258, rfl⟩
abbrev main_while0b_v116 : Ref sig .tc := ⟨.hbm, 259, rfl⟩
abbrev main_while0b_v117 : Ref sig .tc := ⟨.hbm, 260, rfl⟩
abbrev main_while0b_v118 : Ref sig .tc := ⟨.hbm, 261, rfl⟩
abbrev main_while0b_call21_c : Ref sig .tc := ⟨.hbm, 262, rfl⟩
abbrev main_while0b_call21_v0 : Ref sig .tc := ⟨.hbm, 263, rfl⟩
abbrev main_while0b_call21_v1 : Ref sig .tc := ⟨.hbm, 264, rfl⟩
abbrev main_while0b_call21_c_0 : Ref sig .tc := ⟨.hbm, 265, rfl⟩
abbrev main_while0b_call21_v2 : Ref sig .tc := ⟨.hbm, 266, rfl⟩
abbrev main_while0b_call21_v3 : Ref sig .tc := ⟨.hbm, 267, rfl⟩
abbrev main_while0b_call21_v4 : Ref sig .tc := ⟨.hbm, 268, rfl⟩
abbrev main_while0b_call21_v5 : Ref sig .tc := ⟨.hbm, 269, rfl⟩
abbrev main_while0b_v119 : Ref sig .tc := ⟨.hbm, 270, rfl⟩
abbrev main_while0b_v120 : Ref sig .tc := ⟨.hbm, 271, rfl⟩
abbrev main_while0b_call22_c : Ref sig .tc := ⟨.hbm, 272, rfl⟩
abbrev main_while0b_call22_v0 : Ref sig .tc := ⟨.hbm, 273, rfl⟩
abbrev main_while0b_call22_v1 : Ref sig .tc := ⟨.hbm, 274, rfl⟩
abbrev main_while0b_call22_c_0 : Ref sig .tc := ⟨.hbm, 275, rfl⟩
abbrev main_while0b_call22_v2 : Ref sig .tc := ⟨.hbm, 276, rfl⟩
abbrev main_while0b_call22_v3 : Ref sig .tc := ⟨.hbm, 277, rfl⟩
abbrev main_while0b_call22_v4 : Ref sig .tc := ⟨.hbm, 278, rfl⟩
abbrev main_while0b_call22_v5 : Ref sig .tc := ⟨.hbm, 279, rfl⟩
abbrev main_while0b_v121 : Ref sig .tc := ⟨.hbm, 280, rfl⟩
abbrev main_while0b_v122 : Ref sig .tc := ⟨.hbm, 281, rfl⟩
abbrev main_while0b_v123 : Ref sig .tc := ⟨.hbm, 282, rfl⟩
abbrev main_while0b_call23_c : Ref sig .tc := ⟨.hbm, 283, rfl⟩
abbrev main_while0b_call23_v0 : Ref sig .tc := ⟨.hbm, 284, rfl⟩
abbrev main_while0b_call23_v1 : Ref sig .tc := ⟨.hbm, 285, rfl⟩
abbrev main_while0b_call23_c_0 : Ref sig .tc := ⟨.hbm, 286, rfl⟩
abbrev main_while0b_call23_v2 : Ref sig .tc := ⟨.hbm, 287, rfl⟩
abbrev main_while0b_call23_v3 : Ref sig .tc := ⟨.hbm, 288, rfl⟩
abbrev main_while0b_call23_v4 : Ref sig .tc := ⟨.hbm, 289, rfl⟩
abbrev main_while0b_call23_v5 : Ref sig .tc := ⟨.hbm, 290, rfl⟩
abbrev main_while0b_v124 : Ref sig .tc := ⟨.hbm, 291, rfl⟩
abbrev main_while0b_v125 : Ref sig .tc := ⟨.hbm, 292, rfl⟩
abbrev main_while0b_call24_c : Ref sig .tc := ⟨.hbm, 293, rfl⟩
abbrev main_while0b_call24_v0 : Ref sig .tc := ⟨.hbm, 294, rfl⟩
abbrev main_while0b_call24_v1 : Ref sig .tc := ⟨.hbm, 295, rfl⟩
abbrev main_while0b_call24_c_0 : Ref sig .tc := ⟨.hbm, 296, rfl⟩
abbrev main_while0b_call24_v2 : Ref sig .tc := ⟨.hbm, 297, rfl⟩
abbrev main_while0b_call24_v3 : Ref sig .tc := ⟨.hbm, 298, rfl⟩
abbrev main_while0b_call24_v4 : Ref sig .tc := ⟨.hbm, 299, rfl⟩
abbrev main_while0b_call24_v5 : Ref sig .tc := ⟨.hbm, 300, rfl⟩
abbrev main_while0b_v126 : Ref sig .tc := ⟨.hbm, 301, rfl⟩
abbrev main_while0b_v127 : Ref sig .tc := ⟨.hbm, 302, rfl⟩
abbrev main_while0b_v128 : Ref sig .tc := ⟨.hbm, 303, rfl⟩
abbrev main_while0b_v129 : Ref sig .tc := ⟨.hbm, 304, rfl⟩
abbrev main_while0b_cst_46 : Ref sig .tc := ⟨.hbm, 305, rfl⟩
abbrev main_while0b_v130 : Ref sig .tc := ⟨.hbm, 306, rfl⟩
abbrev main_while0b_v131 : Ref sig .tc := ⟨.hbm, 307, rfl⟩
abbrev main_while0b_v132 : Ref sig .tc := ⟨.hbm, 308, rfl⟩
abbrev main_while0b_v133 : Ref sig .tc := ⟨.hbm, 309, rfl⟩
abbrev main_while0b_v134 : Ref sig .tc := ⟨.hbm, 310, rfl⟩
abbrev main_while0b_v135 : Ref sig .tc := ⟨.hbm, 311, rfl⟩
abbrev main_while0b_v136 : Ref sig .tc := ⟨.hbm, 312, rfl⟩
abbrev main_while0b_v137 : Ref sig .tc := ⟨.hbm, 313, rfl⟩
abbrev main_while0b_v138 : Ref sig .tc := ⟨.hbm, 314, rfl⟩
abbrev main_while0b_cst_47 : Ref sig .tc := ⟨.hbm, 315, rfl⟩
abbrev main_while0b_v139 : Ref sig .tc := ⟨.hbm, 316, rfl⟩
abbrev main_while0b_v140 : Ref sig .tc := ⟨.hbm, 317, rfl⟩
abbrev main_while0b_v141 : Ref sig .tc := ⟨.hbm, 318, rfl⟩
abbrev main_while0b_v142 : Ref sig .tc := ⟨.hbm, 319, rfl⟩
abbrev main_while0b_v143 : Ref sig .tc := ⟨.hbm, 320, rfl⟩
abbrev main_while0b_v144 : Ref sig .tc := ⟨.hbm, 321, rfl⟩
abbrev main_while0b_v145 : Ref sig .tc := ⟨.hbm, 322, rfl⟩
abbrev main_while0b_v146 : Ref sig .tc := ⟨.hbm, 323, rfl⟩
abbrev main_while0b_v147 : Ref sig .tc := ⟨.hbm, 324, rfl⟩
abbrev main_while0b_v148 : Ref sig .tc := ⟨.hbm, 325, rfl⟩
abbrev main_while0b_cst_48 : Ref sig .tc := ⟨.hbm, 326, rfl⟩
abbrev main_while0b_v149 : Ref sig .tc := ⟨.hbm, 327, rfl⟩
abbrev main_while0b_v150 : Ref sig .tc := ⟨.hbm, 328, rfl⟩
abbrev main_while0b_v151 : Ref sig .tc := ⟨.hbm, 329, rfl⟩
abbrev main_while0b_v152 : Ref sig .tc := ⟨.hbm, 330, rfl⟩
abbrev main_while0b_cst_49 : Ref sig .tc := ⟨.hbm, 331, rfl⟩
abbrev main_while0b_v153 : Ref sig .tc := ⟨.hbm, 332, rfl⟩
abbrev main_while0b_v154 : Ref sig .tc := ⟨.hbm, 333, rfl⟩
abbrev main_while0b_v155 : Ref sig .tc := ⟨.hbm, 334, rfl⟩
abbrev main_while0b_v156 : Ref sig .tc := ⟨.hbm, 335, rfl⟩
abbrev main_while0b_v157 : Ref sig .tc := ⟨.hbm, 336, rfl⟩
abbrev main_while0b_v158 : Ref sig .tc := ⟨.hbm, 337, rfl⟩
abbrev main_while0b_v159 : Ref sig .tc := ⟨.hbm, 338, rfl⟩
abbrev main_while0b_v160 : Ref sig .tc := ⟨.hbm, 339, rfl⟩
abbrev main_while0b_cst_50 : Ref sig .tc := ⟨.hbm, 340, rfl⟩
abbrev main_while0b_v161 : Ref sig .tc := ⟨.hbm, 341, rfl⟩
abbrev main_while0b_v162 : Ref sig .tc := ⟨.hbm, 342, rfl⟩
abbrev main_while0b_v163 : Ref sig .tc := ⟨.hbm, 343, rfl⟩
abbrev main_while0b_v164 : Ref sig .tc := ⟨.hbm, 344, rfl⟩
abbrev main_while0b_call25_v0 : Ref sig .tc := ⟨.hbm, 345, rfl⟩
abbrev main_while0b_v165 : Ref sig .tc := ⟨.hbm, 346, rfl⟩
abbrev main_while0b_v166 : Ref sig .tc := ⟨.hbm, 347, rfl⟩
abbrev main_while0b_cst_51 : Ref sig .tc := ⟨.hbm, 348, rfl⟩
abbrev main_while0b_call26_v0 : Ref sig .tc := ⟨.hbm, 349, rfl⟩
abbrev main_while0b_call26_v1 : Ref sig .tc := ⟨.hbm, 350, rfl⟩
abbrev main_while0b_call26_v2 : Ref sig .tc := ⟨.hbm, 351, rfl⟩
abbrev main_while0b_v167 : Ref sig .tc := ⟨.hbm, 352, rfl⟩
abbrev main_while0b_cst_52 : Ref sig .tc := ⟨.hbm, 353, rfl⟩
abbrev main_while0b_v168 : Ref sig .tc := ⟨.hbm, 354, rfl⟩
abbrev main_while0b_v169 : Ref sig .tc := ⟨.hbm, 355, rfl⟩
abbrev main_while0b_v170 : Ref sig .tc := ⟨.hbm, 356, rfl⟩
abbrev main_while0b_v171 : Ref sig .tc := ⟨.hbm, 357, rfl⟩
abbrev main_while0b_call27_v0 : Ref sig .tc := ⟨.hbm, 358, rfl⟩
abbrev main_while0b_v172 : Ref sig .tc := ⟨.hbm, 359, rfl⟩
abbrev main_while0b_c_53 : Ref sig .tc := ⟨.hbm, 360, rfl⟩
abbrev main_while0b_v173 : Ref sig .tc := ⟨.hbm, 361, rfl⟩
abbrev main_v2 : Ref sig .tc := ⟨.hbm, 362, rfl⟩
abbrev main_v3 : Ref sig .tc := ⟨.hbm, 363, rfl⟩

abbrev nD : Nat := 1
abbrev τ : Topo := Topo.v7x

variable {F : FTy → Type} [FloatOps F]

abbrev main_while0_count : Scf.Loop 32 := ⟨0#32, 6#32, 1#32⟩
-- ==== Proof.Stage.lean ====
module

public import proofs.«01_k».proof.Proof.Gen.KernelIdeal.Skeleton

@[expose] public section

noncomputable section

/-! The steps of one coupling block of the kernel, on whole tiles of 4096 samples, at any arithmetic.
    Rows `4 b + d` of the tall arrays hold bin (or knot) `b` of transformed coordinate `d`. -/

namespace Cert.KernelIdeal.Stage

open Idealize.ShloMosaic Idealize.SL.Sem Cert.KernelIdeal.Gen

variable {F : FTy → Type} [FloatOps F] [Named F]

/-! Rows of the coordinate tile, and rows of a four-row tile. -/

def row0 (x : FVec F S8x4096 .f32) : FVec F S1x4096 .f32 := extractStridedSlice S1x4096 ![0, 0] x slices_S8x4096_o0_0_S1x4096
def row1 (x : FVec F S8x4096 .f32) : FVec F S1x4096 .f32 := extractStridedSlice S1x4096 ![1, 0] x slices_S8x4096_o1_0_S1x4096
def row2 (x : FVec F S8x4096 .f32) : FVec F S1x4096 .f32 := extractStridedSlice S1x4096 ![2, 0] x slices_S8x4096_o2_0_S1x4096
def row3 (x : FVec F S8x4096 .f32) : FVec F S1x4096 .f32 := extractStridedSlice S1x4096 ![3, 0] x slices_S8x4096_o3_0_S1x4096
def row4 (x : FVec F S8x4096 .f32) : FVec F S1x4096 .f32 := extractStridedSlice S1x4096 ![4, 0] x slices_S8x4096_o4_0_S1x4096
def row5 (x : FVec F S8x4096 .f32) : FVec F S1x4096 .f32 := extractStridedSlice S1x4096 ![5, 0] x slices_S8x4096_o5_0_S1x4096
def row6 (x : FVec F S8x4096 .f32) : FVec F S1x4096 .f32 := extractStridedSlice S1x4096 ![6, 0] x slices_S8x4096_o6_0_S1x4096
def row7 (x : FVec F S8x4096 .f32) : FVec F S1x4096 .f32 := extractStridedSlice S1x4096 ![7, 0] x slices_S8x4096_o7_0_S1x4096
def four0 (x : FVec F S4x4096 .f32) : FVec F S1x4096 .f32 := extractStridedSlice S1x4096 ![0, 0] x slices_S4x4096_o0_0_S1x4096
def four1 (x : FVec F S4x4096 .f32) : FVec F S1x4096 .f32 := extractStridedSlice S1x4096 ![1, 0] x slices_S4x4096_o1_0_S1x4096
def four2 (x : FVec F S4x4096 .f32) : FVec F S1x4096 .f32 := extractStridedSlice S1x4096 ![2, 0] x slices_S4x4096_o2_0_S1x4096
def four3 (x : FVec F S4x4096 .f32) : FVec F S1x4096 .f32 := extractStridedSlice S1x4096 ![3, 0] x slices_S4x4096_o3_0_S1x4096

/-- The input of the network: the four conditioning coordinates over the context. -/
def netIn (p q r s : FVec F S1x4096 .f32) (c : FVec F S4x4096 .f32) : FVec F S8x4096 .f32 :=
  concatenate S8x4096 0 [⟨S1x4096, p⟩, ⟨S1x4096, q⟩, ⟨S1x4096, r⟩, ⟨S1x4096, s⟩, ⟨S4x4096, c⟩] concatenates_S1x4096_S1x4096_S1x4096_S1x4096_S4x4096_S8x4096_d0

/-- Four rows stacked. -/
def stack4 (p q r s : FVec F S1x4096 .f32) : FVec F S4x4096 .f32 :=
  concatenate S4x4096 0 [⟨S1x4096, p⟩, ⟨S1x4096, q⟩, ⟨S1x4096, r⟩, ⟨S1x4096, s⟩] concatenates_S1x4096_S1x4096_S1x4096_S1x4096_S4x4096_d0

/-- Eight rows stacked. -/
def stack8 (p q r s t u v w : FVec F S1x4096 .f32) : FVec F S8x4096 .f32 :=
  concatenate S8x4096 0 [⟨S1x4096, p⟩, ⟨S1x4096, q⟩, ⟨S1x4096, r⟩, ⟨S1x4096, s⟩, ⟨S1x4096, t⟩, ⟨S1x4096, u⟩, ⟨S1x4096, v⟩, ⟨S1x4096, w⟩] concatenates_S1x4096_S1x4096_S1x4096_S1x4096_S1x4096_S1x4096_S1x4096_S1x4096_S8x4096_d0

/-- The leading part of an array, and what it leaves over. -/
def hi {S : Shape} (a : FVec F S .f32) : FVec F S .bf16 := truncf .bf16 a bitsLt_bf16_f32
def lo {S : Shape} (a : FVec F S .f32) : FVec F S .bf16 := truncf .bf16 (subf a (extf .f32 (hi a) bitsLt_bf16_f32)) bitsLt_bf16_f32

/-- A value at every element. -/
def fill (S : Shape) (w : BitVec 32) : FVec F S .f32 := broadcast S (Scalar.ofBits .f32 w)

/-- The three dense layers, each product in three passes. -/
def layer1 (a : FVec F S8x4096 .f32) (wh wl : FVec F S32x8 .bf16) (b : FVec F S32x1 .f32) : FVec F S32x4096 .f32 :=
  addf (addf (addf (matmul dot_S32x8_S8x4096_S32x4096_1_0_0_1_n_n none wh (hi a) (constant S32x4096 .f32 0x00000000#32))
    (matmul dot_S32x8_S8x4096_S32x4096_1_0_0_1_n_n none wh (lo a) (constant S32x4096 .f32 0x00000000#32)))
    (matmul dot_S32x8_S8x4096_S32x4096_1_0_0_1_n_n none wl (hi a) (constant S32x4096 .f32 0x00000000#32)))
    (broadcastTo S32x4096 b broadcasts_S32x1_S32x4096)

def layer2 (a : FVec F S32x4096 .f32) (wh wl : FVec F S32x32 .bf16) (b : FVec F S32x1 .f32) : FVec F S32x4096 .f32 :=
  addf (addf (addf (matmul dot_S32x32_S32x4096_S32x4096_1_0_0_1_n_n none wh (hi a) (constant S32x4096 .f32 0x00000000#32))
    (matmul dot_S32x32_S32x4096_S32x4096_1_0_0_1_n_n none wh (lo a) (constant S32x4096 .f32 0x00000000#32)))
    (matmul dot_S32x32_S32x4096_S32x4096_1_0_0_1_n_n none wl (hi a) (constant S32x4096 .f32 0x00000000#32)))
    (broadcastTo S32x4096 b broadcasts_S32x1_S32x4096)

def layer3 (a : FVec F S32x4096 .f32) (wh wl : FVec F S124x32 .bf16) (b : FVec F S124x1 .f32) : FVec F S124x4096 .f32 :=
  addf (addf (addf (matmul dot_S124x32_S32x4096_S124x4096_1_0_0_1_n_n none wh (hi a) (constant S124x4096 .f32 0x00000000#32))
    (matmul dot_S124x32_S32x4096_S124x4096_1_0_0_1_n_n none wh (lo a) (constant S124x4096 .f32 0x00000000#32)))
    (matmul dot_S124x32_S32x4096_S124x4096_1_0_0_1_n_n none wl (hi a) (constant S124x4096 .f32 0x00000000#32)))
    (broadcastTo S124x4096 b broadcasts_S124x1_S124x4096)

/-- The leaky rectifier. -/
def leak (h : FVec F S32x4096 .f32) : FVec F S32x4096 .f32 :=
  select (cmpf .oge h (fill S32x4096 0x00000000#32)) h (mulf (fill S32x4096 0x3C23D70A#32) h)

/-- The exponentials of the width logits and of the height logits, held to [-60, 60]; the derivative logits. -/
def held (u : FVec F S40x4096 .f32) : FVec F S40x4096 .f32 :=
  exp (minimumf (fill S40x4096 0x42700000#32) (maximumf (fill S40x4096 0xC2700000#32) u))
def expW (so : FVec F S124x4096 .f32) : FVec F S40x4096 .f32 := held (extractStridedSlice S40x4096 ![0, 0] so slices_S124x4096_o0_0_S40x4096)
def expH (so : FVec F S124x4096 .f32) : FVec F S40x4096 .f32 := held (extractStridedSlice S40x4096 ![40, 0] so slices_S124x4096_o40_0_S40x4096)
def logD (so : FVec F S124x4096 .f32) : FVec F S44x4096 .f32 := extractStridedSlice S44x4096 ![80, 0] so slices_S124x4096_o80_0_S44x4096

/-- The sum over the ten bins. -/
def sum10h (a : FVec F S40x4096 .f32) : FVec F S8x4096 .f32 :=
  addf (addf (addf (addf (extractStridedSlice S8x4096 ![0, 0] a slices_S40x4096_o0_0_S8x4096)
    (extractStridedSlice S8x4096 ![8, 0] a slices_S40x4096_o8_0_S8x4096))
    (extractStridedSlice S8x4096 ![16, 0] a slices_S40x4096_o16_0_S8x4096))
    (extractStridedSlice S8x4096 ![24, 0] a slices_S40x4096_o24_0_S8x4096))
    (extractStridedSlice S8x4096 ![32, 0] a slices_S40x4096_o32_0_S8x4096)
def sum10 (a : FVec F S40x4096 .f32) : FVec F S4x4096 .f32 :=
  addf (extractStridedSlice S4x4096 ![0, 0] (sum10h a) slices_S8x4096_o0_0_S4x4096)
    (extractStridedSlice S4x4096 ![4, 0] (sum10h a) slices_S8x4096_o4_0_S4x4096)

/-- Four rows repeated nine times, and ten times. -/
def dup (a : FVec F S4x4096 .f32) : FVec F S8x4096 .f32 :=
  concatenate S8x4096 0 [⟨S4x4096, a⟩, ⟨S4x4096, a⟩] concatenates_S4x4096_S4x4096_S8x4096_d0
def rep9 (a : FVec F S4x4096 .f32) : FVec F S36x4096 .f32 :=
  concatenate S36x4096 0 [⟨S8x4096, dup a⟩, ⟨S8x4096, dup a⟩, ⟨S8x4096, dup a⟩, ⟨S8x4096, dup a⟩, ⟨S4x4096, a⟩] concatenates_S8x4096_S8x4096_S8x4096_S8x4096_S4x4096_S36x4096_d0
def rep10 (a : FVec F S4x4096 .f32) : FVec F S40x4096 .f32 :=
  concatenate S40x4096 0 [⟨S8x4096, dup a⟩, ⟨S8x4096, dup a⟩, ⟨S8x4096, dup a⟩, ⟨S8x4096, dup a⟩, ⟨S8x4096, dup a⟩] concatenates_S8x4096_S8x4096_S8x4096_S8x4096_S8x4096_S40x4096_d0

/-- The nine inner knots: `m` the triangular array of ones, `kv` the multiples of the least bin size. -/
def prefixSum (m : FVec F S36x40 .bf16) (e : FVec F S40x4096 .f32) : FVec F S36x4096 .f32 :=
  addf (matmul dot_S36x40_S40x4096_S36x4096_1_0_0_1_n_n none m (hi e) (constant S36x4096 .f32 0x00000000#32))
    (matmul dot_S36x40_S40x4096_S36x4096_1_0_0_1_n_n none m (lo e) (constant S36x4096 .f32 0x00000000#32))
def inner (kv : FVec F S36x4096 .f32) (m : FVec F S36x40 .bf16) (e : FVec F S40x4096 .f32) : FVec F S36x4096 .f32 :=
  addf kv (mulf (rep9 (divf (fill S4x4096 0x3F7D70A4#32) (sum10 e))) (prefixSum m e))

/-- All eleven knots. -/
def knots (k : FVec F S36x4096 .f32) : FVec F S44x4096 .f32 :=
  concatenate S44x4096 0 [⟨S4x4096, fill S4x4096 0x00000000#32⟩, ⟨S36x4096, k⟩, ⟨S4x4096, fill S4x4096 0x3F800000#32⟩] concatenates_S4x4096_S36x4096_S4x4096_S44x4096_d0

/-- The derivatives at the eleven knots. -/
def derivs (u : FVec F S44x4096 .f32) : FVec F S44x4096 .f32 :=
  mulf (addf (fill S44x4096 0x3A83126F#32)
    (addf (maximumf u (fill S44x4096 0x00000000#32)) (log1p (exp (subf (fill S44x4096 0x00000000#32) (absf u))))))
    (broadcast S44x4096 (Named.named κ "inv_deriv" 0x3FB86621#32))

/-- Which samples have all four transformed coordinates in the unit interval. -/
def inside (x : FVec F S4x4096 .f32) : IVec S1x4096 1 :=
  cmpf .ogt (shapeCast S1x4096 (multiReduction .minimumf [0] S4096 (sitofp (F := F) .f32 (extui 32
    (andi (cmpf .oge x (fill S4x4096 0x00000000#32)) (cmpf .ole x (fill S4x4096 0x3F800000#32))) natLt_1_32))
    0x7F800000#32 reduces_S4x4096_S4096 (.inl rfl) rfl) shapeCasts_S4096_S1x4096) (fill S1x4096 0x3F000000#32)
def spread (i : IVec S1x4096 1) : IVec S4x4096 1 :=
  broadcastTo S4x4096 (shapeCast S1x4096 i shapeCasts_S1x4096_S1x4096) broadcasts_S1x4096_S4x4096

/-- The coordinates held to the unit interval. -/
def unit (x : FVec F S4x4096 .f32) : FVec F S4x4096 .f32 :=
  minimumf (fill S4x4096 0x3F800000#32) (maximumf (fill S4x4096 0x00000000#32) x)

/-- One where the row's bin is the bin the coordinate lies in, zero elsewhere. -/
def atLeast (x : FVec F S4x4096 .f32) (k : FVec F S36x4096 .f32) : FVec F S36x4096 .f32 :=
  sitofp .f32 (extui 32 (cmpf .oge (rep9 x) k) natLt_1_32)
def count9h (g : FVec F S36x4096 .f32) : FVec F S8x4096 .f32 :=
  addf (addf (addf (extractStridedSlice S8x4096 ![0, 0] g slices_S36x4096_o0_0_S8x4096)
    (extractStridedSlice S8x4096 ![8, 0] g slices_S36x4096_o8_0_S8x4096))
    (extractStridedSlice S8x4096 ![16, 0] g slices_S36x4096_o16_0_S8x4096))
    (extractStridedSlice S8x4096 ![24, 0] g slices_S36x4096_o24_0_S8x4096)
def count9 (g : FVec F S36x4096 .f32) : FVec F S4x4096 .f32 :=
  addf (addf (extractStridedSlice S4x4096 ![0, 0] (count9h g) slices_S8x4096_o0_0_S4x4096)
    (extractStridedSlice S4x4096 ![4, 0] (count9h g) slices_S8x4096_o4_0_S4x4096))
    (extractStridedSlice S4x4096 ![32, 0] g slices_S36x4096_o32_0_S4x4096)
def onehot (io : FVec F S40x4096 .f32) (x : FVec F S4x4096 .f32) (k : FVec F S36x4096 .f32) : FVec F S40x4096 .f32 :=
  sitofp .f32 (extui 32 (cmpf .oeq io (rep10 (count9 (atLeast x k)))) natLt_1_32)

/-- The first ten rows of eleven, the last ten, and their difference. -/
def below (k : FVec F S44x4096 .f32) : FVec F S40x4096 .f32 := extractStridedSlice S40x4096 ![0, 0] k slices_S44x4096_o0_0_S40x4096
def above (k : FVec F S44x4096 .f32) : FVec F S40x4096 .f32 := extractStridedSlice S40x4096 ![4, 0] k slices_S44x4096_o4_0_S40x4096
def sizes (k : FVec F S44x4096 .f32) : FVec F S40x4096 .f32 := subf (above k) (below k)
def pick (o a : FVec F S40x4096 .f32) : FVec F S4x4096 .f32 := sum10 (mulf o a)

/-- The rational quadratic: slope, position in the bin, denominator, value, log derivative. -/
def theta (x cw w : FVec F S4x4096 .f32) : FVec F S4x4096 .f32 := divf (subf x cw) w
def rest (θ : FVec F S4x4096 .f32) : FVec F S4x4096 .f32 := subf (fill S4x4096 0x3F800000#32) θ
def denom (δ tm d0 d1 : FVec F S4x4096 .f32) : FVec F S4x4096 .f32 :=
  addf δ (mulf (subf (addf d0 d1) (mulf (fill S4x4096 0x40000000#32) δ)) tm)
def value (ch h δ θ tm d0 dn : FVec F S4x4096 .f32) : FVec F S4x4096 .f32 :=
  addf ch (divf (mulf h (addf (mulf (mulf δ θ) θ) (mulf d0 tm))) dn)
def logdet (δ θ tm d0 d1 dn : FVec F S4x4096 .f32) : FVec F S4x4096 .f32 :=
  subf (log (mulf (mulf δ δ) (addf (addf (mulf (mulf d1 θ) θ) (mulf (mulf (fill S4x4096 0x40000000#32) δ) tm))
    (mulf (mulf d0 (rest θ)) (rest θ))))) (mulf (fill S4x4096 0x40000000#32) (log dn))

def moved (i : IVec S1x4096 1) (o x : FVec F S4x4096 .f32) : FVec F S4x4096 .f32 := select (spread i) o x
def gained (i : IVec S1x4096 1) (l j : FVec F S4x4096 .f32) : FVec F S4x4096 .f32 :=
  addf j (select (spread i) l (fill S4x4096 0x00000000#32))

/-- The sum of the four log derivatives. -/
def total (j : FVec F S4x4096 .f32) : FVec F S1x4096 .f32 :=
  shapeCast S1x4096 (multiReduction .add [0] S4096 j 0x00000000#32 reduces_S4x4096_S4096 (.inl rfl) rfl) shapeCasts_S4096_S1x4096

end Cert.KernelIdeal.Stage

end
-- ==== Proof.Spec.lean ====
module

public import Idealize.ShloMosaic.Lib.Pointwise

@[expose] public section

noncomputable section

/-! The spline flow over the real numbers, one sample at a time, and the facts about it that both programs need:
    every bin has positive size, the denominator and the derivative are positive, coordinates stay bounded. -/

namespace Cert.Flow

open Finset

/-- The least bin size, the part of the interval shared out, the leak and the reciprocal that scales derivatives. -/
def mn : ℝ := 8589935 / 8589934592
def sc : ℝ := 16609444 / 16777216
def slp : ℝ := 10737418 / 1073741824
def dv : ℝ := 16777216 / 11645857

def leak (x : ℝ) : ℝ := if 0 ≤ x then x else slp * x

def dense {n m : ℕ} (v : Fin n → ℝ) (W : Fin n → Fin m → ℝ) (b : Fin m → ℝ) (j : Fin m) : ℝ := (∑ k, v k * W k j) + b j

def tot (u : Fin 10 → ℝ) : ℝ := ∑ b, Real.exp (u b)
def part (u : Fin 10 → ℝ) (k : ℕ) : ℝ := ∑ b : Fin 10, if (b : ℕ) < k then Real.exp (u b) else 0

/-- The knots of one axis of one spline. -/
def knot (u : Fin 10 → ℝ) (k : ℕ) : ℝ :=
  if k = 0 then 0 else if k = 10 then 1 else (k : ℝ) * mn + sc / tot u * part u k

def wid (u : Fin 10 → ℝ) (k : ℕ) : ℝ := knot u (k + 1) - knot u k

/-- The bin that holds `x`: how many of the nine inner knots are at most `x`. -/
def bin (u : Fin 10 → ℝ) (x : ℝ) : ℕ := ((range 9).filter (fun k => knot u (k + 1) ≤ x)).card

def softplus (v : ℝ) : ℝ := max v 0 + Real.log (1 + Real.exp (-|v|))
def slope (v : ℝ) : ℝ := (mn + softplus v) * dv
def cl (x : ℝ) : ℝ := min 1 (max 0 x)

def th (uw : Fin 10 → ℝ) (x : ℝ) : ℝ := (x - knot uw (bin uw x)) / wid uw (bin uw x)
def del (uw uh : Fin 10 → ℝ) (x : ℝ) : ℝ := wid uh (bin uw x) / wid uw (bin uw x)
def tm (uw : Fin 10 → ℝ) (x : ℝ) : ℝ := th uw x * (1 - th uw x)
def den (uw uh : Fin 10 → ℝ) (ud : ℕ → ℝ) (x : ℝ) : ℝ :=
  del uw uh x + (slope (ud (bin uw x)) + slope (ud (bin uw x + 1)) - 2 * del uw uh x) * tm uw x
def num (uw uh : Fin 10 → ℝ) (ud : ℕ → ℝ) (x : ℝ) : ℝ :=
  del uw uh x * th uw x * th uw x + slope (ud (bin uw x)) * tm uw x
def outv (uw uh : Fin 10 → ℝ) (ud : ℕ → ℝ) (x : ℝ) : ℝ :=
  knot uh (bin uw x) + wid uh (bin uw x) * num uw uh ud x / den uw uh ud x
def dnum (uw uh : Fin 10 → ℝ) (ud : ℕ → ℝ) (x : ℝ) : ℝ :=
  del uw uh x * del uw uh x * (slope (ud (bin uw x + 1)) * th uw x * th uw x + 2 * del uw uh x * tm uw x
    + slope (ud (bin uw x)) * (1 - th uw x) * (1 - th uw x))
def ladv (uw uh : Fin 10 → ℝ) (ud : ℕ → ℝ) (x : ℝ) : ℝ :=
  Real.log (dnum uw uh ud x) - 2 * Real.log (den uw uh ud x)

/-! ## Constants -/

theorem mn_pos : 0 < mn := by unfold mn; norm_num
theorem sc_pos : 0 < sc := by unfold sc; norm_num
theorem dv_pos : 0 < dv := by unfold dv; norm_num
theorem last_pos : 0 < 1 - 9 * mn - sc := by unfold mn sc; norm_num

/-! ## Knots -/

variable (u uw uh : Fin 10 → ℝ) (ud : ℕ → ℝ) (x : ℝ)

theorem tot_pos : 0 < tot u := Finset.sum_pos (fun b _ => Real.exp_pos _) ⟨0, Finset.mem_univ _⟩

theorem part_succ (k : Fin 10) : part u ((k : ℕ) + 1) = part u k + Real.exp (u k) := by
  unfold part
  rw [← Finset.sum_ite_eq' (Finset.univ : Finset (Fin 10)) k (fun b => Real.exp (u b)) |>.trans (if_pos (Finset.mem_univ _)),
    ← Finset.sum_add_distrib]
  refine Finset.sum_congr rfl fun b _ => ?_
  rcases lt_trichotomy (b : ℕ) (k : ℕ) with h | h | h
  · rw [if_pos (by omega), if_pos h, if_neg (by intro e; subst e; omega), add_zero]
  · have e : b = k := Fin.ext h
    subst e; simp
  · rw [if_neg (by omega), if_neg (by omega), if_neg (by intro e; subst e; omega), add_zero]

theorem part_nonneg (k : ℕ) : 0 ≤ part u k := Finset.sum_nonneg fun b _ => by split <;> positivity

theorem part_le (k : ℕ) : part u k ≤ tot u := Finset.sum_le_sum fun b _ => by
  split
  · exact le_rfl
  · positivity

theorem part_zero : part u 0 = 0 := by simp [part]

theorem wid_pos (k : ℕ) (hk : k ≤ 9) : 0 < wid u k := by
  have ht := tot_pos u
  have hm := mn_pos
  have hs := sc_pos
  unfold wid knot
  rcases Nat.eq_zero_or_pos k with rfl | h0
  · have := part_nonneg u 1
    have : 0 ≤ sc / tot u * part u 1 := by positivity
    simp; linarith
  · rcases Nat.lt_or_ge k 9 with h9 | h9
    · have e := part_succ u ⟨k, by omega⟩
      simp only at e
      have hx : 0 < sc / tot u * Real.exp (u ⟨k, by omega⟩) := by positivity
      rw [if_neg (by omega), if_neg (by omega), if_neg (by omega), if_neg (by omega), e]
      push_cast
      nlinarith
    · have e : k = 9 := by omega
      subst e
      have hp : sc / tot u * part u 9 ≤ sc := by
        rw [div_mul_eq_mul_div, div_le_iff₀ ht]
        exact mul_le_mul_of_nonneg_left (part_le u 9) hs.le
      have := last_pos
      simp
      linarith

theorem knot_lt (k : ℕ) (hk : k ≤ 9) : knot u k < knot u (k + 1) := by
  have := wid_pos u k hk
  unfold wid at this; linarith

theorem knot_mono : ∀ (j k : ℕ), j ≤ k → k ≤ 10 → knot u j ≤ knot u k := by
  intro j k h
  induction h with
  | refl => intro _; exact le_rfl
  | step h ih => intro hk; exact (ih (by omega)).trans (knot_lt u _ (by omega)).le

theorem knot_zero : knot u 0 = 0 := by simp [knot]
theorem knot_ten : knot u 10 = 1 := by simp [knot]
theorem knot_nonneg (k : ℕ) (hk : k ≤ 10) : 0 ≤ knot u k := by
  have := knot_mono u 0 k (by omega) hk
  rwa [knot_zero] at this
theorem knot_le_one (k : ℕ) (hk : k ≤ 10) : knot u k ≤ 1 := by
  have := knot_mono u k 10 hk le_rfl
  rwa [knot_ten] at this

theorem bin_le : bin u x ≤ 9 := by
  unfold bin
  exact (Finset.card_filter_le _ _).trans (by simp)

theorem knot_le_iff (k : ℕ) (hk : k < 9) : knot u (k + 1) ≤ x ↔ k < bin u x := by
  unfold bin
  constructor
  · intro h
    have : Finset.range (k + 1) ⊆ (range 9).filter (fun k => knot u (k + 1) ≤ x) := by
      intro j hj
      simp only [Finset.mem_filter, Finset.mem_range] at hj ⊢
      exact ⟨by omega, (knot_mono u (j + 1) (k + 1) (by omega) (by omega)).trans h⟩
    have := Finset.card_le_card this
    simpa using this
  · intro h
    by_contra hn
    have : (range 9).filter (fun k => knot u (k + 1) ≤ x) ⊆ Finset.range k := by
      intro j hj
      simp only [Finset.mem_filter, Finset.mem_range] at hj ⊢
      by_contra hjk
      exact hn ((knot_mono u (k + 1) (j + 1) (by omega) (by omega)).trans hj.2)
    have := Finset.card_le_card this
    simp only [Finset.card_range] at this
    omega

variable {x}

theorem knot_bin_le (h0 : 0 ≤ x) : knot u (bin u x) ≤ x := by
  rcases Nat.eq_zero_or_pos (bin u x) with h | h
  · rw [h, knot_zero]; exact h0
  · have := (knot_le_iff u x (bin u x - 1) (by have := bin_le u x; omega)).2 (by omega)
    rwa [Nat.sub_add_cancel h] at this

theorem le_knot_bin (h1 : x ≤ 1) : x ≤ knot u (bin u x + 1) := by
  rcases Nat.lt_or_ge (bin u x) 9 with h | h
  · by_contra hn
    have := (knot_le_iff u x (bin u x) h).1 (by linarith)
    omega
  · have e : bin u x = 9 := by have := bin_le u x; omega
    rw [e, show 9 + 1 = 10 from rfl, knot_ten]; exact h1

/-! ## The rational quadratic -/

theorem slope_pos (v : ℝ) : 0 < slope v := by
  unfold slope softplus
  have h1 : 0 ≤ max v 0 := le_max_right _ _
  have h2 : 0 ≤ Real.log (1 + Real.exp (-|v|)) := Real.log_nonneg (by have := Real.exp_pos (-|v|); linarith)
  have := mn_pos
  have := dv_pos
  positivity

theorem th_nonneg (h0 : 0 ≤ x) : 0 ≤ th uw x :=
  div_nonneg (by have := knot_bin_le uw h0; linarith) (wid_pos uw _ (bin_le uw x)).le

theorem th_le (h1 : x ≤ 1) : th uw x ≤ 1 := by
  unfold th
  rw [div_le_one (wid_pos uw _ (bin_le uw x))]
  have := le_knot_bin uw h1
  unfold wid; linarith

theorem del_pos : 0 < del uw uh x := div_pos (wid_pos uh _ (bin_le uw x)) (wid_pos uw _ (bin_le uw x))

theorem tm_nonneg (h0 : 0 ≤ x) (h1 : x ≤ 1) : 0 ≤ tm uw x :=
  mul_nonneg (th_nonneg uw h0) (by have := th_le uw h1; linarith)

theorem den_pos (h0 : 0 ≤ x) (h1 : x ≤ 1) : 0 < den uw uh ud x := by
  have hd : 0 < del uw uh x := del_pos uw uh
  have ht := tm_nonneg uw h0 h1
  have a := slope_pos (ud (bin uw x))
  have b := slope_pos (ud (bin uw x + 1))
  have e : den uw uh ud x = del uw uh x * (th uw x ^ 2 + (1 - th uw x) ^ 2)
      + (slope (ud (bin uw x)) + slope (ud (bin uw x + 1))) * tm uw x := by
    unfold den tm; ring
  have q : 0 < th uw x ^ 2 + (1 - th uw x) ^ 2 := by nlinarith [sq_nonneg (th uw x - (1 - th uw x)), sq_nonneg (th uw x)]
  rw [e]
  have := mul_pos hd q
  have := mul_nonneg (add_pos a b).le ht
  linarith

theorem num_nonneg (h0 : 0 ≤ x) (h1 : x ≤ 1) : 0 ≤ num uw uh ud x := by
  have hd : 0 < del uw uh x := del_pos uw uh
  have ht := tm_nonneg uw h0 h1
  have a := slope_pos (ud (bin uw x))
  have c := th_nonneg uw h0
  unfold num; positivity

theorem num_le_den (h0 : 0 ≤ x) (h1 : x ≤ 1) : num uw uh ud x ≤ den uw uh ud x := by
  have hd : 0 < del uw uh x := del_pos uw uh
  have ht := tm_nonneg uw h0 h1
  have b := slope_pos (ud (bin uw x + 1))
  have e : den uw uh ud x - num uw uh ud x = del uw uh x * (1 - th uw x) ^ 2 + slope (ud (bin uw x + 1)) * tm uw x := by
    unfold den num tm; ring
  have : 0 ≤ del uw uh x * (1 - th uw x) ^ 2 + slope (ud (bin uw x + 1)) * tm uw x := by positivity
  linarith

theorem dnum_pos (h0 : 0 ≤ x) (h1 : x ≤ 1) : 0 < dnum uw uh ud x := by
  have hd : 0 < del uw uh x := del_pos uw uh
  have ht := tm_nonneg uw h0 h1
  have a := slope_pos (ud (bin uw x))
  have b := slope_pos (ud (bin uw x + 1))
  have c := th_nonneg uw h0
  unfold dnum
  refine mul_pos (mul_pos hd hd) ?_
  have p : 0 ≤ 2 * del uw uh x * tm uw x := by positivity
  have q : 0 ≤ slope (ud (bin uw x + 1)) * th uw x * th uw x := by positivity
  have r : 0 ≤ slope (ud (bin uw x)) * (1 - th uw x) * (1 - th uw x) := by
    rw [mul_assoc]; exact mul_nonneg a.le (mul_self_nonneg _)
  rcases eq_or_lt_of_le c with h | h
  · rw [← h]; simp; exact add_pos_of_nonneg_of_pos p a
  · have : 0 < slope (ud (bin uw x + 1)) * th uw x * th uw x := by positivity
    linarith

theorem outv_mem (h0 : 0 ≤ x) (h1 : x ≤ 1) : 0 ≤ outv uw uh ud x ∧ outv uw uh ud x ≤ 1 := by
  have hd := den_pos uw uh ud h0 h1
  have hw := wid_pos uh _ (bin_le uw x)
  have q0 : 0 ≤ num uw uh ud x / den uw uh ud x := div_nonneg (num_nonneg uw uh ud h0 h1) hd.le
  have q1 : num uw uh ud x / den uw uh ud x ≤ 1 := (div_le_one hd).2 (num_le_den uw uh ud h0 h1)
  have k0 := knot_nonneg uh (bin uw x) (by have := bin_le uw x; omega)
  have k1 := knot_le_one uh (bin uw x + 1) (by have := bin_le uw x; omega)
  have e : wid uh (bin uw x) * num uw uh ud x / den uw uh ud x
      = wid uh (bin uw x) * (num uw uh ud x / den uw uh ud x) := mul_div_assoc _ _ _
  have m0 := mul_nonneg hw.le q0
  have m1 := mul_le_mul_of_nonneg_left q1 hw.le
  unfold outv
  rw [e]
  unfold wid at *
  constructor <;> linarith

theorem cl_nonneg (x : ℝ) : 0 ≤ cl x := le_min zero_le_one (le_max_left _ _)
theorem cl_le (x : ℝ) : cl x ≤ 1 := min_le_left _ _

/-! ## One coupling block -/

/-- The coordinates that condition block `i`, those it transforms, and each coordinate's place among the latter. -/
def cond : Fin 6 → Fin 4 → Fin 8 :=
  ![![1, 3, 5, 7], ![0, 2, 4, 6], ![2, 3, 6, 7], ![0, 1, 4, 5], ![4, 5, 6, 7], ![0, 1, 2, 3]]
def trafo : Fin 6 → Fin 4 → Fin 8 :=
  ![![0, 2, 4, 6], ![1, 3, 5, 7], ![0, 1, 4, 5], ![2, 3, 6, 7], ![0, 1, 2, 3], ![4, 5, 6, 7]]
def place : Fin 6 → Fin 8 → Option (Fin 4) :=
  ![![some 0, none, some 1, none, some 2, none, some 3, none], ![none, some 0, none, some 1, none, some 2, none, some 3],
    ![some 0, some 1, none, none, some 2, some 3, none, none], ![none, none, some 0, some 1, none, none, some 2, some 3],
    ![some 0, some 1, some 2, some 3, none, none, none, none], ![none, none, none, none, some 0, some 1, some 2, some 3]]

/-- The weights of the six networks. -/
structure Par where
  W1 : Fin 6 → Fin 8 → Fin 32 → ℝ
  b1 : Fin 6 → Fin 32 → ℝ
  W2 : Fin 6 → Fin 32 → Fin 32 → ℝ
  b2 : Fin 6 → Fin 32 → ℝ
  W3 : Fin 6 → Fin 32 → Fin 124 → ℝ
  b3 : Fin 6 → Fin 124 → ℝ

variable (p : Par) (i : Fin 6) (y : Fin 8 → ℝ) (c : Fin 4 → ℝ)

def netin (k : Fin 8) : ℝ := if h : (k : ℕ) < 4 then y (cond i ⟨k, h⟩) else c ⟨(k : ℕ) - 4, by omega⟩
def hid1 (j : Fin 32) : ℝ := leak (dense (netin i y c) (p.W1 i) (p.b1 i) j)
def hid2 (j : Fin 32) : ℝ := leak (dense (hid1 p i y c) (p.W2 i) (p.b2 i) j)
def lg (j : Fin 124) : ℝ := dense (hid2 p i y c) (p.W3 i) (p.b3 i) j

def lgW (l : Fin 124 → ℝ) (d : Fin 4) (b : Fin 10) : ℝ := l ⟨31 * d + b, by omega⟩
def lgH (l : Fin 124 → ℝ) (d : Fin 4) (b : Fin 10) : ℝ := l ⟨31 * d + 10 + b, by omega⟩
def lgD (l : Fin 124 → ℝ) (d : Fin 4) (k : ℕ) : ℝ := if h : k < 11 then l ⟨31 * d + 20 + k, by omega⟩ else 0

def ins (t : Fin 4 → ℝ) : Prop := ∀ d, 0 ≤ t d ∧ t d ≤ 1

def moved (l : Fin 124 → ℝ) (t : Fin 4 → ℝ) (d : Fin 4) : ℝ :=
  open Classical in if ins t then outv (lgW l d) (lgH l d) (lgD l d) (cl (t d)) else t d
def gained (l : Fin 124 → ℝ) (t : Fin 4 → ℝ) (d : Fin 4) : ℝ :=
  open Classical in if ins t then ladv (lgW l d) (lgH l d) (lgD l d) (cl (t d)) else 0

def tr (d : Fin 4) : ℝ := y (trafo i d)
def step (r : Fin 8) : ℝ :=
  match place i r with
  | none => y r
  | some d => moved (lg p i y c) (tr i y) d
def gain (d : Fin 4) : ℝ := gained (lg p i y c) (tr i y) d

/-- The coordinates entering block `n`. -/
def at_ (x : Fin 8 → ℝ) : ℕ → Fin 8 → ℝ
  | 0 => x
  | n + 1 => step p (Fin.ofNat 6 n) (at_ x n) c

/-! ## Bounds -/

/-- What the precondition says: with coordinates and context at most `R` in size, every width and height logit stays within 60. -/
structure Bounded (R : ℝ) (H1 : Fin 6 → Fin 32 → ℝ) (H2 : Fin 6 → Fin 32 → ℝ) : Prop where
  one : 1 ≤ R
  h1 : ∀ i j, (∑ k, R * |p.W1 i k j|) + |p.b1 i j| = H1 i j
  h2 : ∀ i j, (∑ k, H1 i k * |p.W2 i k j|) + |p.b2 i j| = H2 i j
  h3 : ∀ i (j : Fin 124), j.val % 31 < 20 → (∑ k, H2 i k * |p.W3 i k j|) + |p.b3 i j| ≤ 60

theorem dense_le {n m : ℕ} (v : Fin n → ℝ) (W : Fin n → Fin m → ℝ) (b : Fin m → ℝ) (j : Fin m) (B : Fin n → ℝ)
    (h : ∀ k, |v k| ≤ B k) : |dense v W b j| ≤ (∑ k, B k * |W k j|) + |b j| := by
  unfold dense
  refine (abs_add_le _ _).trans (add_le_add ?_ le_rfl)
  refine (Finset.abs_sum_le_sum_abs _ _).trans (Finset.sum_le_sum fun k _ => ?_)
  rw [abs_mul]
  exact mul_le_mul_of_nonneg_right (h k) (abs_nonneg _)

theorem leak_le (x : ℝ) : |leak x| ≤ |x| := by
  unfold leak
  split
  · exact le_rfl
  · rw [abs_mul]
    have : |slp| ≤ 1 := by unfold slp; rw [abs_of_pos (by norm_num)]; norm_num
    exact mul_le_of_le_one_left (abs_nonneg _) this

variable {p c} {R : ℝ} {H1 H2 : Fin 6 → Fin 32 → ℝ}

theorem lg_le (hB : Bounded p R H1 H2) (hy : ∀ r, |y r| ≤ R) (hc : ∀ r, |c r| ≤ R) (j : Fin 124) (hj : j.val % 31 < 20) :
    |lg p i y c j| ≤ 60 := by
  have n0 : ∀ k, |netin i y c k| ≤ R := fun k => by
    unfold netin; split
    · exact hy _
    · exact hc _
  have n1 : ∀ k, |hid1 p i y c k| ≤ H1 i k := fun k =>
    (leak_le _).trans ((dense_le _ _ _ _ (fun _ => R) n0).trans (hB.h1 i k).le)
  have n2 : ∀ k, |hid2 p i y c k| ≤ H2 i k := fun k =>
    (leak_le _).trans ((dense_le _ _ _ _ _ n1).trans (hB.h2 i k).le)
  exact (dense_le _ _ _ _ _ n2).trans (hB.h3 i j hj)

theorem step_le (hB : Bounded p R H1 H2) (hy : ∀ r, |y r| ≤ R) (r : Fin 8) : |step p i y c r| ≤ R := by
  unfold step
  split
  · exact hy r
  · rename_i d _
    unfold moved
    split
    · have := outv_mem (lgW (lg p i y c) d) (lgH (lg p i y c) d) (lgD (lg p i y c) d) (cl_nonneg (tr i y d)) (cl_le _)
      rw [abs_of_nonneg this.1]
      exact this.2.trans hB.one
    · exact hy _

theorem at_le (hB : Bounded p R H1 H2) {x : Fin 8 → ℝ} (hx : ∀ r, |x r| ≤ R) : ∀ n r, |at_ p c x n r| ≤ R
  | 0 => hx
  | n + 1 => step_le _ _ hB (at_le hB hx n)

end Cert.Flow

end
-- ==== Proof.StageRead.lean ====
module

public import proofs.«01_k».proof.Proof.Stage
public import proofs.«01_k».proof.Proof.Spec
public import Idealize.ShloMosaic.Lib.Pointwise

@[expose] public section

noncomputable section

/-! The steps of a block read one sample at a time over the extended reals: where the entries of a step's inputs are
    real numbers, the entries of its output are the real numbers the specification names. -/

namespace Cert.Flow

open Idealize.ShloMosaic

theorem coe_sum {ι : Type} (s : Finset ι) (f : ι → ℝ) : ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

theorem max_real (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem min_real (x y : ℝ) : min (x : EReal) (y : EReal) = ((min x y : ℝ) : EReal) := by
  rcases le_total x y with h | h
  · rw [min_eq_left h, min_eq_left (EReal.coe_le_coe_iff.2 h)]
  · rw [min_eq_right h, min_eq_right (EReal.coe_le_coe_iff.2 h)]

theorem log_real {x : ℝ} (h : 0 < x) : Ideal.log (x : EReal) = ((Real.log x : ℝ) : EReal) := by
  rw [Ideal.log_coe, if_neg (not_le.2 h)]

theorem lit_mn : Ideal.ofBits .f32 0x3A83126F#32 = ((mn : ℝ) : EReal) := by
  simp [Ideal.ofBits, Ideal.ieee, -EReal.coe_mul, mn]; norm_num
theorem lit_sc : Ideal.ofBits .f32 0x3F7D70A4#32 = ((sc : ℝ) : EReal) := by
  simp [Ideal.ofBits, Ideal.ieee, -EReal.coe_mul, sc]; norm_num
theorem lit_slp : Ideal.ofBits .f32 0x3C23D70A#32 = ((slp : ℝ) : EReal) := by
  simp [Ideal.ofBits, Ideal.ieee, -EReal.coe_mul, slp]; norm_num
theorem lit_hi : Ideal.ofBits .f32 0x42700000#32 = ((60 : ℝ) : EReal) := by
  simp [Ideal.ofBits, Ideal.ieee, -EReal.coe_mul]; norm_num
theorem lit_lo : Ideal.ofBits .f32 0xC2700000#32 = ((-60 : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_top : Ideal.ofBits .f32 0x7F800000#32 = (⊤ : EReal) := by
  simp [Ideal.ofBits, Ideal.ieee, -EReal.coe_mul]

/-- A comparison's bit as a number. -/
theorem bit_real (P : Prop) [Decidable P] :
    FloatOps.sitofp (F := Ideal) .f32 (BitVec.setWidth 32 (BitVec.ofBool (decide P))) = (((if P then 1 else 0 : ℝ)) : EReal) := by
  show ((((BitVec.setWidth 32 (BitVec.ofBool (decide P))).toInt : ℤ) : ℝ) : EReal) = _
  by_cases h : P <;> simp [h]

end Cert.Flow

namespace Cert.KernelIdeal.Stage

open Idealize.ShloMosaic Idealize.SL.Sem Cert.KernelIdeal.Gen Cert.Flow

/-- The entries of sample `t` of arrays with rows `4 b + d`, and of arrays with rows `d`. -/
def T40 (a : FVec Ideal S40x4096 .f32) (t : Fin 4096) (g : Fin 10 → Fin 4 → ℝ) : Prop :=
  ∀ (b : Fin 10) (d : Fin 4) (r : Fin 40), (r : ℕ) = 4 * b + d → a (ix2 r t) = ((g b d : ℝ) : EReal)
def T36 (a : FVec Ideal S36x4096 .f32) (t : Fin 4096) (g : ℕ → Fin 4 → ℝ) : Prop :=
  ∀ (b : Fin 9) (d : Fin 4) (r : Fin 36), (r : ℕ) = 4 * b + d → a (ix2 r t) = ((g b d : ℝ) : EReal)
def T44 (a : FVec Ideal S44x4096 .f32) (t : Fin 4096) (g : ℕ → Fin 4 → ℝ) : Prop :=
  ∀ (b : Fin 11) (d : Fin 4) (r : Fin 44), (r : ℕ) = 4 * b + d → a (ix2 r t) = ((g b d : ℝ) : EReal)
def T4 (a : FVec Ideal S4x4096 .f32) (t : Fin 4096) (g : Fin 4 → ℝ) : Prop := ∀ d : Fin 4, a (ix2 d t) = ((g d : ℝ) : EReal)
def T8 (a : FVec Ideal S8x4096 .f32) (t : Fin 4096) (g : Fin 8 → ℝ) : Prop := ∀ d : Fin 8, a (ix2 d t) = ((g d : ℝ) : EReal)
def T32 (a : FVec Ideal S32x4096 .f32) (t : Fin 4096) (g : Fin 32 → ℝ) : Prop := ∀ d : Fin 32, a (ix2 d t) = ((g d : ℝ) : EReal)
def T124 (a : FVec Ideal S124x4096 .f32) (t : Fin 4096) (g : Fin 124 → ℝ) : Prop := ∀ d : Fin 124, a (ix2 d t) = ((g d : ℝ) : EReal)
def T1 (a : FVec Ideal S1x4096 .f32) (t : Fin 4096) (v : ℝ) : Prop := a (ix2 0 t) = ((v : ℝ) : EReal)

variable {t : Fin 4096}

/-! ## The network -/

theorem dense_real {n m : ℕ} (v : Fin n → ℝ) (W : Fin n → Fin m → ℝ) (b : Fin m → ℝ) (j : Fin m) :
    ∑ x, ((W x j : ℝ) : EReal) * ((v x : ℝ) : EReal) + ∑ x, ((W x j : ℝ) : EReal) * (((v x : ℝ) : EReal) - ((v x : ℝ) : EReal))
      + ∑ x, (0 : EReal) * ((v x : ℝ) : EReal) + ((b j : ℝ) : EReal) = ((dense v W b j : ℝ) : EReal) := by
  simp only [← EReal.coe_mul, ← EReal.coe_sub, sub_self, mul_zero, zero_mul, coe_sum, Finset.sum_const_zero, EReal.coe_zero, add_zero,
    ← EReal.coe_add]
  unfold dense
  congr 2
  exact Finset.sum_congr rfl fun x _ => mul_comm _ _

theorem layer1_at {a : FVec Ideal S8x4096 .f32} {wh wl : FVec Ideal S32x8 .bf16} {b : FVec Ideal S32x1 .f32} {v : Fin 8 → ℝ}
    {W : Fin 8 → Fin 32 → ℝ} {B : Fin 32 → ℝ} (ha : T8 a t v) (hw : ∀ r k, wh (ix2 r k) = ((W k r : ℝ) : EReal))
    (hl : ∀ r k, wl (ix2 r k) = 0) (hb : ∀ r, b (ix2 r 0) = ((B r : ℝ) : EReal)) : T32 (layer1 a wh wl b) t (dense v W B) := by
  intro r
  unfold T8 at ha
  pointwise [layer1, hi, lo]
  simp only [ha, hw, hl, hb]
  exact dense_real _ _ _ _

theorem layer2_at {a : FVec Ideal S32x4096 .f32} {wh wl : FVec Ideal S32x32 .bf16} {b : FVec Ideal S32x1 .f32} {v : Fin 32 → ℝ}
    {W : Fin 32 → Fin 32 → ℝ} {B : Fin 32 → ℝ} (ha : T32 a t v) (hw : ∀ r k, wh (ix2 r k) = ((W k r : ℝ) : EReal))
    (hl : ∀ r k, wl (ix2 r k) = 0) (hb : ∀ r, b (ix2 r 0) = ((B r : ℝ) : EReal)) : T32 (layer2 a wh wl b) t (dense v W B) := by
  intro r
  unfold T32 at ha
  pointwise [layer2, hi, lo]
  simp only [ha, hw, hl, hb]
  exact dense_real _ _ _ _

theorem layer3_at {a : FVec Ideal S32x4096 .f32} {wh wl : FVec Ideal S124x32 .bf16} {b : FVec Ideal S124x1 .f32} {v : Fin 32 → ℝ}
    {W : Fin 32 → Fin 124 → ℝ} {B : Fin 124 → ℝ} (ha : T32 a t v) (hw : ∀ r k, wh (ix2 r k) = ((W k r : ℝ) : EReal))
    (hl : ∀ r k, wl (ix2 r k) = 0) (hb : ∀ r, b (ix2 r 0) = ((B r : ℝ) : EReal)) : T124 (layer3 a wh wl b) t (dense v W B) := by
  intro r
  unfold T32 at ha
  pointwise [layer3, hi, lo]
  simp only [ha, hw, hl, hb]
  exact dense_real _ _ _ _

theorem leak_at {a : FVec Ideal S32x4096 .f32} {v : Fin 32 → ℝ} (ha : T32 a t v) : T32 (leak a) t (fun j => Flow.leak (v j)) := by
  intro r
  unfold T32 at ha
  pointwise [leak, fill]
  simp only [ha, lit_slp, ← EReal.coe_mul, EReal.coe_nonneg, Flow.leak]
  split <;> rfl

theorem netIn_at {p q r s : FVec Ideal S1x4096 .f32} {c : FVec Ideal S4x4096 .f32} {v w : Fin 4 → ℝ} (hp : T1 p t (v 0)) (hq : T1 q t (v 1))
    (hr : T1 r t (v 2)) (hs : T1 s t (v 3)) (hc : T4 c t w) :
    T8 (netIn p q r s c) t (fun k => if h : (k : ℕ) < 4 then v ⟨k, h⟩ else w ⟨(k : ℕ) - 4, by omega⟩) := by
  intro k
  unfold T1 at hp hq hr hs
  unfold T4 at hc
  fin_cases k <;> · pointwise [netIn]; simp [hp, hq, hr, hs, hc]

theorem held_real {u : ℝ} (h : |u| ≤ 60) :
    Ideal.exp (min ((60 : ℝ) : EReal) (max ((-60 : ℝ) : EReal) (u : EReal))) = ((Real.exp u : ℝ) : EReal) := by
  have h' := abs_le.1 h
  rw [max_real, min_real, max_eq_right h'.1, min_eq_right h'.2, Ideal.exp_coe]

theorem expW_at {so : FVec Ideal S124x4096 .f32} {l : Fin 124 → ℝ} (hs : T124 so t l) (hb : ∀ j : Fin 124, j.val < 80 → |l j| ≤ 60) :
    T40 (expW so) t (fun b d => Real.exp (l ⟨4 * b + d, by omega⟩)) := by
  intro b d r hr
  unfold T124 at hs
  pointwise [expW, held, fill]
  simp only [hs, lit_hi, lit_lo]
  rw [held_real (hb ⟨_, _⟩ (by dsimp only; omega))]
  congr 4

theorem expH_at {so : FVec Ideal S124x4096 .f32} {l : Fin 124 → ℝ} (hs : T124 so t l) (hb : ∀ j : Fin 124, j.val < 80 → |l j| ≤ 60) :
    T40 (expH so) t (fun b d => Real.exp (l ⟨40 + 4 * b + d, by omega⟩)) := by
  intro b d r hr
  unfold T124 at hs
  pointwise [expH, held, fill]
  simp only [hs, lit_hi, lit_lo]
  rw [held_real (hb ⟨_, _⟩ (by dsimp only; omega))]
  have e : (40 + (r : ℕ)) = 40 + 4 * b + d := by omega
  simp only [e]

theorem logD_at {so : FVec Ideal S124x4096 .f32} {l : Fin 124 → ℝ} (hs : T124 so t l) :
    T44 (logD so) t (fun k d => if h : k < 11 then l ⟨80 + 4 * k + d, by omega⟩ else 0) := by
  intro b d r hr
  unfold T124 at hs
  pointwise [logD]
  simp only [hs]
  have e : (80 + (r : ℕ)) = 80 + 4 * b + d := by omega
  simp only [e, b.2, dif_pos]

/-! ## Sums and repeats -/

theorem sum10_at {a : FVec Ideal S40x4096 .f32} {g : Fin 10 → Fin 4 → ℝ} (h : T40 a t g) : T4 (sum10 a) t (fun d => ∑ b, g b d) := by
  intro d
  pointwise [sum10, sum10h]
  rw [h 0 d ⟨d, by omega⟩ (by simp), h 2 d ⟨8 + d, by omega⟩ (by simp), h 4 d ⟨16 + d, by omega⟩ (by simp),
    h 6 d ⟨24 + d, by omega⟩ (by simp), h 8 d ⟨32 + d, by omega⟩ (by simp), h 1 d ⟨4 + d, by omega⟩ (by simp),
    h 3 d ⟨8 + (4 + d), by omega⟩ (by simp; omega), h 5 d ⟨16 + (4 + d), by omega⟩ (by simp; omega),
    h 7 d ⟨24 + (4 + d), by omega⟩ (by simp; omega), h 9 d ⟨32 + (4 + d), by omega⟩ (by simp; omega)]
  simp only [← EReal.coe_add]
  congr 1
  simp only [Fin.sum_univ_succ, Fin.sum_univ_zero]
  simp [Fin.succ]
  ring

theorem rep9_at {a : FVec Ideal S4x4096 .f32} {g : Fin 4 → ℝ} (h : T4 a t g) : T36 (rep9 a) t (fun _ d => g d) := by
  intro b d r hr
  unfold T4 at h
  have hb := b.2
  have hd := d.2
  pointwise [rep9, dup]
  simp only [h]
  split_ifs <;> · congr 2; apply Fin.ext; simp only; omega

theorem rep10_at {a : FVec Ideal S4x4096 .f32} {g : Fin 4 → ℝ} (h : T4 a t g) : T40 (rep10 a) t (fun _ d => g d) := by
  intro b d r hr
  unfold T4 at h
  have hb := b.2
  have hd := d.2
  pointwise [rep10, dup]
  simp only [h]
  split_ifs <;> · congr 2; apply Fin.ext; simp only; omega

theorem below_at {a : FVec Ideal S44x4096 .f32} {g : ℕ → Fin 4 → ℝ} (h : T44 a t g) : T40 (below a) t (fun b d => g b d) := by
  intro b d r hr
  pointwise [below]
  exact h b.castSucc d _ hr

theorem above_at {a : FVec Ideal S44x4096 .f32} {g : ℕ → Fin 4 → ℝ} (h : T44 a t g) : T40 (above a) t (fun b d => g (b + 1) d) := by
  intro b d r hr
  pointwise [above]
  exact h b.succ d _ (by simp; omega)

theorem sizes_at {a : FVec Ideal S44x4096 .f32} {g : ℕ → Fin 4 → ℝ} (h : T44 a t g) : T40 (sizes a) t (fun b d => g (b + 1) d - g b d) := by
  intro b d r hr
  rw [EReal.coe_sub, ← above_at h b d r hr, ← below_at h b d r hr]
  rfl

theorem pick_at {o a : FVec Ideal S40x4096 .f32} {n : Fin 4 → ℕ} (hn : ∀ d, n d ≤ 9) {g : ℕ → Fin 4 → ℝ}
    (ho : T40 o t (fun b d => if (b : ℕ) = n d then 1 else 0)) (ha : T40 a t (fun b d => g b d)) : T4 (pick o a) t (fun d => g (n d) d) := by
  have h : T40 (mulf o a) t (fun b d => (if (b : ℕ) = n d then 1 else 0) * g b d) := fun b d r hr => by
    rw [EReal.coe_mul, ← ha b d r hr, ← ho b d r hr]; rfl
  intro d
  rw [show pick o a = sum10 (mulf o a) from rfl, sum10_at h d]
  congr 1
  beta_reduce
  rw [Finset.sum_eq_single (⟨n d, by have := hn d; omega⟩ : Fin 10)]
  · simp
  · intro b _ hb
    rw [if_neg (fun e => hb (Fin.ext e)), zero_mul]
  · simp

end Cert.KernelIdeal.Stage

end
-- ==== Proof.StageMore.lean ====
module

public import proofs.«01_k».proof.Proof.StageRead

@[expose] public section

noncomputable section

/-! The knots, the bin search and the rational quadratic read one sample at a time. -/

namespace Cert.KernelIdeal.Stage

open Idealize.ShloMosaic Idealize.SL.Sem Cert.KernelIdeal.Gen Cert.Flow

variable {t : Fin 4096}

/-- The triangular array of ones, the multiples of the least bin size, the bin of each row. -/
def Tri (m : FVec Ideal S36x40 .bf16) : Prop :=
  ∀ (r : Fin 36) (s : Fin 40), m (ix2 r s) = ((if (r : ℕ) % 4 = s % 4 ∧ (s : ℕ) / 4 < r / 4 + 1 then 1 else 0 : ℝ) : EReal)
def Least (kv : FVec Ideal S36x4096 .f32) : Prop := ∀ (r : Fin 36) (t : Fin 4096), kv (ix2 r t) = ((((r / 4 + 1 : ℕ) : ℝ) * mn : ℝ) : EReal)
def Bins (io : FVec Ideal S40x4096 .f32) : Prop := ∀ (r : Fin 40) (t : Fin 4096), io (ix2 r t) = (((r / 4 : ℕ) : ℝ) : EReal)

theorem prefixSum_at {m : FVec Ideal S36x40 .bf16} {e : FVec Ideal S40x4096 .f32} (hm : Tri m) {U : Fin 4 → Fin 10 → ℝ}
    (he : T40 e t (fun b d => Real.exp (U d b))) : T36 (prefixSum m e) t (fun k d => part (U d) (k + 1)) := by
  intro k d r hr
  have he' : ∀ s : Fin 40, e (ix2 s t) = ((Real.exp (U ⟨(s : ℕ) % 4, by omega⟩ ⟨(s : ℕ) / 4, by omega⟩) : ℝ) : EReal) := fun s =>
    he ⟨(s : ℕ) / 4, by omega⟩ ⟨(s : ℕ) % 4, by omega⟩ s (by simp only; omega)
  unfold Tri at hm
  pointwise [prefixSum, hi, lo]
  simp only [he', hm, ← EReal.coe_sub, sub_self, ← EReal.coe_mul, mul_zero, coe_sum, Finset.sum_const_zero, EReal.coe_zero, add_zero]
  congr 1
  unfold part
  rw [← (finProdFinEquiv (m := 10) (n := 4)).sum_comp, Fintype.sum_prod_type]
  refine Finset.sum_congr rfl fun b _ => ?_
  rw [Finset.sum_eq_single d]
  · have e1 : ((finProdFinEquiv (b, d) : Fin (10 * 4)) : ℕ) % 4 = d := by simp [finProdFinEquiv]
    have e2 : ((finProdFinEquiv (b, d) : Fin (10 * 4)) : ℕ) / 4 = b := by simp [finProdFinEquiv]; omega
    have e3 : (r : ℕ) % 4 = d := by omega
    have e4 : (r : ℕ) / 4 = k := by omega
    simp only [e1, e2, e3, e4, true_and]
    split <;> simp
  · intro d' _ hd'
    have e1 : ((finProdFinEquiv (b, d') : Fin (10 * 4)) : ℕ) % 4 = d' := by simp [finProdFinEquiv]
    have e3 : (r : ℕ) % 4 = d := by omega
    rw [if_neg, zero_mul]
    rintro ⟨h, _⟩
    apply hd'
    apply Fin.ext
    omega
  · simp

theorem inner_at {kv : FVec Ideal S36x4096 .f32} {m : FVec Ideal S36x40 .bf16} {e : FVec Ideal S40x4096 .f32} (hk : Least kv) (hm : Tri m)
    {U : Fin 4 → Fin 10 → ℝ} (he : T40 e t (fun b d => Real.exp (U d b))) : T36 (inner kv m e) t (fun k d => knot (U d) (k + 1)) := by
  have hs : T4 (divf (fill S4x4096 0x3F7D70A4#32) (sum10 e)) t (fun d => sc / tot (U d)) := fun d => by
    have := sum10_at he d
    rw [← div_real _ _ (tot_pos (U d)).ne', ← lit_sc]
    show Ideal.div _ _ = _
    rw [this]; rfl
  intro k d r hr
  have h1 := rep9_at hs k d r hr
  have h2 := prefixSum_at hm he k d r hr
  have h3 := hk r t
  show kv (ix2 r t) + rep9 (divf (fill S4x4096 0x3F7D70A4#32) (sum10 e)) (ix2 r t) * prefixSum m e (ix2 r t) = _
  rw [h1, h2, h3, ← EReal.coe_mul, ← EReal.coe_add]
  congr 1
  have e4 : (r : ℕ) / 4 = k := by omega
  have := k.2
  unfold knot
  beta_reduce
  rw [if_neg (by omega), if_neg (by omega), e4]

theorem knots_at {k : FVec Ideal S36x4096 .f32} {U : Fin 4 → Fin 10 → ℝ} (h : T36 k t (fun k d => knot (U d) (k + 1))) :
    T44 (knots k) t (fun k d => knot (U d) k) := by
  intro b d r hr
  have hb := b.2
  have hd := d.2
  pointwise [knots, fill]
  rcases Nat.eq_zero_or_pos (b : ℕ) with h0 | h0
  · rw [dif_pos (by omega), h0, knot_zero]; rfl
  · rcases Nat.lt_or_ge (b : ℕ) 10 with h1 | h1
    · rw [dif_neg (by omega), dif_pos (by omega), h ⟨(b : ℕ) - 1, by omega⟩ d _ (by simp only; omega)]
      simp only
      rw [Nat.sub_add_cancel h0]
    · rw [dif_neg (by omega), dif_neg (by omega), show (b : ℕ) = 10 by omega, knot_ten]; rfl

theorem dv_named : Named.named (F := Ideal) κ "inv_deriv" (φ := .f32) 0x3FB86621#32 = ((dv : ℝ) : EReal) :=
  IdealRules.named_const.ideal_named_scalar _ _ _ _ rfl

theorem softplus_real (u : ℝ) : max (u : EReal) 0 + Ideal.log1p (Ideal.exp (0 - max (u : EReal) (-(u : EReal)))) = ((softplus u : ℝ) : EReal) := by
  rw [← EReal.coe_neg, max_real, ← EReal.coe_zero, max_real, ← EReal.coe_sub, Ideal.exp_coe, Ideal.log1p, ← EReal.coe_one, ← EReal.coe_add,
    log_real (by positivity), ← EReal.coe_add, zero_sub]
  rfl

theorem derivs_at {a : FVec Ideal S44x4096 .f32} {g : ℕ → Fin 4 → ℝ} (h : T44 a t g) : T44 (derivs a) t (fun k d => slope (g k d)) := by
  intro b d r hr
  pointwise [derivs, fill]
  rw [h b d r hr]
  rw [show FloatOps.absf (F := Ideal) (φ := .f32) ((g b d : ℝ) : EReal) = max ((g b d : ℝ) : EReal) (-((g b d : ℝ) : EReal)) from rfl, softplus_real,
    lit_mn, dv_named, ← EReal.coe_add, ← EReal.coe_mul]
  rfl

theorem inside_at {a : FVec Ideal S4x4096 .f32} {v : Fin 4 → ℝ} (h : T4 a t v) [Decidable (ins v)] :
    inside a (ix2 0 t) = BitVec.ofBool (decide (ins v)) := by
  unfold T4 at h
  pointwise [inside, fill]
  congr 1
  rw [decide_eq_decide, Finset.lt_fold_min, lit_half, lit_top]
  simp only [Finset.mem_univ, true_implies, h, EReal.coe_lt_top, true_and]
  unfold ins
  refine forall_congr' fun d => ?_
  have e : IntOp.andi (BitVec.ofBool (decide (0 ≤ ((v d : ℝ) : EReal)))) (BitVec.ofBool (decide (((v d : ℝ) : EReal) ≤ 1)))
      = BitVec.ofBool (decide (0 ≤ v d ∧ v d ≤ 1)) := by
    have e1 : (0 ≤ ((v d : ℝ) : EReal)) ↔ 0 ≤ v d := EReal.coe_nonneg
    have e2 : (((v d : ℝ) : EReal) ≤ 1) ↔ v d ≤ 1 := by rw [← EReal.coe_one, EReal.coe_le_coe_iff]
    simp only [e1, e2]
    by_cases p : 0 ≤ v d <;> by_cases q : v d ≤ 1 <;> simp [p, q] <;> rfl
  rw [e, bit_real, EReal.coe_lt_coe_iff]
  by_cases p : 0 ≤ v d ∧ v d ≤ 1
  · simp only [p, if_true, and_self, iff_true]; norm_num
  · simp only [p, if_false, iff_false]; norm_num

theorem unit_at {a : FVec Ideal S4x4096 .f32} {v : Fin 4 → ℝ} (h : T4 a t v) : T4 (unit a) t (fun d => cl (v d)) := by
  intro d
  unfold T4 at h
  pointwise [unit, fill]
  rw [h, ← EReal.coe_zero, ← EReal.coe_one, max_real, min_real]
  rfl

theorem count9_at {a : FVec Ideal S36x4096 .f32} {g : ℕ → Fin 4 → ℝ} (h : T36 a t g) : T4 (count9 a) t (fun d => ∑ b ∈ Finset.range 9, g b d) := by
  intro d
  pointwise [count9, count9h]
  rw [h 0 d ⟨d, by omega⟩ (by simp), h 2 d ⟨8 + d, by omega⟩ (by simp), h 4 d ⟨16 + d, by omega⟩ (by simp),
    h 6 d ⟨24 + d, by omega⟩ (by simp), h 8 d ⟨32 + d, by omega⟩ (by simp), h 1 d ⟨4 + d, by omega⟩ (by simp),
    h 3 d ⟨8 + (4 + d), by omega⟩ (by simp; omega), h 5 d ⟨16 + (4 + d), by omega⟩ (by simp; omega),
    h 7 d ⟨24 + (4 + d), by omega⟩ (by simp; omega)]
  simp only [← EReal.coe_add]
  congr 1
  simp only [Finset.sum_range_succ, Finset.sum_range_zero]
  simp
  ring

theorem onehot_at {io : FVec Ideal S40x4096 .f32} {x : FVec Ideal S4x4096 .f32} {k : FVec Ideal S36x4096 .f32} (hio : Bins io) {v : Fin 4 → ℝ}
    (hx : T4 x t v) {U : Fin 4 → Fin 10 → ℝ} (hk : T36 k t (fun k d => knot (U d) (k + 1))) :
    T40 (onehot io x k) t (fun b d => if (b : ℕ) = bin (U d) (v d) then 1 else 0) := by
  have h1 : T36 (atLeast x k) t (fun k d => if knot (U d) (k + 1) ≤ v d then 1 else 0) := fun b d r hr => by
    pointwise [atLeast]
    rw [bit_real, hk b d r hr, rep9_at hx b d r hr]
    simp only [EReal.coe_le_coe_iff]
  have h2 : T4 (count9 (atLeast x k)) t (fun d => (bin (U d) (v d) : ℝ)) := fun d => by
    rw [count9_at h1 d]
    congr 1
    unfold bin
    beta_reduce
    rw [Finset.card_filter, Nat.cast_sum]
    refine Finset.sum_congr rfl fun j _ => ?_
    split <;> simp
  intro b d r hr
  pointwise [onehot]
  rw [bit_real, rep10_at h2 b d r hr, hio r t]
  have e4 : (r : ℕ) / 4 = b := by omega
  simp only [EReal.coe_eq_coe_iff, e4, Nat.cast_inj]

/-! ## The rational quadratic -/

section

variable {x cw w ch h δ θ tq d0 d1 dn l j o : FVec Ideal S4x4096 .f32} {vx vcw vw vch vh vδ vθ vt v0 v1 vn vl vj vo : Fin 4 → ℝ}

theorem divf_at (hx : T4 x t vx) (hw : T4 w t vw) (h0 : ∀ d, vw d ≠ 0) : T4 (divf x w) t (fun d => vx d / vw d) := by
  intro d
  rw [← div_real _ _ (h0 d), ← hx d, ← hw d]; rfl

theorem theta_at (hx : T4 x t vx) (hc : T4 cw t vcw) (hw : T4 w t vw) (h0 : ∀ d, vw d ≠ 0) :
    T4 (theta x cw w) t (fun d => (vx d - vcw d) / vw d) := by
  refine divf_at (x := subf x cw) (vx := fun d => vx d - vcw d) (fun d => ?_) hw h0
  rw [EReal.coe_sub, ← hx d, ← hc d]; rfl

theorem rest_at (hθ : T4 θ t vθ) : T4 (rest θ) t (fun d => 1 - vθ d) := by
  intro d
  pointwise [rest, fill]
  rw [hθ d, EReal.coe_sub, EReal.coe_one]

theorem tm_at (hθ : T4 θ t vθ) : T4 (mulf θ (rest θ)) t (fun d => vθ d * (1 - vθ d)) := by
  intro d
  rw [EReal.coe_mul, ← hθ d, ← rest_at hθ d]; rfl

theorem denom_at (hδ : T4 δ t vδ) (ht : T4 tq t vt) (h0 : T4 d0 t v0) (h1 : T4 d1 t v1) :
    T4 (denom δ tq d0 d1) t (fun d => vδ d + (v0 d + v1 d - 2 * vδ d) * vt d) := by
  intro d
  pointwise [denom, fill]
  rw [hδ d, ht d, h0 d, h1 d, lit_two]
  simp only [← EReal.coe_add, ← EReal.coe_mul, ← EReal.coe_sub]

theorem value_at (hc : T4 ch t vch) (hh : T4 h t vh) (hδ : T4 δ t vδ) (hθ : T4 θ t vθ) (ht : T4 tq t vt) (h0 : T4 d0 t v0)
    (hn : T4 dn t vn) (hz : ∀ d, vn d ≠ 0) :
    T4 (value ch h δ θ tq d0 dn) t (fun d => vch d + vh d * (vδ d * vθ d * vθ d + v0 d * vt d) / vn d) := by
  intro d
  pointwise [value]
  rw [hδ d, ht d, h0 d, hc d, hθ d, hh d, hn d]
  simp only [← EReal.coe_add, ← EReal.coe_mul]
  rw [div_real _ _ (hz d), ← EReal.coe_add]

theorem logdet_at (hδ : T4 δ t vδ) (hθ : T4 θ t vθ) (ht : T4 tq t vt) (h0 : T4 d0 t v0) (h1 : T4 d1 t v1) (hn : T4 dn t vn)
    (hz : ∀ d, 0 < vn d)
    (hp : ∀ d, 0 < vδ d * vδ d * (v1 d * vθ d * vθ d + 2 * vδ d * vt d + v0 d * (1 - vθ d) * (1 - vθ d))) :
    T4 (logdet δ θ tq d0 d1 dn) t (fun d => Real.log (vδ d * vδ d * (v1 d * vθ d * vθ d + 2 * vδ d * vt d + v0 d * (1 - vθ d) * (1 - vθ d)))
      - 2 * Real.log (vn d)) := by
  intro d
  pointwise [logdet, fill, rest]
  rw [hδ d, ht d, h0 d, h1 d, hθ d, hn d, lit_two]
  simp only [← EReal.coe_one, ← EReal.coe_add, ← EReal.coe_mul, ← EReal.coe_sub]
  rw [log_real (hz d), log_real (hp d)]
  simp only [← EReal.coe_mul, ← EReal.coe_sub]

variable {i : IVec S1x4096 1} {P : Prop} [Decidable P]

theorem moved_at (hi : i (ix2 0 t) = BitVec.ofBool (decide P)) (ho : T4 o t vo) (hx : T4 x t vx) :
    T4 (moved i o x) t (fun d => if P then vo d else vx d) := by
  intro d
  pointwise [moved, spread]
  rw [hi, ho d, hx d]
  by_cases p : P <;> simp [p, Scalar.select]

theorem gained_at (hi : i (ix2 0 t) = BitVec.ofBool (decide P)) (hl : T4 l t vl) (hj : T4 j t vj) :
    T4 (gained i l j) t (fun d => vj d + if P then vl d else 0) := by
  intro d
  pointwise [gained, spread, fill]
  rw [hi, hl d, hj d, EReal.coe_add]
  by_cases p : P <;> simp [p, Scalar.select]

theorem total_at (hj : T4 j t vj) : T1 (total j) t (∑ d, vj d) := by
  unfold T4 at hj
  unfold T1
  pointwise [total]
  simp only [hj, coe_sum]

end

/-! ## Rows -/

section

variable {X : FVec Ideal S8x4096 .f32} {y : Fin 8 → ℝ} (hX : T8 X t y)
include hX

theorem row0_at : T1 (row0 X) t (y 0) := by unfold T1; pointwise [row0]; exact hX 0
theorem row1_at : T1 (row1 X) t (y 1) := by unfold T1; pointwise [row1]; exact hX 1
theorem row2_at : T1 (row2 X) t (y 2) := by unfold T1; pointwise [row2]; exact hX 2
theorem row3_at : T1 (row3 X) t (y 3) := by unfold T1; pointwise [row3]; exact hX 3
theorem row4_at : T1 (row4 X) t (y 4) := by unfold T1; pointwise [row4]; exact hX 4
theorem row5_at : T1 (row5 X) t (y 5) := by unfold T1; pointwise [row5]; exact hX 5
theorem row6_at : T1 (row6 X) t (y 6) := by unfold T1; pointwise [row6]; exact hX 6
theorem row7_at : T1 (row7 X) t (y 7) := by unfold T1; pointwise [row7]; exact hX 7

end

section

variable {X : FVec Ideal S4x4096 .f32} {y : Fin 4 → ℝ} (hX : T4 X t y)
include hX

theorem four0_at : T1 (four0 X) t (y 0) := by unfold T1; pointwise [four0]; exact hX 0
theorem four1_at : T1 (four1 X) t (y 1) := by unfold T1; pointwise [four1]; exact hX 1
theorem four2_at : T1 (four2 X) t (y 2) := by unfold T1; pointwise [four2]; exact hX 2
theorem four3_at : T1 (four3 X) t (y 3) := by unfold T1; pointwise [four3]; exact hX 3

end

theorem stack4_at {p q r s : FVec Ideal S1x4096 .f32} {y : Fin 4 → ℝ} (h0 : T1 p t (y 0)) (h1 : T1 q t (y 1)) (h2 : T1 r t (y 2))
    (h3 : T1 s t (y 3)) : T4 (stack4 p q r s) t y := by
  intro k
  unfold T1 at h0 h1 h2 h3
  fin_cases k <;> · pointwise [stack4]; simp [h0, h1, h2, h3]

theorem stack8_at {p q r s u v w z : FVec Ideal S1x4096 .f32} {y : Fin 8 → ℝ} (h0 : T1 p t (y 0)) (h1 : T1 q t (y 1)) (h2 : T1 r t (y 2))
    (h3 : T1 s t (y 3)) (h4 : T1 u t (y 4)) (h5 : T1 v t (y 5)) (h6 : T1 w t (y 6)) (h7 : T1 z t (y 7)) :
    T8 (stack8 p q r s u v w z) t y := by
  intro k
  unfold T1 at h0 h1 h2 h3 h4 h5 h6 h7
  fin_cases k <;> · pointwise [stack8]; simp [h0, h1, h2, h3, h4, h5, h6, h7]

end Cert.KernelIdeal.Stage

end
-- ==== Proof.Core.lean ====
module

public import proofs.«01_k».proof.Proof.StageMore

@[expose] public section

noncomputable section

/-! One coupling block of the kernel read one sample at a time. -/

namespace Cert.KernelIdeal.Stage

open Idealize.ShloMosaic Idealize.SL.Sem Cert.KernelIdeal.Gen Cert.Flow

/-- Where the kernel's row `r` of logits comes from. -/
def perm (r : Fin 124) : Fin 124 :=
  if h : (r : ℕ) < 40 then ⟨31 * (r % 4) + r / 4, by omega⟩
  else if h : (r : ℕ) < 80 then ⟨31 * (r % 4) + 10 + (r - 40) / 4, by omega⟩
  else ⟨31 * (r % 4) + 20 + (r - 80) / 4, by omega⟩

theorem perm_low : ∀ r : Fin 124, r.val < 80 → (perm r).val % 31 < 20 := by decide +kernel

theorem perm_w (b : Fin 10) (d : Fin 4) : perm ⟨4 * b + d, by omega⟩ = ⟨31 * d + b, by omega⟩ := by
  unfold perm
  rw [dif_pos (by simp only; omega)]
  apply Fin.ext; simp only; omega

theorem perm_h (b : Fin 10) (d : Fin 4) : perm ⟨40 + 4 * b + d, by omega⟩ = ⟨31 * d + 10 + b, by omega⟩ := by
  unfold perm
  rw [dif_neg (by simp only; omega), dif_pos (by simp only; omega)]
  apply Fin.ext; simp only; omega

theorem perm_d (k : ℕ) (hk : k < 11) (d : Fin 4) : perm ⟨80 + 4 * k + d, by omega⟩ = ⟨31 * d + 20 + k, by omega⟩ := by
  unfold perm
  rw [dif_neg (by simp only; omega), dif_neg (by simp only; omega)]
  apply Fin.ext; simp only; omega

variable {t : Fin 4096}

/-- The weights of one block, in the kernel's layout, are those of the specification's block `i`. -/
structure Wts (p : Par) (i : Fin 6) (w1 l1 : FVec Ideal S32x8 .bf16) (b1 : FVec Ideal S32x1 .f32) (w2 l2 : FVec Ideal S32x32 .bf16)
    (b2 : FVec Ideal S32x1 .f32) (w3 l3 : FVec Ideal S124x32 .bf16) (b3 : FVec Ideal S124x1 .f32) : Prop where
  hw1 : ∀ r k, w1 (ix2 r k) = ((p.W1 i k r : ℝ) : EReal)
  hl1 : ∀ r k, l1 (ix2 r k) = 0
  hb1 : ∀ r, b1 (ix2 r 0) = ((p.b1 i r : ℝ) : EReal)
  hw2 : ∀ r k, w2 (ix2 r k) = ((p.W2 i k r : ℝ) : EReal)
  hl2 : ∀ r k, l2 (ix2 r k) = 0
  hb2 : ∀ r, b2 (ix2 r 0) = ((p.b2 i r : ℝ) : EReal)
  hw3 : ∀ r k, w3 (ix2 r k) = ((p.W3 i k (perm r) : ℝ) : EReal)
  hl3 : ∀ r k, l3 (ix2 r k) = 0
  hb3 : ∀ r, b3 (ix2 r 0) = ((p.b3 i (perm r) : ℝ) : EReal)

theorem net_at {p : Par} {i : Fin 6} {w1 l1 : FVec Ideal S32x8 .bf16} {b1 : FVec Ideal S32x1 .f32} {w2 l2 : FVec Ideal S32x32 .bf16}
    {b2 : FVec Ideal S32x1 .f32} {w3 l3 : FVec Ideal S124x32 .bf16} {b3 : FVec Ideal S124x1 .f32} (W : Wts p i w1 l1 b1 w2 l2 b2 w3 l3 b3)
    {a : FVec Ideal S8x4096 .f32} {p1 a1 p2 a2 : FVec Ideal S32x4096 .f32} {so : FVec Ideal S124x4096 .f32} {y : Fin 8 → ℝ} {c : Fin 4 → ℝ}
    (ha : T8 a t (netin i y c)) (e1 : p1 = layer1 a w1 l1 b1) (e2 : a1 = leak p1) (e3 : p2 = layer2 a1 w2 l2 b2) (e4 : a2 = leak p2)
    (e5 : so = layer3 a2 w3 l3 b3) : T124 so t (fun r => lg p i y c (perm r)) := by
  subst e1 e2 e3 e4 e5
  have h1 := leak_at (layer1_at ha W.hw1 W.hl1 W.hb1)
  have h2 := leak_at (layer2_at h1 W.hw2 W.hl2 W.hb2)
  exact layer3_at (W := fun k r => p.W3 i k (perm r)) (B := fun r => p.b3 i (perm r)) h2 W.hw3 W.hl3 W.hb3

theorem core_at {kv : FVec Ideal S36x4096 .f32} {m : FVec Ideal S36x40 .bf16} {io : FVec Ideal S40x4096 .f32} (hk : Least kv) (hm : Tri m) (hio : Bins io)
    {so : FVec Ideal S124x4096 .f32} {L : Fin 124 → ℝ} (hs : T124 so t (fun r => L (perm r))) (hL : ∀ j : Fin 124, j.val % 31 < 20 → |L j| ≤ 60)
    {x : FVec Ideal S4x4096 .f32} {v : Fin 4 → ℝ} (hx : T4 x t v) {j : FVec Ideal S4x4096 .f32} {vj : Fin 4 → ℝ} (hj : T4 j t vj)
    {ew eh oh sw sh : FVec Ideal S40x4096 .f32} {ld kw kh dd : FVec Ideal S44x4096 .f32} {iw ih : FVec Ideal S36x4096 .f32} {ii : IVec S1x4096 1}
    {un cw bw ch bh d0 d1 δ θ tq dn va lo mo ga : FVec Ideal S4x4096 .f32}
    (e222 : ew = expW so) (e228 : eh = expH so) (e229 : ld = logD so) (e273 : iw = inner kv m ew) (e279 : ih = inner kv m eh)
    (e282 : kw = knots iw) (e283 : kh = knots ih) (e295 : dd = derivs ld) (e311 : ii = inside x) (e315 : un = unit x)
    (e337 : oh = onehot io un iw) (e340 : sw = sizes kw) (e343 : sh = sizes kh) (e357 : cw = pick oh (below kw)) (e370 : bw = pick oh sw)
    (e384 : ch = pick oh (below kh)) (e397 : bh = pick oh sh) (e411 : d0 = pick oh (below dd)) (e425 : d1 = pick oh (above dd))
    (e426 : δ = divf bh bw) (e428 : θ = theta un cw bw) (e431 : tq = mulf θ (rest θ)) (e442 : dn = denom δ tq d0 d1)
    (e444 : va = value ch bh δ θ tq d0 dn) (e464 : lo = logdet δ θ tq d0 d1 dn) (e467 : mo = Stage.moved ii va x) (e472 : ga = Stage.gained ii lo j) :
    T4 mo t (Flow.moved L v) ∧ T4 ga t (fun d => vj d + Flow.gained L v d) := by
  have h0 : ∀ d, 0 ≤ cl (v d) := fun d => cl_nonneg _
  have h1 : ∀ d, cl (v d) ≤ 1 := fun d => cl_le _
  have hn : ∀ d, bin (lgW L d) (cl (v d)) ≤ 9 := fun d => bin_le _ _
  have t222 : T40 ew t (fun b d => Real.exp (lgW L d b)) := by
    have := expW_at hs (fun j hj => hL (perm j) (perm_low j hj))
    simp only [perm_w] at this
    rw [e222]; exact this
  have t228 : T40 eh t (fun b d => Real.exp (lgH L d b)) := by
    have := expH_at hs (fun j hj => hL (perm j) (perm_low j hj))
    simp only [perm_h] at this
    rw [e228]; exact this
  have t229 : T44 ld t (fun k d => lgD L d k) := by
    have := logD_at hs
    intro b d r hr
    rw [e229, this b d r hr]
    have hb := b.2
    simp only [hb, dif_pos, perm_d _ hb, lgD]
  have t273 : T36 iw t (fun k d => knot (lgW L d) (k + 1)) := by rw [e273]; exact inner_at hk hm t222
  have t279 : T36 ih t (fun k d => knot (lgH L d) (k + 1)) := by rw [e279]; exact inner_at hk hm t228
  have t282 : T44 kw t (fun k d => knot (lgW L d) k) := by rw [e282]; exact knots_at t273
  have t283 : T44 kh t (fun k d => knot (lgH L d) k) := by rw [e283]; exact knots_at t279
  have t295 : T44 dd t (fun k d => slope (lgD L d k)) := by rw [e295]; exact derivs_at t229
  have t315 : T4 un t (fun d => cl (v d)) := by rw [e315]; exact unit_at hx
  have t337 : T40 oh t (fun b d => if (b : ℕ) = bin (lgW L d) (cl (v d)) then 1 else 0) := by rw [e337]; exact onehot_at hio t315 t273
  have t340 : T40 sw t (fun b d => wid (lgW L d) b) := by rw [e340]; exact sizes_at t282
  have t343 : T40 sh t (fun b d => wid (lgH L d) b) := by rw [e343]; exact sizes_at t283
  have t357 : T4 cw t (fun d => knot (lgW L d) (bin (lgW L d) (cl (v d)))) := by
    rw [e357]; exact pick_at (g := fun k d => knot (lgW L d) k) hn t337 (below_at t282)
  have t370 : T4 bw t (fun d => wid (lgW L d) (bin (lgW L d) (cl (v d)))) := by
    rw [e370]; exact pick_at (g := fun k d => wid (lgW L d) k) hn t337 t340
  have t384 : T4 ch t (fun d => knot (lgH L d) (bin (lgW L d) (cl (v d)))) := by
    rw [e384]; exact pick_at (g := fun k d => knot (lgH L d) k) hn t337 (below_at t283)
  have t397 : T4 bh t (fun d => wid (lgH L d) (bin (lgW L d) (cl (v d)))) := by
    rw [e397]; exact pick_at (g := fun k d => wid (lgH L d) k) hn t337 t343
  have t411 : T4 d0 t (fun d => slope (lgD L d (bin (lgW L d) (cl (v d))))) := by
    rw [e411]; exact pick_at (g := fun k d => slope (lgD L d k)) hn t337 (below_at t295)
  have t425 : T4 d1 t (fun d => slope (lgD L d (bin (lgW L d) (cl (v d)) + 1))) := by
    rw [e425]; exact pick_at (g := fun k d => slope (lgD L d (k + 1))) hn t337 (above_at t295)
  have wz : ∀ d, wid (lgW L d) (bin (lgW L d) (cl (v d))) ≠ 0 := fun d => (wid_pos _ _ (hn d)).ne'
  have t426 : T4 δ t (fun d => del (lgW L d) (lgH L d) (cl (v d))) := by rw [e426]; exact divf_at t397 t370 wz
  have t428 : T4 θ t (fun d => th (lgW L d) (cl (v d))) := by rw [e428]; exact theta_at t315 t357 t370 wz
  have t431 : T4 tq t (fun d => tm (lgW L d) (cl (v d))) := by rw [e431]; exact tm_at t428
  have t442 : T4 dn t (fun d => den (lgW L d) (lgH L d) (lgD L d) (cl (v d))) := by rw [e442]; exact denom_at t426 t431 t411 t425
  have dp : ∀ d, 0 < den (lgW L d) (lgH L d) (lgD L d) (cl (v d)) := fun d => den_pos _ _ _ (h0 d) (h1 d)
  have t444 : T4 va t (fun d => outv (lgW L d) (lgH L d) (lgD L d) (cl (v d))) := by
    rw [e444]; exact value_at t384 t397 t426 t428 t431 t411 t442 (fun d => (dp d).ne')
  have t464 : T4 lo t (fun d => ladv (lgW L d) (lgH L d) (lgD L d) (cl (v d))) := by
    rw [e464]; exact logdet_at t426 t428 t431 t411 t425 t442 dp (fun d => dnum_pos (lgW L d) (lgH L d) (lgD L d) (h0 d) (h1 d))
  classical
  have hi := inside_at hx
  rw [← e311] at hi
  constructor
  · rw [e467]
    have := moved_at hi t444 hx
    intro d
    rw [this d]
    unfold Flow.moved
    congr
  · rw [e472]
    have := gained_at hi t464 hj
    intro d
    rw [this d]
    unfold Flow.gained
    congr

end Cert.KernelIdeal.Stage

end
-- ==== Proof.Chain0.lean ====
module

public import proofs.«01_k».proof.Proof.Stage
public import proofs.«01_k».proof.Proof.Gen.KernelIdeal.Frame.RunA

@[expose] public section

noncomputable section

/-! Each value of the kernel's body in coupling blocks 0 and 1 is the named step of `Stage.lean` on the values before it. -/

namespace Cert.KernelIdeal.Chain

open Idealize.ShloMosaic Idealize.SL.Sem Cert.KernelIdeal.Gen Cert.KernelIdeal.Stage

variable {F : FTy → Type} [FloatOps F] [Named F]

variable {c : Dev nD} {arg1 : Memref sig .tc .vmem S8x4096 .f32} {harg1 : arg1.IsWhole} {arg2 : Memref sig .tc .vmem S4x4096 .f32} {harg2 : arg2.IsWhole} {arg3 : Memref sig .tc .vmem S6x32x8 .bf16} {harg3 : arg3.IsWhole} {arg4 : Memref sig .tc .vmem S6x32x8 .bf16} {harg4 : arg4.IsWhole} {arg5 : Memref sig .tc .vmem S6x32x1 .f32} {harg5 : arg5.IsWhole} {arg6 : Memref sig .tc .vmem S6x32x32 .bf16} {harg6 : arg6.IsWhole} {arg7 : Memref sig .tc .vmem S6x32x32 .bf16} {harg7 : arg7.IsWhole} {arg8 : Memref sig .tc .vmem S6x32x1 .f32} {harg8 : arg8.IsWhole} {arg9 : Memref sig .tc .vmem S6x124x32 .bf16} {harg9 : arg9.IsWhole} {arg10 : Memref sig .tc .vmem S6x124x32 .bf16} {harg10 : arg10.IsWhole} {arg11 : Memref sig .tc .vmem S6x124x1 .f32} {harg11 : arg11.IsWhole} {x0 : Vec F S8x4096 .f32} {x1 : Vec F S4x4096 .f32} {x2 : Vec F S6x32x8 .bf16} {x3 : Vec F S6x32x8 .bf16} {x4 : Vec F S6x32x1 .f32} {x5 : Vec F S6x32x32 .bf16} {x6 : Vec F S6x32x32 .bf16} {x7 : Vec F S6x32x1 .f32} {x8 : Vec F S6x124x32 .bf16} {x9 : Vec F S6x124x32 .bf16} {x10 : Vec F S6x124x1 .f32}

theorem b0_155 : kernelRun0_A.sl.v155 c arg1 harg1 arg2 harg2 x0 x1 = netIn (row1 (kernelRun0_A.sl.v147 c arg1 harg1 x0)) (row3 (kernelRun0_A.sl.v147 c arg1 harg1 x0)) (row5 (kernelRun0_A.sl.v147 c arg1 harg1 x0)) (row7 (kernelRun0_A.sl.v147 c arg1 harg1 x0)) (kernelRun0_A.sl.v149 c arg2 harg2 x1) := rfl

theorem b0_172 : kernelRun0_A.sl.v172 c arg1 harg1 arg2 harg2 arg3 harg3 arg4 harg4 arg5 harg5 x0 x1 x2 x3 x4 = layer1 (kernelRun0_A.sl.v155 c arg1 harg1 arg2 harg2 x0 x1) (kernelRun0_A.sl.v157 c arg3 harg3 x2) (kernelRun0_A.sl.v159 c arg4 harg4 x3) (kernelRun0_A.sl.v170 c arg5 harg5 x4) := rfl

theorem b0_177 : kernelRun0_A.sl.v177 c arg1 harg1 arg2 harg2 arg3 harg3 arg4 harg4 arg5 harg5 x0 x1 x2 x3 x4 = leak (kernelRun0_A.sl.v172 c arg1 harg1 arg2 harg2 arg3 harg3 arg4 harg4 arg5 harg5 x0 x1 x2 x3 x4) := rfl

theorem b0_194 : kernelRun0_A.sl.v194 c arg1 harg1 arg2 harg2 arg3 harg3 arg4 harg4 arg5 harg5 arg6 harg6 arg7 harg7 arg8 harg8 x0 x1 x2 x3 x4 x5 x6 x7 = layer2 (kernelRun0_A.sl.v177 c arg1 harg1 arg2 harg2 arg3 harg3 arg4 harg4 arg5 harg5 x0 x1 x2 x3 x4) (kernelRun0_A.sl.v179 c arg6 harg6 x5) (kernelRun0_A.sl.v181 c arg7 harg7 x6) (kernelRun0_A.sl.v192 c arg8 harg8 x7) := rfl

theorem b0_199 : kernelRun0_A.sl.v199 c arg1 harg1 arg2 harg2 arg3 harg3 arg4 harg4 arg5 harg5 arg6 harg6 arg7 harg7 arg8 harg8 x0 x1 x2 x3 x4 x5 x6 x7 = leak (kernelRun0_A.sl.v194 c arg1 harg1 arg2 harg2 arg3 harg3 arg4 harg4 arg5 harg5 arg6 harg6 arg7 harg7 arg8 harg8 x0 x1 x2 x3 x4 x5 x6 x7) := rfl

theorem b0_216 : kernelRun0_A.sl.v216 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer3 (kernelRun0_A.sl.v199 c arg1 harg1 arg2 harg2 arg3 harg3 arg4 harg4 arg5 harg5 arg6 harg6 arg7 harg7 arg8 harg8 x0 x1 x2 x3 x4 x5 x6 x7) (kernelRun0_A.sl.v201 c arg9 harg9 x8) (kernelRun0_A.sl.v203 c arg10 harg10 x9) (kernelRun0_A.sl.v214 c arg11 harg11 x10) := rfl

theorem b0_222 : kernelRun0_A.sl.v222 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expW (kernelRun0_A.sl.v216 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_228 : kernelRun0_A.sl.v228 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expH (kernelRun0_A.sl.v216 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_229 : kernelRun0_A.sl.v229 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logD (kernelRun0_A.sl.v216 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_273 : kernelRun0_A.sl.r c arg1 harg1 arg2 harg2 arg3 harg3 arg4 harg4 arg5 harg5 arg6 harg6 arg7 harg7 arg8 harg8 arg9 harg9 arg10 harg10 arg11 harg11 x0 x1 x2 x3 x4 x5 x6 x7 x8 x9 x10 = inner (kernelRun0_A.sl.v55 (F := F)) (kernelRun0_A.sl.v145 (F := F)) (kernelRun0_A.sl.v222 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_282 : kernelRun0_A.sl.r_1 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (kernelRun0_A.sl.r c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_283 : kernelRun0_A.sl.r_2 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (inner (kernelRun0_A.sl.v55 (F := F)) (kernelRun0_A.sl.v145 (F := F)) (kernelRun0_A.sl.v228 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b0_295 : kernelRun0_A.sl.r_3 c arg1 harg1 arg2 harg2 arg3 harg3 arg4 harg4 arg5 harg5 arg6 harg6 arg7 harg7 arg8 harg8 arg9 harg9 arg10 harg10 arg11 harg11 x0 x1 x2 x3 x4 x5 x6 x7 x8 x9 x10 = derivs (kernelRun0_A.sl.v229 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_300 : kernelRun0_A.sl.r_4 c arg1 harg1 x0 = stack4 (row0 (kernelRun0_A.sl.v147 c arg1 harg1 x0)) (row2 (kernelRun0_A.sl.v147 c arg1 harg1 x0)) (row4 (kernelRun0_A.sl.v147 c arg1 harg1 x0)) (row6 (kernelRun0_A.sl.v147 c arg1 harg1 x0)) := rfl

theorem b0_311 : kernelRun0_A.sl.v311 c arg1 harg1 x0 = inside (kernelRun0_A.sl.r_4 c arg1 harg1 x0) := rfl

theorem b0_315 : kernelRun0_A.sl.v315 c arg1 harg1 x0 = unit (kernelRun0_A.sl.r_4 c arg1 harg1 x0) := rfl

theorem b0_337 : kernelRun0_A.sl.v337 c arg1 harg1 arg2 harg2 arg3 harg3 arg4 harg4 arg5 harg5 arg6 harg6 arg7 harg7 arg8 harg8 arg9 harg9 arg10 harg10 arg11 harg11 x0 x1 x2 x3 x4 x5 x6 x7 x8 x9 x10 = onehot (kernelRun0_A.sl.v25 (F := F)) (kernelRun0_A.sl.v315 c arg1 harg1 x0) (kernelRun0_A.sl.r c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_340 : kernelRun0_A.sl.v340 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_1 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_343 : kernelRun0_A.sl.v343 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_2 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_357 : kernelRun0_A.sl.v357 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v337 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_1 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b0_370 : kernelRun0_A.sl.v370 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v337 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v340 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_384 : kernelRun0_A.sl.v384 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v337 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_2 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b0_397 : kernelRun0_A.sl.v397 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v337 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v343 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_411 : kernelRun0_A.sl.v411 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v337 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_3 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b0_425 : kernelRun0_A.sl.v425 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v337 c arg1 harg1 arg2 harg2 arg3 harg3 arg4 harg4 arg5 harg5 arg6 harg6 arg7 harg7 arg8 harg8 arg9 harg9 arg10 harg10 arg11 harg11 x0 x1 x2 x3 x4 x5 x6 x7 x8 x9 x10) (above (kernelRun0_A.sl.r_3 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b0_426 : kernelRun0_A.sl.v426 c arg1 harg1 arg2 harg2 arg3 harg3 arg4 harg4 arg5 harg5 arg6 harg6 arg7 harg7 arg8 harg8 arg9 harg9 arg10 harg10 arg11 harg11 x0 x1 x2 x3 x4 x5 x6 x7 x8 x9 x10 = divf (kernelRun0_A.sl.v397 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v370 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_428 : kernelRun0_A.sl.v428 c arg1 harg1 arg2 harg2 arg3 harg3 arg4 harg4 arg5 harg5 arg6 harg6 arg7 harg7 arg8 harg8 arg9 harg9 arg10 harg10 arg11 harg11 x0 x1 x2 x3 x4 x5 x6 x7 x8 x9 x10 = theta (kernelRun0_A.sl.v315 c arg1 harg1 x0) (kernelRun0_A.sl.v357 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v370 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_431 : kernelRun0_A.sl.v431 c arg1 harg1 arg2 harg2 arg3 harg3 arg4 harg4 arg5 harg5 arg6 harg6 arg7 harg7 arg8 harg8 arg9 harg9 arg10 harg10 arg11 harg11 x0 x1 x2 x3 x4 x5 x6 x7 x8 x9 x10 = mulf (kernelRun0_A.sl.v428 c arg1 harg1 arg2 harg2 arg3 harg3 arg4 harg4 arg5 harg5 arg6 harg6 arg7 harg7 arg8 harg8 arg9 harg9 arg10 harg10 arg11 harg11 x0 x1 x2 x3 x4 x5 x6 x7 x8 x9 x10) (rest (kernelRun0_A.sl.v428 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b0_442 : kernelRun0_A.sl.v442 c arg1 harg1 arg2 harg2 arg3 harg3 arg4 harg4 arg5 harg5 arg6 harg6 arg7 harg7 arg8 harg8 arg9 harg9 arg10 harg10 arg11 harg11 x0 x1 x2 x3 x4 x5 x6 x7 x8 x9 x10 = denom (kernelRun0_A.sl.v426 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v431 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v411 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v425 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_444 : kernelRun0_A.sl.v444 c arg1 harg1 arg2 harg2 arg3 harg3 arg4 harg4 arg5 harg5 arg6 harg6 arg7 harg7 arg8 harg8 arg9 harg9 arg10 harg10 arg11 harg11 x0 x1 x2 x3 x4 x5 x6 x7 x8 x9 x10 = value (kernelRun0_A.sl.v384 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v397 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v426 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v428 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v431 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v411 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v442 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_464 : kernelRun0_A.sl.v464 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logdet (kernelRun0_A.sl.v426 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v428 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v431 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v411 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v425 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v442 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b0_467 : kernelRun0_A.sl.v467 c arg1 harg1 arg2 harg2 arg3 harg3 arg4 harg4 arg5 harg5 arg6 harg6 arg7 harg7 arg8 harg8 arg9 harg9 arg10 harg10 arg11 harg11 x0 x1 x2 x3 x4 x5 x6 x7 x8 x9 x10 = moved (kernelRun0_A.sl.v311 c arg1 harg1 x0) (kernelRun0_A.sl.v444 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_4 c arg1 harg1 x0) := rfl

theorem b0_472 : kernelRun0_A.sl.v472 c arg1 harg1 arg2 harg2 arg3 harg3 arg4 harg4 arg5 harg5 arg6 harg6 arg7 harg7 arg8 harg8 arg9 harg9 arg10 harg10 arg11 harg11 x0 x1 x2 x3 x4 x5 x6 x7 x8 x9 x10 = gained (kernelRun0_A.sl.v311 c arg1 harg1 x0) (kernelRun0_A.sl.v464 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v150 (F := F)) := rfl

theorem b0_481 : kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10 = stack8 (four0 (kernelRun0_A.sl.v467 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row1 (kernelRun0_A.sl.v147 c arg1 harg1 x0)) (four1 (kernelRun0_A.sl.v467 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row3 (kernelRun0_A.sl.v147 c arg1 harg1 x0)) (four2 (kernelRun0_A.sl.v467 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row5 (kernelRun0_A.sl.v147 c arg1 harg1 x0)) (four3 (kernelRun0_A.sl.v467 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row7 (kernelRun0_A.sl.v147 c arg1 harg1 x0)) := rfl

theorem b1_155 : kernelRun0_A.sl.v486 c arg1 harg1 arg2 harg2 arg3 harg3 arg4 harg4 arg5 harg5 arg6 harg6 arg7 harg7 arg8 harg8 arg9 harg9 arg10 harg10 arg11 harg11 x0 x1 x2 x3 x4 x5 x6 x7 x8 x9 x10 = netIn (row0 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row2 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row4 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row6 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (kernelRun0_A.sl.v149 c arg2 harg2 x1) := rfl

theorem b1_172 : kernelRun0_A.sl.v503 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer1 (kernelRun0_A.sl.v486 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v488 c arg3 harg3 x2) (kernelRun0_A.sl.v490 c arg4 harg4 x3) (kernelRun0_A.sl.v501 c arg5 harg5 x4) := rfl

theorem b1_177 : kernelRun0_A.sl.v508 c arg1 harg1 arg2 harg2 arg3 harg3 arg4 harg4 arg5 harg5 arg6 harg6 arg7 harg7 arg8 harg8 arg9 harg9 arg10 harg10 arg11 harg11 x0 x1 x2 x3 x4 x5 x6 x7 x8 x9 x10 = leak (kernelRun0_A.sl.v503 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_194 : kernelRun0_A.sl.v525 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer2 (kernelRun0_A.sl.v508 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v510 c arg6 harg6 x5) (kernelRun0_A.sl.v512 c arg7 harg7 x6) (kernelRun0_A.sl.v523 c arg8 harg8 x7) := rfl

theorem b1_199 : kernelRun0_A.sl.v530 c arg1 harg1 arg2 harg2 arg3 harg3 arg4 harg4 arg5 harg5 arg6 harg6 arg7 harg7 arg8 harg8 arg9 harg9 arg10 harg10 arg11 harg11 x0 x1 x2 x3 x4 x5 x6 x7 x8 x9 x10 = leak (kernelRun0_A.sl.v525 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_216 : kernelRun0_A.sl.v547 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer3 (kernelRun0_A.sl.v530 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v532 c arg9 harg9 x8) (kernelRun0_A.sl.v534 c arg10 harg10 x9) (kernelRun0_A.sl.v545 c arg11 harg11 x10) := rfl

theorem b1_222 : kernelRun0_A.sl.v553 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expW (kernelRun0_A.sl.v547 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_228 : kernelRun0_A.sl.v559 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expH (kernelRun0_A.sl.v547 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_229 : kernelRun0_A.sl.v560 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logD (kernelRun0_A.sl.v547 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_273 : kernelRun0_A.sl.v604 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inner (kernelRun0_A.sl.v55 (F := F)) (kernelRun0_A.sl.v145 (F := F)) (kernelRun0_A.sl.v553 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_279 : kernelRun0_A.sl.v610 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inner (kernelRun0_A.sl.v55 (F := F)) (kernelRun0_A.sl.v145 (F := F)) (kernelRun0_A.sl.v559 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_282 : kernelRun0_A.sl.r_6 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (kernelRun0_A.sl.v604 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_283 : kernelRun0_A.sl.r_7 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (kernelRun0_A.sl.v610 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_295 : kernelRun0_A.sl.r_8 c arg1 harg1 arg2 harg2 arg3 harg3 arg4 harg4 arg5 harg5 arg6 harg6 arg7 harg7 arg8 harg8 arg9 harg9 arg10 harg10 arg11 harg11 x0 x1 x2 x3 x4 x5 x6 x7 x8 x9 x10 = derivs (kernelRun0_A.sl.v560 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_300 : kernelRun0_A.sl.r_9 c arg1 harg1 arg2 harg2 arg3 harg3 arg4 harg4 arg5 harg5 arg6 harg6 arg7 harg7 arg8 harg8 arg9 harg9 arg10 harg10 arg11 harg11 x0 x1 x2 x3 x4 x5 x6 x7 x8 x9 x10 = stack4 (row1 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row3 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row5 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row7 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b1_311 : kernelRun0_A.sl.r_10 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inside (kernelRun0_A.sl.r_9 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_315 : kernelRun0_A.sl.r_11 c arg1 harg1 arg2 harg2 arg3 harg3 arg4 harg4 arg5 harg5 arg6 harg6 arg7 harg7 arg8 harg8 arg9 harg9 arg10 harg10 arg11 harg11 x0 x1 x2 x3 x4 x5 x6 x7 x8 x9 x10 = unit (kernelRun0_A.sl.r_9 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_337 : kernelRun0_A.sl.v668 c arg1 harg1 arg2 harg2 arg3 harg3 arg4 harg4 arg5 harg5 arg6 harg6 arg7 harg7 arg8 harg8 arg9 harg9 arg10 harg10 arg11 harg11 x0 x1 x2 x3 x4 x5 x6 x7 x8 x9 x10 = onehot (kernelRun0_A.sl.v25 (F := F)) (kernelRun0_A.sl.r_11 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v604 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_340 : kernelRun0_A.sl.v671 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_6 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_343 : kernelRun0_A.sl.v674 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_7 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_357 : kernelRun0_A.sl.v688 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v668 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_6 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b1_370 : kernelRun0_A.sl.v701 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v668 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v671 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_384 : kernelRun0_A.sl.v715 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v668 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_7 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b1_397 : kernelRun0_A.sl.v728 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v668 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v674 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_411 : kernelRun0_A.sl.v742 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v668 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_8 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b1_425 : kernelRun0_A.sl.v756 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v668 c arg1 harg1 arg2 harg2 arg3 harg3 arg4 harg4 arg5 harg5 arg6 harg6 arg7 harg7 arg8 harg8 arg9 harg9 arg10 harg10 arg11 harg11 x0 x1 x2 x3 x4 x5 x6 x7 x8 x9 x10) (above (kernelRun0_A.sl.r_8 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b1_426 : kernelRun0_A.sl.v757 c arg1 harg1 arg2 harg2 arg3 harg3 arg4 harg4 arg5 harg5 arg6 harg6 arg7 harg7 arg8 harg8 arg9 harg9 arg10 harg10 arg11 harg11 x0 x1 x2 x3 x4 x5 x6 x7 x8 x9 x10 = divf (kernelRun0_A.sl.v728 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v701 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_428 : kernelRun0_A.sl.v759 c arg1 harg1 arg2 harg2 arg3 harg3 arg4 harg4 arg5 harg5 arg6 harg6 arg7 harg7 arg8 harg8 arg9 harg9 arg10 harg10 arg11 harg11 x0 x1 x2 x3 x4 x5 x6 x7 x8 x9 x10 = theta (kernelRun0_A.sl.r_11 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v688 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v701 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_431 : kernelRun0_A.sl.v762 c arg1 harg1 arg2 harg2 arg3 harg3 arg4 harg4 arg5 harg5 arg6 harg6 arg7 harg7 arg8 harg8 arg9 harg9 arg10 harg10 arg11 harg11 x0 x1 x2 x3 x4 x5 x6 x7 x8 x9 x10 = mulf (kernelRun0_A.sl.v759 c arg1 harg1 arg2 harg2 arg3 harg3 arg4 harg4 arg5 harg5 arg6 harg6 arg7 harg7 arg8 harg8 arg9 harg9 arg10 harg10 arg11 harg11 x0 x1 x2 x3 x4 x5 x6 x7 x8 x9 x10) (rest (kernelRun0_A.sl.v759 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b1_442 : kernelRun0_A.sl.v773 c arg1 harg1 arg2 harg2 arg3 harg3 arg4 harg4 arg5 harg5 arg6 harg6 arg7 harg7 arg8 harg8 arg9 harg9 arg10 harg10 arg11 harg11 x0 x1 x2 x3 x4 x5 x6 x7 x8 x9 x10 = denom (kernelRun0_A.sl.v757 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v762 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v742 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v756 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_444 : kernelRun0_A.sl.v775 c arg1 harg1 arg2 harg2 arg3 harg3 arg4 harg4 arg5 harg5 arg6 harg6 arg7 harg7 arg8 harg8 arg9 harg9 arg10 harg10 arg11 harg11 x0 x1 x2 x3 x4 x5 x6 x7 x8 x9 x10 = value (kernelRun0_A.sl.v715 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v728 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v757 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v759 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v762 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v742 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v773 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_464 : kernelRun0_A.sl.v795 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logdet (kernelRun0_A.sl.v757 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v759 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v762 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v742 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v756 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v773 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_467 : kernelRun0_A.sl.v798 c arg1 harg1 arg2 harg2 arg3 harg3 arg4 harg4 arg5 harg5 arg6 harg6 arg7 harg7 arg8 harg8 arg9 harg9 arg10 harg10 arg11 harg11 x0 x1 x2 x3 x4 x5 x6 x7 x8 x9 x10 = moved (kernelRun0_A.sl.r_10 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v775 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_9 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_472 : kernelRun0_A.sl.v803 c arg1 harg1 arg2 harg2 arg3 harg3 arg4 harg4 arg5 harg5 arg6 harg6 arg7 harg7 arg8 harg8 arg9 harg9 arg10 harg10 arg11 harg11 x0 x1 x2 x3 x4 x5 x6 x7 x8 x9 x10 = gained (kernelRun0_A.sl.r_10 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v795 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v472 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b1_481 : kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10 = stack8 (row0 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four0 (kernelRun0_A.sl.v798 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row2 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four1 (kernelRun0_A.sl.v798 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row4 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four2 (kernelRun0_A.sl.v798 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row6 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four3 (kernelRun0_A.sl.v798 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

end Cert.KernelIdeal.Chain

end
-- ==== Proof.Consts.lean ====
module

public import proofs.«01_k».proof.Proof.StageMore
public import proofs.«01_k».proof.Proof.Chain0

@[expose] public section

set_option maxRecDepth 16384

noncomputable section

/-! The three arrays of constants the kernel builds from row numbers. -/

namespace Cert.KernelIdeal.Stage

open Idealize.ShloMosaic Idealize.SL.Sem Cert.KernelIdeal.Gen Cert.Flow

theorem v24_at (r : Fin 40) (t : Fin 4096) : kernelRun0_A.sl.v24 (ix2 r t) = BitVec.ofNat 32 (r / 4) := by
  delta kernelRun0_A.sl.v24 kernelRun0_A.sl.v16 kernelRun0_A.sl.v5 kernelRun0_A.sl.v0 kernelRun0_A.sl.v3 kernelRun0_A.sl.v8
    kernelRun0_A.sl.v15 kernelRun0_A.sl.v20 kernelRun0_A.sl.v23 kernelRun0_A.sl.v1
  pointwise
  clear t
  revert r
  decide +kernel

theorem v50_at (r : Fin 36) (t : Fin 4096) : kernelRun0_A.sl.v50 (ix2 r t) = BitVec.ofNat 32 (r / 4) := by
  delta kernelRun0_A.sl.v50 kernelRun0_A.sl.v42 kernelRun0_A.sl.v31 kernelRun0_A.sl.v26 kernelRun0_A.sl.v29 kernelRun0_A.sl.v34
    kernelRun0_A.sl.v41 kernelRun0_A.sl.v46 kernelRun0_A.sl.v49 kernelRun0_A.sl.v27
  pointwise
  clear t
  revert r
  decide +kernel

theorem v143_at (r : Fin 36) (s : Fin 40) : kernelRun0_A.sl.v143 (ix2 r s)
    = if (r : ℕ) % 4 = s % 4 ∧ (s : ℕ) / 4 < r / 4 + 1 then 1#32 else 0#32 := by
  delta kernelRun0_A.sl.v143 kernelRun0_A.sl.v142 kernelRun0_A.sl.v73 kernelRun0_A.sl.v69 kernelRun0_A.sl.v65 kernelRun0_A.sl.v56
    kernelRun0_A.sl.v60 kernelRun0_A.sl.v67 kernelRun0_A.sl.v63 kernelRun0_A.sl.v62 kernelRun0_A.sl.v72 kernelRun0_A.sl.v89
    kernelRun0_A.sl.v85 kernelRun0_A.sl.v81 kernelRun0_A.sl.v57 kernelRun0_A.sl.v79 kernelRun0_A.sl.v88 kernelRun0_A.sl.v141
    kernelRun0_A.sl.v114 kernelRun0_A.sl.v106 kernelRun0_A.sl.v95 kernelRun0_A.sl.v98 kernelRun0_A.sl.v105 kernelRun0_A.sl.v113
    kernelRun0_A.sl.v138 kernelRun0_A.sl.v130 kernelRun0_A.sl.v119 kernelRun0_A.sl.v122 kernelRun0_A.sl.v137
  pointwise
  revert r s
  decide +kernel

theorem int40 : ∀ r : Fin 40, (BitVec.ofNat 32 (r / 4)).toInt = ((r / 4 : ℕ) : ℤ) := by decide +kernel
theorem int36 : ∀ r : Fin 36, (BitVec.ofNat 32 (r / 4)).toInt = ((r / 4 : ℕ) : ℤ) := by decide +kernel

theorem v25_bins : Bins (kernelRun0_A.sl.v25 (F := Ideal)) := by
  intro r t
  show (((kernelRun0_A.sl.v24 (ix2 r t)).toInt : ℝ) : EReal) = _
  rw [v24_at, int40, Int.cast_natCast]

theorem v55_least : Least (kernelRun0_A.sl.v55 (F := Ideal)) := by
  intro r t
  have e : kernelRun0_A.sl.v55 (F := Ideal) (ix2 r t)
      = ((((kernelRun0_A.sl.v50 (ix2 r t)).toInt : ℝ) : EReal) + FloatOps.ofBits .f32 0x3F800000#32) * FloatOps.ofBits .f32 0x3A83126F#32 := rfl
  rw [e, v50_at, int36, Int.cast_natCast]
  rw [show (FloatOps.ofBits (F := Ideal) .f32 0x3F800000#32 : EReal) = ((1 : ℝ) : EReal) by
      show Ideal.ofBits .f32 0x3F800000#32 = _
      simp [Ideal.ofBits, Ideal.ieee, -EReal.coe_mul]; norm_num,
    show (FloatOps.ofBits (F := Ideal) .f32 0x3A83126F#32 : EReal) = ((mn : ℝ) : EReal) from lit_mn,
    ← EReal.coe_add, ← EReal.coe_mul, Nat.cast_add, Nat.cast_one]

theorem v145_tri : Tri (kernelRun0_A.sl.v145 (F := Ideal)) := by
  intro r s
  show (((kernelRun0_A.sl.v143 (ix2 r s)).toInt : ℝ) : EReal) = _
  rw [v143_at]
  split <;> simp

end Cert.KernelIdeal.Stage

end
-- ==== Proof.Chain1.lean ====
module

public import proofs.«01_k».proof.Proof.Stage
public import proofs.«01_k».proof.Proof.Gen.KernelIdeal.Frame.RunA

@[expose] public section

noncomputable section

/-! Each value of the kernel's body in coupling blocks 2 and 3 is the named step of `Stage.lean` on the values before it. -/

namespace Cert.KernelIdeal.Chain

open Idealize.ShloMosaic Idealize.SL.Sem Cert.KernelIdeal.Gen Cert.KernelIdeal.Stage

variable {F : FTy → Type} [FloatOps F] [Named F]

variable {c : Dev nD} {arg1 : Memref sig .tc .vmem S8x4096 .f32} {harg1 : arg1.IsWhole} {arg2 : Memref sig .tc .vmem S4x4096 .f32} {harg2 : arg2.IsWhole} {arg3 : Memref sig .tc .vmem S6x32x8 .bf16} {harg3 : arg3.IsWhole} {arg4 : Memref sig .tc .vmem S6x32x8 .bf16} {harg4 : arg4.IsWhole} {arg5 : Memref sig .tc .vmem S6x32x1 .f32} {harg5 : arg5.IsWhole} {arg6 : Memref sig .tc .vmem S6x32x32 .bf16} {harg6 : arg6.IsWhole} {arg7 : Memref sig .tc .vmem S6x32x32 .bf16} {harg7 : arg7.IsWhole} {arg8 : Memref sig .tc .vmem S6x32x1 .f32} {harg8 : arg8.IsWhole} {arg9 : Memref sig .tc .vmem S6x124x32 .bf16} {harg9 : arg9.IsWhole} {arg10 : Memref sig .tc .vmem S6x124x32 .bf16} {harg10 : arg10.IsWhole} {arg11 : Memref sig .tc .vmem S6x124x1 .f32} {harg11 : arg11.IsWhole} {x0 : Vec F S8x4096 .f32} {x1 : Vec F S4x4096 .f32} {x2 : Vec F S6x32x8 .bf16} {x3 : Vec F S6x32x8 .bf16} {x4 : Vec F S6x32x1 .f32} {x5 : Vec F S6x32x32 .bf16} {x6 : Vec F S6x32x32 .bf16} {x7 : Vec F S6x32x1 .f32} {x8 : Vec F S6x124x32 .bf16} {x9 : Vec F S6x124x32 .bf16} {x10 : Vec F S6x124x1 .f32}

theorem b2_155 : kernelRun0_A.sl.v817 c arg1 harg1 arg2 harg2 arg3 harg3 arg4 harg4 arg5 harg5 arg6 harg6 arg7 harg7 arg8 harg8 arg9 harg9 arg10 harg10 arg11 harg11 x0 x1 x2 x3 x4 x5 x6 x7 x8 x9 x10 = netIn (row2 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row3 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row6 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row7 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (kernelRun0_A.sl.v149 c arg2 harg2 x1) := rfl

theorem b2_172 : kernelRun0_A.sl.v834 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer1 (kernelRun0_A.sl.v817 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v819 c arg3 harg3 x2) (kernelRun0_A.sl.v821 c arg4 harg4 x3) (kernelRun0_A.sl.v832 c arg5 harg5 x4) := rfl

theorem b2_177 : kernelRun0_A.sl.v839 c arg1 harg1 arg2 harg2 arg3 harg3 arg4 harg4 arg5 harg5 arg6 harg6 arg7 harg7 arg8 harg8 arg9 harg9 arg10 harg10 arg11 harg11 x0 x1 x2 x3 x4 x5 x6 x7 x8 x9 x10 = leak (kernelRun0_A.sl.v834 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_194 : kernelRun0_A.sl.v856 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer2 (kernelRun0_A.sl.v839 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v841 c arg6 harg6 x5) (kernelRun0_A.sl.v843 c arg7 harg7 x6) (kernelRun0_A.sl.v854 c arg8 harg8 x7) := rfl

theorem b2_199 : kernelRun0_A.sl.v861 c arg1 harg1 arg2 harg2 arg3 harg3 arg4 harg4 arg5 harg5 arg6 harg6 arg7 harg7 arg8 harg8 arg9 harg9 arg10 harg10 arg11 harg11 x0 x1 x2 x3 x4 x5 x6 x7 x8 x9 x10 = leak (kernelRun0_A.sl.v856 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_216 : kernelRun0_A.sl.v878 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer3 (kernelRun0_A.sl.v861 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v863 c arg9 harg9 x8) (kernelRun0_A.sl.v865 c arg10 harg10 x9) (kernelRun0_A.sl.v876 c arg11 harg11 x10) := rfl

theorem b2_222 : kernelRun0_A.sl.v884 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expW (kernelRun0_A.sl.v878 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_228 : kernelRun0_A.sl.v890 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expH (kernelRun0_A.sl.v878 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_229 : kernelRun0_A.sl.v891 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logD (kernelRun0_A.sl.v878 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_273 : kernelRun0_A.sl.r_15 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inner (kernelRun0_A.sl.v55 (F := F)) (kernelRun0_A.sl.v145 (F := F)) (kernelRun0_A.sl.v884 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_282 : kernelRun0_A.sl.r_16 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (kernelRun0_A.sl.r_15 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_283 : kernelRun0_A.sl.r_17 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (inner (kernelRun0_A.sl.v55 (F := F)) (kernelRun0_A.sl.v145 (F := F)) (kernelRun0_A.sl.v890 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b2_295 : kernelRun0_A.sl.v957 c arg1 harg1 arg2 harg2 arg3 harg3 arg4 harg4 arg5 harg5 arg6 harg6 arg7 harg7 arg8 harg8 arg9 harg9 arg10 harg10 arg11 harg11 x0 x1 x2 x3 x4 x5 x6 x7 x8 x9 x10 = derivs (kernelRun0_A.sl.v891 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_300 : kernelRun0_A.sl.v962 c arg1 harg1 arg2 harg2 arg3 harg3 arg4 harg4 arg5 harg5 arg6 harg6 arg7 harg7 arg8 harg8 arg9 harg9 arg10 harg10 arg11 harg11 x0 x1 x2 x3 x4 x5 x6 x7 x8 x9 x10 = stack4 (row0 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row1 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row4 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row5 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b2_311 : kernelRun0_A.sl.v973 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inside (kernelRun0_A.sl.v962 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_315 : kernelRun0_A.sl.v977 c arg1 harg1 arg2 harg2 arg3 harg3 arg4 harg4 arg5 harg5 arg6 harg6 arg7 harg7 arg8 harg8 arg9 harg9 arg10 harg10 arg11 harg11 x0 x1 x2 x3 x4 x5 x6 x7 x8 x9 x10 = unit (kernelRun0_A.sl.v962 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_337 : kernelRun0_A.sl.v999 c arg1 harg1 arg2 harg2 arg3 harg3 arg4 harg4 arg5 harg5 arg6 harg6 arg7 harg7 arg8 harg8 arg9 harg9 arg10 harg10 arg11 harg11 x0 x1 x2 x3 x4 x5 x6 x7 x8 x9 x10 = onehot (kernelRun0_A.sl.v25 (F := F)) (kernelRun0_A.sl.v977 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_15 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_340 : kernelRun0_A.sl.v1002 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_16 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_343 : kernelRun0_A.sl.v1005 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_17 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_357 : kernelRun0_A.sl.v1019 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v999 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_16 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b2_370 : kernelRun0_A.sl.v1032 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v999 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1002 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_384 : kernelRun0_A.sl.v1046 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v999 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_17 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b2_397 : kernelRun0_A.sl.v1059 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v999 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1005 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_411 : kernelRun0_A.sl.v1073 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v999 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.v957 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b2_425 : kernelRun0_A.sl.v1087 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v999 c arg1 harg1 arg2 harg2 arg3 harg3 arg4 harg4 arg5 harg5 arg6 harg6 arg7 harg7 arg8 harg8 arg9 harg9 arg10 harg10 arg11 harg11 x0 x1 x2 x3 x4 x5 x6 x7 x8 x9 x10) (above (kernelRun0_A.sl.v957 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b2_426 : kernelRun0_A.sl.v1088 c arg1 harg1 arg2 harg2 arg3 harg3 arg4 harg4 arg5 harg5 arg6 harg6 arg7 harg7 arg8 harg8 arg9 harg9 arg10 harg10 arg11 harg11 x0 x1 x2 x3 x4 x5 x6 x7 x8 x9 x10 = divf (kernelRun0_A.sl.v1059 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1032 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_428 : kernelRun0_A.sl.v1090 c arg1 harg1 arg2 harg2 arg3 harg3 arg4 harg4 arg5 harg5 arg6 harg6 arg7 harg7 arg8 harg8 arg9 harg9 arg10 harg10 arg11 harg11 x0 x1 x2 x3 x4 x5 x6 x7 x8 x9 x10 = theta (kernelRun0_A.sl.v977 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1019 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1032 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_431 : kernelRun0_A.sl.v1093 c arg1 harg1 arg2 harg2 arg3 harg3 arg4 harg4 arg5 harg5 arg6 harg6 arg7 harg7 arg8 harg8 arg9 harg9 arg10 harg10 arg11 harg11 x0 x1 x2 x3 x4 x5 x6 x7 x8 x9 x10 = mulf (kernelRun0_A.sl.v1090 c arg1 harg1 arg2 harg2 arg3 harg3 arg4 harg4 arg5 harg5 arg6 harg6 arg7 harg7 arg8 harg8 arg9 harg9 arg10 harg10 arg11 harg11 x0 x1 x2 x3 x4 x5 x6 x7 x8 x9 x10) (rest (kernelRun0_A.sl.v1090 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b2_442 : kernelRun0_A.sl.v1104 c arg1 harg1 arg2 harg2 arg3 harg3 arg4 harg4 arg5 harg5 arg6 harg6 arg7 harg7 arg8 harg8 arg9 harg9 arg10 harg10 arg11 harg11 x0 x1 x2 x3 x4 x5 x6 x7 x8 x9 x10 = denom (kernelRun0_A.sl.v1088 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1093 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1073 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1087 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_444 : kernelRun0_A.sl.v1106 c arg1 harg1 arg2 harg2 arg3 harg3 arg4 harg4 arg5 harg5 arg6 harg6 arg7 harg7 arg8 harg8 arg9 harg9 arg10 harg10 arg11 harg11 x0 x1 x2 x3 x4 x5 x6 x7 x8 x9 x10 = value (kernelRun0_A.sl.v1046 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1059 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1088 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1090 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1093 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1073 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1104 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_464 : kernelRun0_A.sl.v1126 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logdet (kernelRun0_A.sl.v1088 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1090 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1093 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1073 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1087 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1104 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_467 : kernelRun0_A.sl.v1129 c arg1 harg1 arg2 harg2 arg3 harg3 arg4 harg4 arg5 harg5 arg6 harg6 arg7 harg7 arg8 harg8 arg9 harg9 arg10 harg10 arg11 harg11 x0 x1 x2 x3 x4 x5 x6 x7 x8 x9 x10 = moved (kernelRun0_A.sl.v973 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1106 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v962 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_472 : kernelRun0_A.sl.v1134 c arg1 harg1 arg2 harg2 arg3 harg3 arg4 harg4 arg5 harg5 arg6 harg6 arg7 harg7 arg8 harg8 arg9 harg9 arg10 harg10 arg11 harg11 x0 x1 x2 x3 x4 x5 x6 x7 x8 x9 x10 = gained (kernelRun0_A.sl.v973 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1126 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v803 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b2_481 : kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10 = stack8 (four0 (kernelRun0_A.sl.v1129 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four1 (kernelRun0_A.sl.v1129 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row2 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row3 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four2 (kernelRun0_A.sl.v1129 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four3 (kernelRun0_A.sl.v1129 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row6 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row7 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b3_155 : kernelRun0_A.sl.v1148 c arg1 harg1 arg2 harg2 arg3 harg3 arg4 harg4 arg5 harg5 arg6 harg6 arg7 harg7 arg8 harg8 arg9 harg9 arg10 harg10 arg11 harg11 x0 x1 x2 x3 x4 x5 x6 x7 x8 x9 x10 = netIn (row0 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row1 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row4 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row5 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (kernelRun0_A.sl.v149 c arg2 harg2 x1) := rfl

theorem b3_172 : kernelRun0_A.sl.v1165 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer1 (kernelRun0_A.sl.v1148 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1150 c arg3 harg3 x2) (kernelRun0_A.sl.v1152 c arg4 harg4 x3) (kernelRun0_A.sl.v1163 c arg5 harg5 x4) := rfl

theorem b3_177 : kernelRun0_A.sl.v1170 c arg1 harg1 arg2 harg2 arg3 harg3 arg4 harg4 arg5 harg5 arg6 harg6 arg7 harg7 arg8 harg8 arg9 harg9 arg10 harg10 arg11 harg11 x0 x1 x2 x3 x4 x5 x6 x7 x8 x9 x10 = leak (kernelRun0_A.sl.v1165 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_194 : kernelRun0_A.sl.v1187 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer2 (kernelRun0_A.sl.v1170 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1172 c arg6 harg6 x5) (kernelRun0_A.sl.v1174 c arg7 harg7 x6) (kernelRun0_A.sl.v1185 c arg8 harg8 x7) := rfl

theorem b3_199 : kernelRun0_A.sl.v1192 c arg1 harg1 arg2 harg2 arg3 harg3 arg4 harg4 arg5 harg5 arg6 harg6 arg7 harg7 arg8 harg8 arg9 harg9 arg10 harg10 arg11 harg11 x0 x1 x2 x3 x4 x5 x6 x7 x8 x9 x10 = leak (kernelRun0_A.sl.v1187 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_216 : kernelRun0_A.sl.v1209 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer3 (kernelRun0_A.sl.v1192 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1194 c arg9 harg9 x8) (kernelRun0_A.sl.v1196 c arg10 harg10 x9) (kernelRun0_A.sl.v1207 c arg11 harg11 x10) := rfl

theorem b3_222 : kernelRun0_A.sl.v1215 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expW (kernelRun0_A.sl.v1209 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_228 : kernelRun0_A.sl.v1221 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expH (kernelRun0_A.sl.v1209 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_229 : kernelRun0_A.sl.v1222 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logD (kernelRun0_A.sl.v1209 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_273 : kernelRun0_A.sl.r_19 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inner (kernelRun0_A.sl.v55 (F := F)) (kernelRun0_A.sl.v145 (F := F)) (kernelRun0_A.sl.v1215 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_282 : kernelRun0_A.sl.r_20 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (kernelRun0_A.sl.r_19 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_283 : kernelRun0_A.sl.r_21 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (inner (kernelRun0_A.sl.v55 (F := F)) (kernelRun0_A.sl.v145 (F := F)) (kernelRun0_A.sl.v1221 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b3_295 : kernelRun0_A.sl.r_22 c arg1 harg1 arg2 harg2 arg3 harg3 arg4 harg4 arg5 harg5 arg6 harg6 arg7 harg7 arg8 harg8 arg9 harg9 arg10 harg10 arg11 harg11 x0 x1 x2 x3 x4 x5 x6 x7 x8 x9 x10 = derivs (kernelRun0_A.sl.v1222 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_300 : kernelRun0_A.sl.r_23 c arg1 harg1 arg2 harg2 arg3 harg3 arg4 harg4 arg5 harg5 arg6 harg6 arg7 harg7 arg8 harg8 arg9 harg9 arg10 harg10 arg11 harg11 x0 x1 x2 x3 x4 x5 x6 x7 x8 x9 x10 = stack4 (row2 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row3 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row6 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row7 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b3_311 : kernelRun0_A.sl.v1304 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inside (kernelRun0_A.sl.r_23 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_315 : kernelRun0_A.sl.v1308 c arg1 harg1 arg2 harg2 arg3 harg3 arg4 harg4 arg5 harg5 arg6 harg6 arg7 harg7 arg8 harg8 arg9 harg9 arg10 harg10 arg11 harg11 x0 x1 x2 x3 x4 x5 x6 x7 x8 x9 x10 = unit (kernelRun0_A.sl.r_23 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_337 : kernelRun0_A.sl.v1330 c arg1 harg1 arg2 harg2 arg3 harg3 arg4 harg4 arg5 harg5 arg6 harg6 arg7 harg7 arg8 harg8 arg9 harg9 arg10 harg10 arg11 harg11 x0 x1 x2 x3 x4 x5 x6 x7 x8 x9 x10 = onehot (kernelRun0_A.sl.v25 (F := F)) (kernelRun0_A.sl.v1308 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_19 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_340 : kernelRun0_A.sl.v1333 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_20 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_343 : kernelRun0_A.sl.v1336 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_21 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_357 : kernelRun0_A.sl.v1350 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1330 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_20 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b3_370 : kernelRun0_A.sl.v1363 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1330 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1333 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_384 : kernelRun0_A.sl.v1377 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1330 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_21 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b3_397 : kernelRun0_A.sl.v1390 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1330 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1336 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_411 : kernelRun0_A.sl.v1404 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1330 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_22 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b3_425 : kernelRun0_A.sl.v1418 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1330 c arg1 harg1 arg2 harg2 arg3 harg3 arg4 harg4 arg5 harg5 arg6 harg6 arg7 harg7 arg8 harg8 arg9 harg9 arg10 harg10 arg11 harg11 x0 x1 x2 x3 x4 x5 x6 x7 x8 x9 x10) (above (kernelRun0_A.sl.r_22 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b3_426 : kernelRun0_A.sl.v1419 c arg1 harg1 arg2 harg2 arg3 harg3 arg4 harg4 arg5 harg5 arg6 harg6 arg7 harg7 arg8 harg8 arg9 harg9 arg10 harg10 arg11 harg11 x0 x1 x2 x3 x4 x5 x6 x7 x8 x9 x10 = divf (kernelRun0_A.sl.v1390 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1363 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_428 : kernelRun0_A.sl.v1421 c arg1 harg1 arg2 harg2 arg3 harg3 arg4 harg4 arg5 harg5 arg6 harg6 arg7 harg7 arg8 harg8 arg9 harg9 arg10 harg10 arg11 harg11 x0 x1 x2 x3 x4 x5 x6 x7 x8 x9 x10 = theta (kernelRun0_A.sl.v1308 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1350 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1363 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_431 : kernelRun0_A.sl.v1424 c arg1 harg1 arg2 harg2 arg3 harg3 arg4 harg4 arg5 harg5 arg6 harg6 arg7 harg7 arg8 harg8 arg9 harg9 arg10 harg10 arg11 harg11 x0 x1 x2 x3 x4 x5 x6 x7 x8 x9 x10 = mulf (kernelRun0_A.sl.v1421 c arg1 harg1 arg2 harg2 arg3 harg3 arg4 harg4 arg5 harg5 arg6 harg6 arg7 harg7 arg8 harg8 arg9 harg9 arg10 harg10 arg11 harg11 x0 x1 x2 x3 x4 x5 x6 x7 x8 x9 x10) (rest (kernelRun0_A.sl.v1421 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b3_442 : kernelRun0_A.sl.v1435 c arg1 harg1 arg2 harg2 arg3 harg3 arg4 harg4 arg5 harg5 arg6 harg6 arg7 harg7 arg8 harg8 arg9 harg9 arg10 harg10 arg11 harg11 x0 x1 x2 x3 x4 x5 x6 x7 x8 x9 x10 = denom (kernelRun0_A.sl.v1419 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1424 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1404 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1418 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_444 : kernelRun0_A.sl.v1437 c arg1 harg1 arg2 harg2 arg3 harg3 arg4 harg4 arg5 harg5 arg6 harg6 arg7 harg7 arg8 harg8 arg9 harg9 arg10 harg10 arg11 harg11 x0 x1 x2 x3 x4 x5 x6 x7 x8 x9 x10 = value (kernelRun0_A.sl.v1377 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1390 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1419 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1421 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1424 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1404 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1435 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_464 : kernelRun0_A.sl.v1457 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logdet (kernelRun0_A.sl.v1419 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1421 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1424 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1404 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1418 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1435 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_467 : kernelRun0_A.sl.v1460 c arg1 harg1 arg2 harg2 arg3 harg3 arg4 harg4 arg5 harg5 arg6 harg6 arg7 harg7 arg8 harg8 arg9 harg9 arg10 harg10 arg11 harg11 x0 x1 x2 x3 x4 x5 x6 x7 x8 x9 x10 = moved (kernelRun0_A.sl.v1304 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1437 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_23 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_472 : kernelRun0_A.sl.v1465 c arg1 harg1 arg2 harg2 arg3 harg3 arg4 harg4 arg5 harg5 arg6 harg6 arg7 harg7 arg8 harg8 arg9 harg9 arg10 harg10 arg11 harg11 x0 x1 x2 x3 x4 x5 x6 x7 x8 x9 x10 = gained (kernelRun0_A.sl.v1304 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1457 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1134 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b3_481 : kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10 = stack8 (row0 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row1 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four0 (kernelRun0_A.sl.v1460 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four1 (kernelRun0_A.sl.v1460 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row4 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row5 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four2 (kernelRun0_A.sl.v1460 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four3 (kernelRun0_A.sl.v1460 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

end Cert.KernelIdeal.Chain

end
-- ==== Proof.Chain2.lean ====
module

public import proofs.«01_k».proof.Proof.Stage
public import proofs.«01_k».proof.Proof.Gen.KernelIdeal.Frame.RunA

@[expose] public section

noncomputable section

/-! Each value of the kernel's body in coupling blocks 4 and 5 is the named step of `Stage.lean` on the values before it. -/

namespace Cert.KernelIdeal.Chain

open Idealize.ShloMosaic Idealize.SL.Sem Cert.KernelIdeal.Gen Cert.KernelIdeal.Stage

variable {F : FTy → Type} [FloatOps F] [Named F]

variable {c : Dev nD} {arg1 : Memref sig .tc .vmem S8x4096 .f32} {harg1 : arg1.IsWhole} {arg2 : Memref sig .tc .vmem S4x4096 .f32} {harg2 : arg2.IsWhole} {arg3 : Memref sig .tc .vmem S6x32x8 .bf16} {harg3 : arg3.IsWhole} {arg4 : Memref sig .tc .vmem S6x32x8 .bf16} {harg4 : arg4.IsWhole} {arg5 : Memref sig .tc .vmem S6x32x1 .f32} {harg5 : arg5.IsWhole} {arg6 : Memref sig .tc .vmem S6x32x32 .bf16} {harg6 : arg6.IsWhole} {arg7 : Memref sig .tc .vmem S6x32x32 .bf16} {harg7 : arg7.IsWhole} {arg8 : Memref sig .tc .vmem S6x32x1 .f32} {harg8 : arg8.IsWhole} {arg9 : Memref sig .tc .vmem S6x124x32 .bf16} {harg9 : arg9.IsWhole} {arg10 : Memref sig .tc .vmem S6x124x32 .bf16} {harg10 : arg10.IsWhole} {arg11 : Memref sig .tc .vmem S6x124x1 .f32} {harg11 : arg11.IsWhole} {x0 : Vec F S8x4096 .f32} {x1 : Vec F S4x4096 .f32} {x2 : Vec F S6x32x8 .bf16} {x3 : Vec F S6x32x8 .bf16} {x4 : Vec F S6x32x1 .f32} {x5 : Vec F S6x32x32 .bf16} {x6 : Vec F S6x32x32 .bf16} {x7 : Vec F S6x32x1 .f32} {x8 : Vec F S6x124x32 .bf16} {x9 : Vec F S6x124x32 .bf16} {x10 : Vec F S6x124x1 .f32}

theorem b4_155 : kernelRun0_A.sl.v1479 c arg1 harg1 arg2 harg2 arg3 harg3 arg4 harg4 arg5 harg5 arg6 harg6 arg7 harg7 arg8 harg8 arg9 harg9 arg10 harg10 arg11 harg11 x0 x1 x2 x3 x4 x5 x6 x7 x8 x9 x10 = netIn (row4 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row5 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row6 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row7 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (kernelRun0_A.sl.v149 c arg2 harg2 x1) := rfl

theorem b4_172 : kernelRun0_A.sl.v1496 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer1 (kernelRun0_A.sl.v1479 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1481 c arg3 harg3 x2) (kernelRun0_A.sl.v1483 c arg4 harg4 x3) (kernelRun0_A.sl.v1494 c arg5 harg5 x4) := rfl

theorem b4_177 : kernelRun0_A.sl.v1501 c arg1 harg1 arg2 harg2 arg3 harg3 arg4 harg4 arg5 harg5 arg6 harg6 arg7 harg7 arg8 harg8 arg9 harg9 arg10 harg10 arg11 harg11 x0 x1 x2 x3 x4 x5 x6 x7 x8 x9 x10 = leak (kernelRun0_A.sl.v1496 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_194 : kernelRun0_A.sl.v1518 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer2 (kernelRun0_A.sl.v1501 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1503 c arg6 harg6 x5) (kernelRun0_A.sl.v1505 c arg7 harg7 x6) (kernelRun0_A.sl.v1516 c arg8 harg8 x7) := rfl

theorem b4_199 : kernelRun0_A.sl.v1523 c arg1 harg1 arg2 harg2 arg3 harg3 arg4 harg4 arg5 harg5 arg6 harg6 arg7 harg7 arg8 harg8 arg9 harg9 arg10 harg10 arg11 harg11 x0 x1 x2 x3 x4 x5 x6 x7 x8 x9 x10 = leak (kernelRun0_A.sl.v1518 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_216 : kernelRun0_A.sl.v1540 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer3 (kernelRun0_A.sl.v1523 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1525 c arg9 harg9 x8) (kernelRun0_A.sl.v1527 c arg10 harg10 x9) (kernelRun0_A.sl.v1538 c arg11 harg11 x10) := rfl

theorem b4_222 : kernelRun0_A.sl.v1546 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expW (kernelRun0_A.sl.v1540 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_228 : kernelRun0_A.sl.v1552 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expH (kernelRun0_A.sl.v1540 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_229 : kernelRun0_A.sl.v1553 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logD (kernelRun0_A.sl.v1540 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_273 : kernelRun0_A.sl.v1597 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inner (kernelRun0_A.sl.v55 (F := F)) (kernelRun0_A.sl.v145 (F := F)) (kernelRun0_A.sl.v1546 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_279 : kernelRun0_A.sl.v1603 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inner (kernelRun0_A.sl.v55 (F := F)) (kernelRun0_A.sl.v145 (F := F)) (kernelRun0_A.sl.v1552 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_282 : kernelRun0_A.sl.r_25 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (kernelRun0_A.sl.v1597 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_283 : kernelRun0_A.sl.r_26 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (kernelRun0_A.sl.v1603 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_295 : kernelRun0_A.sl.r_27 c arg1 harg1 arg2 harg2 arg3 harg3 arg4 harg4 arg5 harg5 arg6 harg6 arg7 harg7 arg8 harg8 arg9 harg9 arg10 harg10 arg11 harg11 x0 x1 x2 x3 x4 x5 x6 x7 x8 x9 x10 = derivs (kernelRun0_A.sl.v1553 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_300 : kernelRun0_A.sl.r_28 c arg1 harg1 arg2 harg2 arg3 harg3 arg4 harg4 arg5 harg5 arg6 harg6 arg7 harg7 arg8 harg8 arg9 harg9 arg10 harg10 arg11 harg11 x0 x1 x2 x3 x4 x5 x6 x7 x8 x9 x10 = stack4 (row0 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row1 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row2 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row3 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b4_311 : kernelRun0_A.sl.r_29 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inside (kernelRun0_A.sl.r_28 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_315 : kernelRun0_A.sl.r_30 c arg1 harg1 arg2 harg2 arg3 harg3 arg4 harg4 arg5 harg5 arg6 harg6 arg7 harg7 arg8 harg8 arg9 harg9 arg10 harg10 arg11 harg11 x0 x1 x2 x3 x4 x5 x6 x7 x8 x9 x10 = unit (kernelRun0_A.sl.r_28 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_337 : kernelRun0_A.sl.v1661 c arg1 harg1 arg2 harg2 arg3 harg3 arg4 harg4 arg5 harg5 arg6 harg6 arg7 harg7 arg8 harg8 arg9 harg9 arg10 harg10 arg11 harg11 x0 x1 x2 x3 x4 x5 x6 x7 x8 x9 x10 = onehot (kernelRun0_A.sl.v25 (F := F)) (kernelRun0_A.sl.r_30 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1597 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_340 : kernelRun0_A.sl.v1664 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_25 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_343 : kernelRun0_A.sl.v1667 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_26 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_357 : kernelRun0_A.sl.v1681 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1661 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_25 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b4_370 : kernelRun0_A.sl.v1694 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1661 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1664 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_384 : kernelRun0_A.sl.v1708 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1661 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_26 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b4_397 : kernelRun0_A.sl.v1721 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1661 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1667 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_411 : kernelRun0_A.sl.v1735 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1661 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_27 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b4_425 : kernelRun0_A.sl.v1749 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1661 c arg1 harg1 arg2 harg2 arg3 harg3 arg4 harg4 arg5 harg5 arg6 harg6 arg7 harg7 arg8 harg8 arg9 harg9 arg10 harg10 arg11 harg11 x0 x1 x2 x3 x4 x5 x6 x7 x8 x9 x10) (above (kernelRun0_A.sl.r_27 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b4_426 : kernelRun0_A.sl.v1750 c arg1 harg1 arg2 harg2 arg3 harg3 arg4 harg4 arg5 harg5 arg6 harg6 arg7 harg7 arg8 harg8 arg9 harg9 arg10 harg10 arg11 harg11 x0 x1 x2 x3 x4 x5 x6 x7 x8 x9 x10 = divf (kernelRun0_A.sl.v1721 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1694 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_428 : kernelRun0_A.sl.v1752 c arg1 harg1 arg2 harg2 arg3 harg3 arg4 harg4 arg5 harg5 arg6 harg6 arg7 harg7 arg8 harg8 arg9 harg9 arg10 harg10 arg11 harg11 x0 x1 x2 x3 x4 x5 x6 x7 x8 x9 x10 = theta (kernelRun0_A.sl.r_30 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1681 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1694 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_431 : kernelRun0_A.sl.v1755 c arg1 harg1 arg2 harg2 arg3 harg3 arg4 harg4 arg5 harg5 arg6 harg6 arg7 harg7 arg8 harg8 arg9 harg9 arg10 harg10 arg11 harg11 x0 x1 x2 x3 x4 x5 x6 x7 x8 x9 x10 = mulf (kernelRun0_A.sl.v1752 c arg1 harg1 arg2 harg2 arg3 harg3 arg4 harg4 arg5 harg5 arg6 harg6 arg7 harg7 arg8 harg8 arg9 harg9 arg10 harg10 arg11 harg11 x0 x1 x2 x3 x4 x5 x6 x7 x8 x9 x10) (rest (kernelRun0_A.sl.v1752 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b4_442 : kernelRun0_A.sl.v1766 c arg1 harg1 arg2 harg2 arg3 harg3 arg4 harg4 arg5 harg5 arg6 harg6 arg7 harg7 arg8 harg8 arg9 harg9 arg10 harg10 arg11 harg11 x0 x1 x2 x3 x4 x5 x6 x7 x8 x9 x10 = denom (kernelRun0_A.sl.v1750 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1755 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1735 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1749 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_444 : kernelRun0_A.sl.v1768 c arg1 harg1 arg2 harg2 arg3 harg3 arg4 harg4 arg5 harg5 arg6 harg6 arg7 harg7 arg8 harg8 arg9 harg9 arg10 harg10 arg11 harg11 x0 x1 x2 x3 x4 x5 x6 x7 x8 x9 x10 = value (kernelRun0_A.sl.v1708 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1721 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1750 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1752 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1755 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1735 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1766 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_464 : kernelRun0_A.sl.v1788 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logdet (kernelRun0_A.sl.v1750 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1752 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1755 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1735 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1749 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1766 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_467 : kernelRun0_A.sl.v1791 c arg1 harg1 arg2 harg2 arg3 harg3 arg4 harg4 arg5 harg5 arg6 harg6 arg7 harg7 arg8 harg8 arg9 harg9 arg10 harg10 arg11 harg11 x0 x1 x2 x3 x4 x5 x6 x7 x8 x9 x10 = moved (kernelRun0_A.sl.r_29 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1768 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_28 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_472 : kernelRun0_A.sl.v1796 c arg1 harg1 arg2 harg2 arg3 harg3 arg4 harg4 arg5 harg5 arg6 harg6 arg7 harg7 arg8 harg8 arg9 harg9 arg10 harg10 arg11 harg11 x0 x1 x2 x3 x4 x5 x6 x7 x8 x9 x10 = gained (kernelRun0_A.sl.r_29 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1788 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1465 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b4_481 : kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10 = stack8 (four0 (kernelRun0_A.sl.v1791 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four1 (kernelRun0_A.sl.v1791 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four2 (kernelRun0_A.sl.v1791 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four3 (kernelRun0_A.sl.v1791 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row4 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row5 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row6 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row7 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b5_155 : kernelRun0_A.sl.v1810 c arg1 harg1 arg2 harg2 arg3 harg3 arg4 harg4 arg5 harg5 arg6 harg6 arg7 harg7 arg8 harg8 arg9 harg9 arg10 harg10 arg11 harg11 x0 x1 x2 x3 x4 x5 x6 x7 x8 x9 x10 = netIn (row0 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row1 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row2 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row3 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (kernelRun0_A.sl.v149 c arg2 harg2 x1) := rfl

theorem b5_172 : kernelRun0_A.sl.v1827 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer1 (kernelRun0_A.sl.v1810 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1812 c arg3 harg3 x2) (kernelRun0_A.sl.v1814 c arg4 harg4 x3) (kernelRun0_A.sl.v1825 c arg5 harg5 x4) := rfl

theorem b5_177 : kernelRun0_A.sl.v1832 c arg1 harg1 arg2 harg2 arg3 harg3 arg4 harg4 arg5 harg5 arg6 harg6 arg7 harg7 arg8 harg8 arg9 harg9 arg10 harg10 arg11 harg11 x0 x1 x2 x3 x4 x5 x6 x7 x8 x9 x10 = leak (kernelRun0_A.sl.v1827 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_194 : kernelRun0_A.sl.v1849 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer2 (kernelRun0_A.sl.v1832 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1834 c arg6 harg6 x5) (kernelRun0_A.sl.v1836 c arg7 harg7 x6) (kernelRun0_A.sl.v1847 c arg8 harg8 x7) := rfl

theorem b5_199 : kernelRun0_A.sl.v1854 c arg1 harg1 arg2 harg2 arg3 harg3 arg4 harg4 arg5 harg5 arg6 harg6 arg7 harg7 arg8 harg8 arg9 harg9 arg10 harg10 arg11 harg11 x0 x1 x2 x3 x4 x5 x6 x7 x8 x9 x10 = leak (kernelRun0_A.sl.v1849 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_216 : kernelRun0_A.sl.v1871 c arg1 harg1 arg2 harg2 arg3 harg3 arg4 harg4 arg5 harg5 arg6 harg6 arg7 harg7 arg8 harg8 arg9 harg9 arg10 harg10 arg11 harg11 x0 x1 x2 x3 x4 x5 x6 x7 x8 x9 x10 = layer3 (kernelRun0_A.sl.v1854 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1856 c arg9 harg9 x8) (kernelRun0_A.sl.v1858 c arg10 harg10 x9) (kernelRun0_A.sl.v1869 c arg11 harg11 x10) := rfl

theorem b5_222 : kernelRun0_A.sl.v1877 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expW (kernelRun0_A.sl.v1871 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_228 : kernelRun0_A.sl.v1883 c arg1 harg1 arg2 harg2 arg3 harg3 arg4 harg4 arg5 harg5 arg6 harg6 arg7 harg7 arg8 harg8 arg9 harg9 arg10 harg10 arg11 harg11 x0 x1 x2 x3 x4 x5 x6 x7 x8 x9 x10 = expH (kernelRun0_A.sl.v1871 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_229 : kernelRun0_A.sl.v1884 c arg1 harg1 arg2 harg2 arg3 harg3 arg4 harg4 arg5 harg5 arg6 harg6 arg7 harg7 arg8 harg8 arg9 harg9 arg10 harg10 arg11 harg11 x0 x1 x2 x3 x4 x5 x6 x7 x8 x9 x10 = logD (kernelRun0_A.sl.v1871 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_273 : kernelRun0_A.sl.r_34 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inner (kernelRun0_A.sl.v55 (F := F)) (kernelRun0_A.sl.v145 (F := F)) (kernelRun0_A.sl.v1877 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_282 : kernelRun0_A.sl.r_35 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (kernelRun0_A.sl.r_34 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_283 : kernelRun0_A.sl.r_36 c arg1 harg1 arg2 harg2 arg3 harg3 arg4 harg4 arg5 harg5 arg6 harg6 arg7 harg7 arg8 harg8 arg9 harg9 arg10 harg10 arg11 harg11 x0 x1 x2 x3 x4 x5 x6 x7 x8 x9 x10 = knots (inner (kernelRun0_A.sl.v55 (F := F)) (kernelRun0_A.sl.v145 (F := F)) (kernelRun0_A.sl.v1883 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b5_295 : kernelRun0_A.sl.v1950 c arg1 harg1 arg2 harg2 arg3 harg3 arg4 harg4 arg5 harg5 arg6 harg6 arg7 harg7 arg8 harg8 arg9 harg9 arg10 harg10 arg11 harg11 x0 x1 x2 x3 x4 x5 x6 x7 x8 x9 x10 = derivs (kernelRun0_A.sl.v1884 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_300 : kernelRun0_A.sl.v1955 c arg1 harg1 arg2 harg2 arg3 harg3 arg4 harg4 arg5 harg5 arg6 harg6 arg7 harg7 arg8 harg8 arg9 harg9 arg10 harg10 arg11 harg11 x0 x1 x2 x3 x4 x5 x6 x7 x8 x9 x10 = stack4 (row4 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row5 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row6 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row7 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b5_311 : kernelRun0_A.sl.v1966 c arg1 harg1 arg2 harg2 arg3 harg3 arg4 harg4 arg5 harg5 arg6 harg6 arg7 harg7 arg8 harg8 arg9 harg9 arg10 harg10 arg11 harg11 x0 x1 x2 x3 x4 x5 x6 x7 x8 x9 x10 = inside (kernelRun0_A.sl.v1955 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_315 : kernelRun0_A.sl.v1970 c arg1 harg1 arg2 harg2 arg3 harg3 arg4 harg4 arg5 harg5 arg6 harg6 arg7 harg7 arg8 harg8 arg9 harg9 arg10 harg10 arg11 harg11 x0 x1 x2 x3 x4 x5 x6 x7 x8 x9 x10 = unit (kernelRun0_A.sl.v1955 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_337 : kernelRun0_A.sl.v1992 c arg1 harg1 arg2 harg2 arg3 harg3 arg4 harg4 arg5 harg5 arg6 harg6 arg7 harg7 arg8 harg8 arg9 harg9 arg10 harg10 arg11 harg11 x0 x1 x2 x3 x4 x5 x6 x7 x8 x9 x10 = onehot (kernelRun0_A.sl.v25 (F := F)) (kernelRun0_A.sl.v1970 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.r_34 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_340 : kernelRun0_A.sl.v1995 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_35 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_343 : kernelRun0_A.sl.v1998 c arg1 harg1 arg2 harg2 arg3 harg3 arg4 harg4 arg5 harg5 arg6 harg6 arg7 harg7 arg8 harg8 arg9 harg9 arg10 harg10 arg11 harg11 x0 x1 x2 x3 x4 x5 x6 x7 x8 x9 x10 = sizes (kernelRun0_A.sl.r_36 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_357 : kernelRun0_A.sl.v2012 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1992 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_35 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b5_370 : kernelRun0_A.sl.v2025 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1992 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1995 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_384 : kernelRun0_A.sl.v2039 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1992 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.r_36 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b5_397 : kernelRun0_A.sl.v2052 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1992 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1998 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_411 : kernelRun0_A.sl.v2066 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1992 c arg1 harg1 arg2 harg2 arg3 harg3 arg4 harg4 arg5 harg5 arg6 harg6 arg7 harg7 arg8 harg8 arg9 harg9 arg10 harg10 arg11 harg11 x0 x1 x2 x3 x4 x5 x6 x7 x8 x9 x10) (below (kernelRun0_A.sl.v1950 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b5_425 : kernelRun0_A.sl.v2080 c arg1 harg1 arg2 harg2 arg3 harg3 arg4 harg4 arg5 harg5 arg6 harg6 arg7 harg7 arg8 harg8 arg9 harg9 arg10 harg10 arg11 harg11 x0 x1 x2 x3 x4 x5 x6 x7 x8 x9 x10 = pick (kernelRun0_A.sl.v1992 c arg1 harg1 arg2 harg2 arg3 harg3 arg4 harg4 arg5 harg5 arg6 harg6 arg7 harg7 arg8 harg8 arg9 harg9 arg10 harg10 arg11 harg11 x0 x1 x2 x3 x4 x5 x6 x7 x8 x9 x10) (above (kernelRun0_A.sl.v1950 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b5_426 : kernelRun0_A.sl.v2081 c arg1 harg1 arg2 harg2 arg3 harg3 arg4 harg4 arg5 harg5 arg6 harg6 arg7 harg7 arg8 harg8 arg9 harg9 arg10 harg10 arg11 harg11 x0 x1 x2 x3 x4 x5 x6 x7 x8 x9 x10 = divf (kernelRun0_A.sl.v2052 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2025 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_428 : kernelRun0_A.sl.v2083 c arg1 harg1 arg2 harg2 arg3 harg3 arg4 harg4 arg5 harg5 arg6 harg6 arg7 harg7 arg8 harg8 arg9 harg9 arg10 harg10 arg11 harg11 x0 x1 x2 x3 x4 x5 x6 x7 x8 x9 x10 = theta (kernelRun0_A.sl.v1970 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2012 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2025 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_431 : kernelRun0_A.sl.v2086 c arg1 harg1 arg2 harg2 arg3 harg3 arg4 harg4 arg5 harg5 arg6 harg6 arg7 harg7 arg8 harg8 arg9 harg9 arg10 harg10 arg11 harg11 x0 x1 x2 x3 x4 x5 x6 x7 x8 x9 x10 = mulf (kernelRun0_A.sl.v2083 c arg1 harg1 arg2 harg2 arg3 harg3 arg4 harg4 arg5 harg5 arg6 harg6 arg7 harg7 arg8 harg8 arg9 harg9 arg10 harg10 arg11 harg11 x0 x1 x2 x3 x4 x5 x6 x7 x8 x9 x10) (rest (kernelRun0_A.sl.v2083 c arg1 harg1 arg2 harg2 arg3 harg3 arg4 harg4 arg5 harg5 arg6 harg6 arg7 harg7 arg8 harg8 arg9 harg9 arg10 harg10 arg11 harg11 x0 x1 x2 x3 x4 x5 x6 x7 x8 x9 x10)) := rfl

theorem b5_442 : kernelRun0_A.sl.v2097 c arg1 harg1 arg2 harg2 arg3 harg3 arg4 harg4 arg5 harg5 arg6 harg6 arg7 harg7 arg8 harg8 arg9 harg9 arg10 harg10 arg11 harg11 x0 x1 x2 x3 x4 x5 x6 x7 x8 x9 x10 = denom (kernelRun0_A.sl.v2081 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2086 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2066 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2080 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_444 : kernelRun0_A.sl.v2099 c arg1 harg1 arg2 harg2 arg3 harg3 arg4 harg4 arg5 harg5 arg6 harg6 arg7 harg7 arg8 harg8 arg9 harg9 arg10 harg10 arg11 harg11 x0 x1 x2 x3 x4 x5 x6 x7 x8 x9 x10 = value (kernelRun0_A.sl.v2039 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2052 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2081 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2083 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2086 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2066 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2097 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_467 : kernelRun0_A.sl.r_38 c arg1 harg1 arg2 harg2 arg3 harg3 arg4 harg4 arg5 harg5 arg6 harg6 arg7 harg7 arg8 harg8 arg9 harg9 arg10 harg10 arg11 harg11 x0 x1 x2 x3 x4 x5 x6 x7 x8 x9 x10 = moved (kernelRun0_A.sl.v1966 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2099 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v1955 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

theorem b5_472 : kernelRun0_A.sl.r_39 c arg1 harg1 arg2 harg2 arg3 harg3 arg4 harg4 arg5 harg5 arg6 harg6 arg7 harg7 arg8 harg8 arg9 harg9 arg10 harg10 arg11 harg11 x0 x1 x2 x3 x4 x5 x6 x7 x8 x9 x10 = gained (kernelRun0_A.sl.v1966 c arg1 harg1 arg2 harg2 arg3 harg3 arg4 harg4 arg5 harg5 arg6 harg6 arg7 harg7 arg8 harg8 arg9 harg9 arg10 harg10 arg11 harg11 x0 x1 x2 x3 x4 x5 x6 x7 x8 x9 x10) (logdet (kernelRun0_A.sl.v2081 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2083 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2086 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2066 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2080 c arg1 harg1 arg2 harg2 arg3 harg3 arg4 harg4 arg5 harg5 arg6 harg6 arg7 harg7 arg8 harg8 arg9 harg9 arg10 harg10 arg11 harg11 x0 x1 x2 x3 x4 x5 x6 x7 x8 x9 x10) (kernelRun0_A.sl.v2097 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (kernelRun0_A.sl.v1796 c arg1 harg1 arg2 harg2 arg3 harg3 arg4 harg4 arg5 harg5 arg6 harg6 arg7 harg7 arg8 harg8 arg9 harg9 arg10 harg10 arg11 harg11 x0 x1 x2 x3 x4 x5 x6 x7 x8 x9 x10) := rfl

end Cert.KernelIdeal.Chain

end
-- ==== Proof.Blocks.lean ====
module

public import proofs.«01_k».proof.Proof.Core
public import proofs.«01_k».proof.Proof.Consts
public import proofs.«01_k».proof.Proof.Chain0
public import proofs.«01_k».proof.Proof.Chain1
public import proofs.«01_k».proof.Proof.Chain2

@[expose] public section

noncomputable section

/-! The six coupling blocks of the kernel's body, one sample at a time. -/

namespace Cert.KernelIdeal.Chain

open Idealize.ShloMosaic Idealize.SL.Sem Cert.KernelIdeal.Gen Cert.KernelIdeal.Stage Cert.Flow

variable {c : Dev nD} {arg1 : Memref sig .tc .vmem S8x4096 .f32} {harg1 : arg1.IsWhole} {arg2 : Memref sig .tc .vmem S4x4096 .f32} {harg2 : arg2.IsWhole} {arg3 : Memref sig .tc .vmem S6x32x8 .bf16} {harg3 : arg3.IsWhole} {arg4 : Memref sig .tc .vmem S6x32x8 .bf16} {harg4 : arg4.IsWhole} {arg5 : Memref sig .tc .vmem S6x32x1 .f32} {harg5 : arg5.IsWhole} {arg6 : Memref sig .tc .vmem S6x32x32 .bf16} {harg6 : arg6.IsWhole} {arg7 : Memref sig .tc .vmem S6x32x32 .bf16} {harg7 : arg7.IsWhole} {arg8 : Memref sig .tc .vmem S6x32x1 .f32} {harg8 : arg8.IsWhole} {arg9 : Memref sig .tc .vmem S6x124x32 .bf16} {harg9 : arg9.IsWhole} {arg10 : Memref sig .tc .vmem S6x124x32 .bf16} {harg10 : arg10.IsWhole} {arg11 : Memref sig .tc .vmem S6x124x1 .f32} {harg11 : arg11.IsWhole} {x0 : Vec Ideal S8x4096 .f32} {x1 : Vec Ideal S4x4096 .f32} {x2 : Vec Ideal S6x32x8 .bf16} {x3 : Vec Ideal S6x32x8 .bf16} {x4 : Vec Ideal S6x32x1 .f32} {x5 : Vec Ideal S6x32x32 .bf16} {x6 : Vec Ideal S6x32x32 .bf16} {x7 : Vec Ideal S6x32x1 .f32} {x8 : Vec Ideal S6x124x32 .bf16} {x9 : Vec Ideal S6x124x32 .bf16} {x10 : Vec Ideal S6x124x1 .f32}

variable {t : Fin 4096} {p : Par} {z : Fin 4 → ℝ} {y : Fin 8 → ℝ} {vj : Fin 4 → ℝ} {R : ℝ} {H1 H2 : Fin 6 → Fin 32 → ℝ}

/-- Block 0. -/
theorem block0 (W : Wts p 0 (kernelRun0_A.sl.v157 c arg3 harg3 x2) (kernelRun0_A.sl.v159 c arg4 harg4 x3) (kernelRun0_A.sl.v170 c arg5 harg5 x4) (kernelRun0_A.sl.v179 c arg6 harg6 x5) (kernelRun0_A.sl.v181 c arg7 harg7 x6) (kernelRun0_A.sl.v192 c arg8 harg8 x7) (kernelRun0_A.sl.v201 c arg9 harg9 x8) (kernelRun0_A.sl.v203 c arg10 harg10 x9) (kernelRun0_A.sl.v214 c arg11 harg11 x10))
    (hB : Bounded p R H1 H2) (hy : ∀ r, |y r| ≤ R) (hz : ∀ r, |z r| ≤ R)
    (hX : T8 (kernelRun0_A.sl.v147 c arg1 harg1 x0) t y) (hC : T4 (kernelRun0_A.sl.v149 c arg2 harg2 x1) t z) (hJ : T4 (kernelRun0_A.sl.v150 (F := Ideal)) t vj) :
    T4 (kernelRun0_A.sl.v467 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 0 y z) (tr 0 y))
    ∧ T4 (kernelRun0_A.sl.v472 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (fun d => vj d + gain p 0 y z d) := by
  have ha : T8 (kernelRun0_A.sl.v155 c arg1 harg1 arg2 harg2 x0 x1) t (netin 0 y z) := by
    rw [b0_155]
    exact netIn_at (v := fun a => y (cond 0 a)) (row1_at hX) (row3_at hX) (row5_at hX) (row7_at hX) hC
  have hx : T4 (kernelRun0_A.sl.r_4 c arg1 harg1 x0) t (tr 0 y) := by
    rw [b0_300]
    exact stack4_at (y := tr 0 y) (row0_at hX) (row2_at hX) (row4_at hX) (row6_at hX)
  have hs := net_at W ha b0_172 b0_177 b0_194 b0_199 b0_216
  exact core_at v55_least v145_tri v25_bins hs (fun j => lg_le _ _ hB hy hz j) hx hJ b0_222 b0_228 b0_229 b0_273 rfl b0_282 b0_283 b0_295 b0_311 b0_315 b0_337 b0_340 b0_343 b0_357 b0_370 b0_384 b0_397 b0_411 b0_425 b0_426 b0_428 b0_431 b0_442 b0_444 b0_464 b0_467 b0_472

theorem rows0 (hX : T8 (kernelRun0_A.sl.v147 c arg1 harg1 x0) t y) (hm : T4 (kernelRun0_A.sl.v467 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 0 y z) (tr 0 y))) :
    T8 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (step p 0 y z) := by
  rw [b0_481]
  exact stack8_at (y := step p 0 y z) (four0_at (y := Flow.moved (lg p 0 y z) (tr 0 y)) hm) (row1_at (y := y) hX) (four1_at (y := Flow.moved (lg p 0 y z) (tr 0 y)) hm) (row3_at (y := y) hX) (four2_at (y := Flow.moved (lg p 0 y z) (tr 0 y)) hm) (row5_at (y := y) hX) (four3_at (y := Flow.moved (lg p 0 y z) (tr 0 y)) hm) (row7_at (y := y) hX)

/-- Block 1. -/
theorem block1 (W : Wts p 1 (kernelRun0_A.sl.v488 c arg3 harg3 x2) (kernelRun0_A.sl.v490 c arg4 harg4 x3) (kernelRun0_A.sl.v501 c arg5 harg5 x4) (kernelRun0_A.sl.v510 c arg6 harg6 x5) (kernelRun0_A.sl.v512 c arg7 harg7 x6) (kernelRun0_A.sl.v523 c arg8 harg8 x7) (kernelRun0_A.sl.v532 c arg9 harg9 x8) (kernelRun0_A.sl.v534 c arg10 harg10 x9) (kernelRun0_A.sl.v545 c arg11 harg11 x10))
    (hB : Bounded p R H1 H2) (hy : ∀ r, |y r| ≤ R) (hz : ∀ r, |z r| ≤ R)
    (hX : T8 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10) t y) (hC : T4 (kernelRun0_A.sl.v149 c arg2 harg2 x1) t z) (hJ : T4 (kernelRun0_A.sl.v472 c arg1 harg1 arg2 harg2 arg3 harg3 arg4 harg4 arg5 harg5 arg6 harg6 arg7 harg7 arg8 harg8 arg9 harg9 arg10 harg10 arg11 harg11 x0 x1 x2 x3 x4 x5 x6 x7 x8 x9 x10) t vj) :
    T4 (kernelRun0_A.sl.v798 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 1 y z) (tr 1 y))
    ∧ T4 (kernelRun0_A.sl.v803 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (fun d => vj d + gain p 1 y z d) := by
  have ha : T8 (kernelRun0_A.sl.v486 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (netin 1 y z) := by
    rw [b1_155]
    exact netIn_at (v := fun a => y (cond 1 a)) (row0_at hX) (row2_at hX) (row4_at hX) (row6_at hX) hC
  have hx : T4 (kernelRun0_A.sl.r_9 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (tr 1 y) := by
    rw [b1_300]
    exact stack4_at (y := tr 1 y) (row1_at hX) (row3_at hX) (row5_at hX) (row7_at hX)
  have hs := net_at W ha b1_172 b1_177 b1_194 b1_199 b1_216
  exact core_at v55_least v145_tri v25_bins hs (fun j => lg_le _ _ hB hy hz j) hx hJ b1_222 b1_228 b1_229 b1_273 b1_279 b1_282 b1_283 b1_295 b1_311 b1_315 b1_337 b1_340 b1_343 b1_357 b1_370 b1_384 b1_397 b1_411 b1_425 b1_426 b1_428 b1_431 b1_442 b1_444 b1_464 b1_467 b1_472

theorem rows1 (hX : T8 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10) t y) (hm : T4 (kernelRun0_A.sl.v798 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 1 y z) (tr 1 y))) :
    T8 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (step p 1 y z) := by
  rw [b1_481]
  exact stack8_at (y := step p 1 y z) (row0_at (y := y) hX) (four0_at (y := Flow.moved (lg p 1 y z) (tr 1 y)) hm) (row2_at (y := y) hX) (four1_at (y := Flow.moved (lg p 1 y z) (tr 1 y)) hm) (row4_at (y := y) hX) (four2_at (y := Flow.moved (lg p 1 y z) (tr 1 y)) hm) (row6_at (y := y) hX) (four3_at (y := Flow.moved (lg p 1 y z) (tr 1 y)) hm)

/-- Block 2. -/
theorem block2 (W : Wts p 2 (kernelRun0_A.sl.v819 c arg3 harg3 x2) (kernelRun0_A.sl.v821 c arg4 harg4 x3) (kernelRun0_A.sl.v832 c arg5 harg5 x4) (kernelRun0_A.sl.v841 c arg6 harg6 x5) (kernelRun0_A.sl.v843 c arg7 harg7 x6) (kernelRun0_A.sl.v854 c arg8 harg8 x7) (kernelRun0_A.sl.v863 c arg9 harg9 x8) (kernelRun0_A.sl.v865 c arg10 harg10 x9) (kernelRun0_A.sl.v876 c arg11 harg11 x10))
    (hB : Bounded p R H1 H2) (hy : ∀ r, |y r| ≤ R) (hz : ∀ r, |z r| ≤ R)
    (hX : T8 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10) t y) (hC : T4 (kernelRun0_A.sl.v149 c arg2 harg2 x1) t z) (hJ : T4 (kernelRun0_A.sl.v803 c arg1 harg1 arg2 harg2 arg3 harg3 arg4 harg4 arg5 harg5 arg6 harg6 arg7 harg7 arg8 harg8 arg9 harg9 arg10 harg10 arg11 harg11 x0 x1 x2 x3 x4 x5 x6 x7 x8 x9 x10) t vj) :
    T4 (kernelRun0_A.sl.v1129 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 2 y z) (tr 2 y))
    ∧ T4 (kernelRun0_A.sl.v1134 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (fun d => vj d + gain p 2 y z d) := by
  have ha : T8 (kernelRun0_A.sl.v817 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (netin 2 y z) := by
    rw [b2_155]
    exact netIn_at (v := fun a => y (cond 2 a)) (row2_at hX) (row3_at hX) (row6_at hX) (row7_at hX) hC
  have hx : T4 (kernelRun0_A.sl.v962 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (tr 2 y) := by
    rw [b2_300]
    exact stack4_at (y := tr 2 y) (row0_at hX) (row1_at hX) (row4_at hX) (row5_at hX)
  have hs := net_at W ha b2_172 b2_177 b2_194 b2_199 b2_216
  exact core_at v55_least v145_tri v25_bins hs (fun j => lg_le _ _ hB hy hz j) hx hJ b2_222 b2_228 b2_229 b2_273 rfl b2_282 b2_283 b2_295 b2_311 b2_315 b2_337 b2_340 b2_343 b2_357 b2_370 b2_384 b2_397 b2_411 b2_425 b2_426 b2_428 b2_431 b2_442 b2_444 b2_464 b2_467 b2_472

theorem rows2 (hX : T8 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10) t y) (hm : T4 (kernelRun0_A.sl.v1129 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 2 y z) (tr 2 y))) :
    T8 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (step p 2 y z) := by
  rw [b2_481]
  exact stack8_at (y := step p 2 y z) (four0_at (y := Flow.moved (lg p 2 y z) (tr 2 y)) hm) (four1_at (y := Flow.moved (lg p 2 y z) (tr 2 y)) hm) (row2_at (y := y) hX) (row3_at (y := y) hX) (four2_at (y := Flow.moved (lg p 2 y z) (tr 2 y)) hm) (four3_at (y := Flow.moved (lg p 2 y z) (tr 2 y)) hm) (row6_at (y := y) hX) (row7_at (y := y) hX)

/-- Block 3. -/
theorem block3 (W : Wts p 3 (kernelRun0_A.sl.v1150 c arg3 harg3 x2) (kernelRun0_A.sl.v1152 c arg4 harg4 x3) (kernelRun0_A.sl.v1163 c arg5 harg5 x4) (kernelRun0_A.sl.v1172 c arg6 harg6 x5) (kernelRun0_A.sl.v1174 c arg7 harg7 x6) (kernelRun0_A.sl.v1185 c arg8 harg8 x7) (kernelRun0_A.sl.v1194 c arg9 harg9 x8) (kernelRun0_A.sl.v1196 c arg10 harg10 x9) (kernelRun0_A.sl.v1207 c arg11 harg11 x10))
    (hB : Bounded p R H1 H2) (hy : ∀ r, |y r| ≤ R) (hz : ∀ r, |z r| ≤ R)
    (hX : T8 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10) t y) (hC : T4 (kernelRun0_A.sl.v149 c arg2 harg2 x1) t z) (hJ : T4 (kernelRun0_A.sl.v1134 c arg1 harg1 arg2 harg2 arg3 harg3 arg4 harg4 arg5 harg5 arg6 harg6 arg7 harg7 arg8 harg8 arg9 harg9 arg10 harg10 arg11 harg11 x0 x1 x2 x3 x4 x5 x6 x7 x8 x9 x10) t vj) :
    T4 (kernelRun0_A.sl.v1460 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 3 y z) (tr 3 y))
    ∧ T4 (kernelRun0_A.sl.v1465 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (fun d => vj d + gain p 3 y z d) := by
  have ha : T8 (kernelRun0_A.sl.v1148 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (netin 3 y z) := by
    rw [b3_155]
    exact netIn_at (v := fun a => y (cond 3 a)) (row0_at hX) (row1_at hX) (row4_at hX) (row5_at hX) hC
  have hx : T4 (kernelRun0_A.sl.r_23 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (tr 3 y) := by
    rw [b3_300]
    exact stack4_at (y := tr 3 y) (row2_at hX) (row3_at hX) (row6_at hX) (row7_at hX)
  have hs := net_at W ha b3_172 b3_177 b3_194 b3_199 b3_216
  exact core_at v55_least v145_tri v25_bins hs (fun j => lg_le _ _ hB hy hz j) hx hJ b3_222 b3_228 b3_229 b3_273 rfl b3_282 b3_283 b3_295 b3_311 b3_315 b3_337 b3_340 b3_343 b3_357 b3_370 b3_384 b3_397 b3_411 b3_425 b3_426 b3_428 b3_431 b3_442 b3_444 b3_464 b3_467 b3_472

theorem rows3 (hX : T8 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10) t y) (hm : T4 (kernelRun0_A.sl.v1460 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 3 y z) (tr 3 y))) :
    T8 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (step p 3 y z) := by
  rw [b3_481]
  exact stack8_at (y := step p 3 y z) (row0_at (y := y) hX) (row1_at (y := y) hX) (four0_at (y := Flow.moved (lg p 3 y z) (tr 3 y)) hm) (four1_at (y := Flow.moved (lg p 3 y z) (tr 3 y)) hm) (row4_at (y := y) hX) (row5_at (y := y) hX) (four2_at (y := Flow.moved (lg p 3 y z) (tr 3 y)) hm) (four3_at (y := Flow.moved (lg p 3 y z) (tr 3 y)) hm)

/-- Block 4. -/
theorem block4 (W : Wts p 4 (kernelRun0_A.sl.v1481 c arg3 harg3 x2) (kernelRun0_A.sl.v1483 c arg4 harg4 x3) (kernelRun0_A.sl.v1494 c arg5 harg5 x4) (kernelRun0_A.sl.v1503 c arg6 harg6 x5) (kernelRun0_A.sl.v1505 c arg7 harg7 x6) (kernelRun0_A.sl.v1516 c arg8 harg8 x7) (kernelRun0_A.sl.v1525 c arg9 harg9 x8) (kernelRun0_A.sl.v1527 c arg10 harg10 x9) (kernelRun0_A.sl.v1538 c arg11 harg11 x10))
    (hB : Bounded p R H1 H2) (hy : ∀ r, |y r| ≤ R) (hz : ∀ r, |z r| ≤ R)
    (hX : T8 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10) t y) (hC : T4 (kernelRun0_A.sl.v149 c arg2 harg2 x1) t z) (hJ : T4 (kernelRun0_A.sl.v1465 c arg1 harg1 arg2 harg2 arg3 harg3 arg4 harg4 arg5 harg5 arg6 harg6 arg7 harg7 arg8 harg8 arg9 harg9 arg10 harg10 arg11 harg11 x0 x1 x2 x3 x4 x5 x6 x7 x8 x9 x10) t vj) :
    T4 (kernelRun0_A.sl.v1791 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 4 y z) (tr 4 y))
    ∧ T4 (kernelRun0_A.sl.v1796 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (fun d => vj d + gain p 4 y z d) := by
  have ha : T8 (kernelRun0_A.sl.v1479 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (netin 4 y z) := by
    rw [b4_155]
    exact netIn_at (v := fun a => y (cond 4 a)) (row4_at hX) (row5_at hX) (row6_at hX) (row7_at hX) hC
  have hx : T4 (kernelRun0_A.sl.r_28 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (tr 4 y) := by
    rw [b4_300]
    exact stack4_at (y := tr 4 y) (row0_at hX) (row1_at hX) (row2_at hX) (row3_at hX)
  have hs := net_at W ha b4_172 b4_177 b4_194 b4_199 b4_216
  exact core_at v55_least v145_tri v25_bins hs (fun j => lg_le _ _ hB hy hz j) hx hJ b4_222 b4_228 b4_229 b4_273 b4_279 b4_282 b4_283 b4_295 b4_311 b4_315 b4_337 b4_340 b4_343 b4_357 b4_370 b4_384 b4_397 b4_411 b4_425 b4_426 b4_428 b4_431 b4_442 b4_444 b4_464 b4_467 b4_472

theorem rows4 (hX : T8 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10) t y) (hm : T4 (kernelRun0_A.sl.v1791 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 4 y z) (tr 4 y))) :
    T8 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (step p 4 y z) := by
  rw [b4_481]
  exact stack8_at (y := step p 4 y z) (four0_at (y := Flow.moved (lg p 4 y z) (tr 4 y)) hm) (four1_at (y := Flow.moved (lg p 4 y z) (tr 4 y)) hm) (four2_at (y := Flow.moved (lg p 4 y z) (tr 4 y)) hm) (four3_at (y := Flow.moved (lg p 4 y z) (tr 4 y)) hm) (row4_at (y := y) hX) (row5_at (y := y) hX) (row6_at (y := y) hX) (row7_at (y := y) hX)

/-- Block 5. -/
theorem block5 (W : Wts p 5 (kernelRun0_A.sl.v1812 c arg3 harg3 x2) (kernelRun0_A.sl.v1814 c arg4 harg4 x3) (kernelRun0_A.sl.v1825 c arg5 harg5 x4) (kernelRun0_A.sl.v1834 c arg6 harg6 x5) (kernelRun0_A.sl.v1836 c arg7 harg7 x6) (kernelRun0_A.sl.v1847 c arg8 harg8 x7) (kernelRun0_A.sl.v1856 c arg9 harg9 x8) (kernelRun0_A.sl.v1858 c arg10 harg10 x9) (kernelRun0_A.sl.v1869 c arg11 harg11 x10))
    (hB : Bounded p R H1 H2) (hy : ∀ r, |y r| ≤ R) (hz : ∀ r, |z r| ≤ R)
    (hX : T8 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10) t y) (hC : T4 (kernelRun0_A.sl.v149 c arg2 harg2 x1) t z) (hJ : T4 (kernelRun0_A.sl.v1796 c arg1 harg1 arg2 harg2 arg3 harg3 arg4 harg4 arg5 harg5 arg6 harg6 arg7 harg7 arg8 harg8 arg9 harg9 arg10 harg10 arg11 harg11 x0 x1 x2 x3 x4 x5 x6 x7 x8 x9 x10) t vj) :
    T4 (kernelRun0_A.sl.r_38 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (Flow.moved (lg p 5 y z) (tr 5 y))
    ∧ T4 (kernelRun0_A.sl.r_39 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (fun d => vj d + gain p 5 y z d) := by
  have ha : T8 (kernelRun0_A.sl.v1810 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (netin 5 y z) := by
    rw [b5_155]
    exact netIn_at (v := fun a => y (cond 5 a)) (row0_at hX) (row1_at hX) (row2_at hX) (row3_at hX) hC
  have hx : T4 (kernelRun0_A.sl.v1955 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (tr 5 y) := by
    rw [b5_300]
    exact stack4_at (y := tr 5 y) (row4_at hX) (row5_at hX) (row6_at hX) (row7_at hX)
  have hs := net_at W ha b5_172 b5_177 b5_194 b5_199 b5_216
  exact core_at v55_least v145_tri v25_bins hs (fun j => lg_le _ _ hB hy hz j) hx hJ b5_222 b5_228 b5_229 b5_273 rfl b5_282 b5_283 b5_295 b5_311 b5_315 b5_337 b5_340 b5_343 b5_357 b5_370 b5_384 b5_397 b5_411 b5_425 b5_426 b5_428 b5_431 b5_442 b5_444 rfl b5_467 b5_472

end Cert.KernelIdeal.Chain

end
-- ==== Proof.Reads.lean ====
module

public import proofs.«01_k».proof.Proof.Blocks

@[expose] public section

set_option maxRecDepth 16384

noncomputable section

/-! What the kernel's body reads of its input blocks, entry by entry. -/

namespace Cert.KernelIdeal.Chain

open Idealize.ShloMosaic Idealize.SL.Sem Cert.KernelIdeal.Gen Cert.KernelIdeal.Stage Cert.Flow

variable {c : Dev nD} {arg1 : Memref sig .tc .vmem S8x4096 .f32} {harg1 : arg1.IsWhole} {arg2 : Memref sig .tc .vmem S4x4096 .f32} {harg2 : arg2.IsWhole} {arg3 : Memref sig .tc .vmem S6x32x8 .bf16} {harg3 : arg3.IsWhole} {arg4 : Memref sig .tc .vmem S6x32x8 .bf16} {harg4 : arg4.IsWhole} {arg5 : Memref sig .tc .vmem S6x32x1 .f32} {harg5 : arg5.IsWhole} {arg6 : Memref sig .tc .vmem S6x32x32 .bf16} {harg6 : arg6.IsWhole} {arg7 : Memref sig .tc .vmem S6x32x32 .bf16} {harg7 : arg7.IsWhole} {arg8 : Memref sig .tc .vmem S6x32x1 .f32} {harg8 : arg8.IsWhole} {arg9 : Memref sig .tc .vmem S6x124x32 .bf16} {harg9 : arg9.IsWhole} {arg10 : Memref sig .tc .vmem S6x124x32 .bf16} {harg10 : arg10.IsWhole} {arg11 : Memref sig .tc .vmem S6x124x1 .f32} {harg11 : arg11.IsWhole} {x0 : Vec Ideal S8x4096 .f32} {x1 : Vec Ideal S4x4096 .f32} {x2 : Vec Ideal S6x32x8 .bf16} {x3 : Vec Ideal S6x32x8 .bf16} {x4 : Vec Ideal S6x32x1 .f32} {x5 : Vec Ideal S6x32x32 .bf16} {x6 : Vec Ideal S6x32x32 .bf16} {x7 : Vec Ideal S6x32x1 .f32} {x8 : Vec Ideal S6x124x32 .bf16} {x9 : Vec Ideal S6x124x32 .bf16} {x10 : Vec Ideal S6x124x1 .f32}

theorem read147 (r : Fin 8) (t : Fin 4096) : kernelRun0_A.sl.v147 c arg1 harg1 x0 (ix2 r t) = x0 (ix2 r t) := by
  delta kernelRun0_A.sl.v147
  simp only [View.readAt_eq_ld, harg1.read_unread]
  pointwise

theorem read149 (r : Fin 4) (t : Fin 4096) : kernelRun0_A.sl.v149 c arg2 harg2 x1 (ix2 r t) = x1 (ix2 r t) := by
  delta kernelRun0_A.sl.v149
  simp only [View.readAt_eq_ld, harg2.read_unread]
  pointwise

theorem read0_3 (r : Fin 32) (k : Fin 8) : kernelRun0_A.sl.v157 c arg3 harg3 x2 (ix2 r k) = x2 (ix3 0 r k) := by
  delta kernelRun0_A.sl.v157
  simp only [View.readAt_eq_ld, harg3.read_unread]
  pointwise

theorem read0_4 (r : Fin 32) (k : Fin 8) : kernelRun0_A.sl.v159 c arg4 harg4 x3 (ix2 r k) = x3 (ix3 0 r k) := by
  delta kernelRun0_A.sl.v159
  simp only [View.readAt_eq_ld, harg4.read_unread]
  pointwise

theorem read0_5 (r : Fin 32) : kernelRun0_A.sl.v170 c arg5 harg5 x4 (ix2 r 0) = x4 (ix3 0 r 0) := by
  delta kernelRun0_A.sl.v170
  simp only [View.readAt_eq_ld, harg5.read_unread]
  pointwise

theorem read0_6 (r : Fin 32) (k : Fin 32) : kernelRun0_A.sl.v179 c arg6 harg6 x5 (ix2 r k) = x5 (ix3 0 r k) := by
  delta kernelRun0_A.sl.v179
  simp only [View.readAt_eq_ld, harg6.read_unread]
  pointwise

theorem read0_7 (r : Fin 32) (k : Fin 32) : kernelRun0_A.sl.v181 c arg7 harg7 x6 (ix2 r k) = x6 (ix3 0 r k) := by
  delta kernelRun0_A.sl.v181
  simp only [View.readAt_eq_ld, harg7.read_unread]
  pointwise

theorem read0_8 (r : Fin 32) : kernelRun0_A.sl.v192 c arg8 harg8 x7 (ix2 r 0) = x7 (ix3 0 r 0) := by
  delta kernelRun0_A.sl.v192
  simp only [View.readAt_eq_ld, harg8.read_unread]
  pointwise

theorem read0_9 (r : Fin 124) (k : Fin 32) : kernelRun0_A.sl.v201 c arg9 harg9 x8 (ix2 r k) = x8 (ix3 0 r k) := by
  delta kernelRun0_A.sl.v201
  simp only [View.readAt_eq_ld, harg9.read_unread]
  pointwise

theorem read0_10 (r : Fin 124) (k : Fin 32) : kernelRun0_A.sl.v203 c arg10 harg10 x9 (ix2 r k) = x9 (ix3 0 r k) := by
  delta kernelRun0_A.sl.v203
  simp only [View.readAt_eq_ld, harg10.read_unread]
  pointwise

theorem read0_11 (r : Fin 124) : kernelRun0_A.sl.v214 c arg11 harg11 x10 (ix2 r 0) = x10 (ix3 0 r 0) := by
  delta kernelRun0_A.sl.v214
  simp only [View.readAt_eq_ld, harg11.read_unread]
  pointwise

theorem read1_3 (r : Fin 32) (k : Fin 8) : kernelRun0_A.sl.v488 c arg3 harg3 x2 (ix2 r k) = x2 (ix3 1 r k) := by
  delta kernelRun0_A.sl.v488
  simp only [View.readAt_eq_ld, harg3.read_unread]
  pointwise

theorem read1_4 (r : Fin 32) (k : Fin 8) : kernelRun0_A.sl.v490 c arg4 harg4 x3 (ix2 r k) = x3 (ix3 1 r k) := by
  delta kernelRun0_A.sl.v490
  simp only [View.readAt_eq_ld, harg4.read_unread]
  pointwise

theorem read1_5 (r : Fin 32) : kernelRun0_A.sl.v501 c arg5 harg5 x4 (ix2 r 0) = x4 (ix3 1 r 0) := by
  delta kernelRun0_A.sl.v501
  simp only [View.readAt_eq_ld, harg5.read_unread]
  pointwise

theorem read1_6 (r : Fin 32) (k : Fin 32) : kernelRun0_A.sl.v510 c arg6 harg6 x5 (ix2 r k) = x5 (ix3 1 r k) := by
  delta kernelRun0_A.sl.v510
  simp only [View.readAt_eq_ld, harg6.read_unread]
  pointwise

theorem read1_7 (r : Fin 32) (k : Fin 32) : kernelRun0_A.sl.v512 c arg7 harg7 x6 (ix2 r k) = x6 (ix3 1 r k) := by
  delta kernelRun0_A.sl.v512
  simp only [View.readAt_eq_ld, harg7.read_unread]
  pointwise

theorem read1_8 (r : Fin 32) : kernelRun0_A.sl.v523 c arg8 harg8 x7 (ix2 r 0) = x7 (ix3 1 r 0) := by
  delta kernelRun0_A.sl.v523
  simp only [View.readAt_eq_ld, harg8.read_unread]
  pointwise

theorem read1_9 (r : Fin 124) (k : Fin 32) : kernelRun0_A.sl.v532 c arg9 harg9 x8 (ix2 r k) = x8 (ix3 1 r k) := by
  delta kernelRun0_A.sl.v532
  simp only [View.readAt_eq_ld, harg9.read_unread]
  pointwise

theorem read1_10 (r : Fin 124) (k : Fin 32) : kernelRun0_A.sl.v534 c arg10 harg10 x9 (ix2 r k) = x9 (ix3 1 r k) := by
  delta kernelRun0_A.sl.v534
  simp only [View.readAt_eq_ld, harg10.read_unread]
  pointwise

theorem read1_11 (r : Fin 124) : kernelRun0_A.sl.v545 c arg11 harg11 x10 (ix2 r 0) = x10 (ix3 1 r 0) := by
  delta kernelRun0_A.sl.v545
  simp only [View.readAt_eq_ld, harg11.read_unread]
  pointwise

theorem read2_3 (r : Fin 32) (k : Fin 8) : kernelRun0_A.sl.v819 c arg3 harg3 x2 (ix2 r k) = x2 (ix3 2 r k) := by
  delta kernelRun0_A.sl.v819
  simp only [View.readAt_eq_ld, harg3.read_unread]
  pointwise

theorem read2_4 (r : Fin 32) (k : Fin 8) : kernelRun0_A.sl.v821 c arg4 harg4 x3 (ix2 r k) = x3 (ix3 2 r k) := by
  delta kernelRun0_A.sl.v821
  simp only [View.readAt_eq_ld, harg4.read_unread]
  pointwise

theorem read2_5 (r : Fin 32) : kernelRun0_A.sl.v832 c arg5 harg5 x4 (ix2 r 0) = x4 (ix3 2 r 0) := by
  delta kernelRun0_A.sl.v832
  simp only [View.readAt_eq_ld, harg5.read_unread]
  pointwise

theorem read2_6 (r : Fin 32) (k : Fin 32) : kernelRun0_A.sl.v841 c arg6 harg6 x5 (ix2 r k) = x5 (ix3 2 r k) := by
  delta kernelRun0_A.sl.v841
  simp only [View.readAt_eq_ld, harg6.read_unread]
  pointwise

theorem read2_7 (r : Fin 32) (k : Fin 32) : kernelRun0_A.sl.v843 c arg7 harg7 x6 (ix2 r k) = x6 (ix3 2 r k) := by
  delta kernelRun0_A.sl.v843
  simp only [View.readAt_eq_ld, harg7.read_unread]
  pointwise

theorem read2_8 (r : Fin 32) : kernelRun0_A.sl.v854 c arg8 harg8 x7 (ix2 r 0) = x7 (ix3 2 r 0) := by
  delta kernelRun0_A.sl.v854
  simp only [View.readAt_eq_ld, harg8.read_unread]
  pointwise

theorem read2_9 (r : Fin 124) (k : Fin 32) : kernelRun0_A.sl.v863 c arg9 harg9 x8 (ix2 r k) = x8 (ix3 2 r k) := by
  delta kernelRun0_A.sl.v863
  simp only [View.readAt_eq_ld, harg9.read_unread]
  pointwise

theorem read2_10 (r : Fin 124) (k : Fin 32) : kernelRun0_A.sl.v865 c arg10 harg10 x9 (ix2 r k) = x9 (ix3 2 r k) := by
  delta kernelRun0_A.sl.v865
  simp only [View.readAt_eq_ld, harg10.read_unread]
  pointwise

theorem read2_11 (r : Fin 124) : kernelRun0_A.sl.v876 c arg11 harg11 x10 (ix2 r 0) = x10 (ix3 2 r 0) := by
  delta kernelRun0_A.sl.v876
  simp only [View.readAt_eq_ld, harg11.read_unread]
  pointwise

theorem read3_3 (r : Fin 32) (k : Fin 8) : kernelRun0_A.sl.v1150 c arg3 harg3 x2 (ix2 r k) = x2 (ix3 3 r k) := by
  delta kernelRun0_A.sl.v1150
  simp only [View.readAt_eq_ld, harg3.read_unread]
  pointwise

theorem read3_4 (r : Fin 32) (k : Fin 8) : kernelRun0_A.sl.v1152 c arg4 harg4 x3 (ix2 r k) = x3 (ix3 3 r k) := by
  delta kernelRun0_A.sl.v1152
  simp only [View.readAt_eq_ld, harg4.read_unread]
  pointwise

theorem read3_5 (r : Fin 32) : kernelRun0_A.sl.v1163 c arg5 harg5 x4 (ix2 r 0) = x4 (ix3 3 r 0) := by
  delta kernelRun0_A.sl.v1163
  simp only [View.readAt_eq_ld, harg5.read_unread]
  pointwise

theorem read3_6 (r : Fin 32) (k : Fin 32) : kernelRun0_A.sl.v1172 c arg6 harg6 x5 (ix2 r k) = x5 (ix3 3 r k) := by
  delta kernelRun0_A.sl.v1172
  simp only [View.readAt_eq_ld, harg6.read_unread]
  pointwise

theorem read3_7 (r : Fin 32) (k : Fin 32) : kernelRun0_A.sl.v1174 c arg7 harg7 x6 (ix2 r k) = x6 (ix3 3 r k) := by
  delta kernelRun0_A.sl.v1174
  simp only [View.readAt_eq_ld, harg7.read_unread]
  pointwise

theorem read3_8 (r : Fin 32) : kernelRun0_A.sl.v1185 c arg8 harg8 x7 (ix2 r 0) = x7 (ix3 3 r 0) := by
  delta kernelRun0_A.sl.v1185
  simp only [View.readAt_eq_ld, harg8.read_unread]
  pointwise

theorem read3_9 (r : Fin 124) (k : Fin 32) : kernelRun0_A.sl.v1194 c arg9 harg9 x8 (ix2 r k) = x8 (ix3 3 r k) := by
  delta kernelRun0_A.sl.v1194
  simp only [View.readAt_eq_ld, harg9.read_unread]
  pointwise

theorem read3_10 (r : Fin 124) (k : Fin 32) : kernelRun0_A.sl.v1196 c arg10 harg10 x9 (ix2 r k) = x9 (ix3 3 r k) := by
  delta kernelRun0_A.sl.v1196
  simp only [View.readAt_eq_ld, harg10.read_unread]
  pointwise

theorem read3_11 (r : Fin 124) : kernelRun0_A.sl.v1207 c arg11 harg11 x10 (ix2 r 0) = x10 (ix3 3 r 0) := by
  delta kernelRun0_A.sl.v1207
  simp only [View.readAt_eq_ld, harg11.read_unread]
  pointwise

theorem read4_3 (r : Fin 32) (k : Fin 8) : kernelRun0_A.sl.v1481 c arg3 harg3 x2 (ix2 r k) = x2 (ix3 4 r k) := by
  delta kernelRun0_A.sl.v1481
  simp only [View.readAt_eq_ld, harg3.read_unread]
  pointwise

theorem read4_4 (r : Fin 32) (k : Fin 8) : kernelRun0_A.sl.v1483 c arg4 harg4 x3 (ix2 r k) = x3 (ix3 4 r k) := by
  delta kernelRun0_A.sl.v1483
  simp only [View.readAt_eq_ld, harg4.read_unread]
  pointwise

theorem read4_5 (r : Fin 32) : kernelRun0_A.sl.v1494 c arg5 harg5 x4 (ix2 r 0) = x4 (ix3 4 r 0) := by
  delta kernelRun0_A.sl.v1494
  simp only [View.readAt_eq_ld, harg5.read_unread]
  pointwise

theorem read4_6 (r : Fin 32) (k : Fin 32) : kernelRun0_A.sl.v1503 c arg6 harg6 x5 (ix2 r k) = x5 (ix3 4 r k) := by
  delta kernelRun0_A.sl.v1503
  simp only [View.readAt_eq_ld, harg6.read_unread]
  pointwise

theorem read4_7 (r : Fin 32) (k : Fin 32) : kernelRun0_A.sl.v1505 c arg7 harg7 x6 (ix2 r k) = x6 (ix3 4 r k) := by
  delta kernelRun0_A.sl.v1505
  simp only [View.readAt_eq_ld, harg7.read_unread]
  pointwise

theorem read4_8 (r : Fin 32) : kernelRun0_A.sl.v1516 c arg8 harg8 x7 (ix2 r 0) = x7 (ix3 4 r 0) := by
  delta kernelRun0_A.sl.v1516
  simp only [View.readAt_eq_ld, harg8.read_unread]
  pointwise

theorem read4_9 (r : Fin 124) (k : Fin 32) : kernelRun0_A.sl.v1525 c arg9 harg9 x8 (ix2 r k) = x8 (ix3 4 r k) := by
  delta kernelRun0_A.sl.v1525
  simp only [View.readAt_eq_ld, harg9.read_unread]
  pointwise

theorem read4_10 (r : Fin 124) (k : Fin 32) : kernelRun0_A.sl.v1527 c arg10 harg10 x9 (ix2 r k) = x9 (ix3 4 r k) := by
  delta kernelRun0_A.sl.v1527
  simp only [View.readAt_eq_ld, harg10.read_unread]
  pointwise

theorem read4_11 (r : Fin 124) : kernelRun0_A.sl.v1538 c arg11 harg11 x10 (ix2 r 0) = x10 (ix3 4 r 0) := by
  delta kernelRun0_A.sl.v1538
  simp only [View.readAt_eq_ld, harg11.read_unread]
  pointwise

theorem read5_3 (r : Fin 32) (k : Fin 8) : kernelRun0_A.sl.v1812 c arg3 harg3 x2 (ix2 r k) = x2 (ix3 5 r k) := by
  delta kernelRun0_A.sl.v1812
  simp only [View.readAt_eq_ld, harg3.read_unread]
  pointwise

theorem read5_4 (r : Fin 32) (k : Fin 8) : kernelRun0_A.sl.v1814 c arg4 harg4 x3 (ix2 r k) = x3 (ix3 5 r k) := by
  delta kernelRun0_A.sl.v1814
  simp only [View.readAt_eq_ld, harg4.read_unread]
  pointwise

theorem read5_5 (r : Fin 32) : kernelRun0_A.sl.v1825 c arg5 harg5 x4 (ix2 r 0) = x4 (ix3 5 r 0) := by
  delta kernelRun0_A.sl.v1825
  simp only [View.readAt_eq_ld, harg5.read_unread]
  pointwise

theorem read5_6 (r : Fin 32) (k : Fin 32) : kernelRun0_A.sl.v1834 c arg6 harg6 x5 (ix2 r k) = x5 (ix3 5 r k) := by
  delta kernelRun0_A.sl.v1834
  simp only [View.readAt_eq_ld, harg6.read_unread]
  pointwise

theorem read5_7 (r : Fin 32) (k : Fin 32) : kernelRun0_A.sl.v1836 c arg7 harg7 x6 (ix2 r k) = x6 (ix3 5 r k) := by
  delta kernelRun0_A.sl.v1836
  simp only [View.readAt_eq_ld, harg7.read_unread]
  pointwise

theorem read5_8 (r : Fin 32) : kernelRun0_A.sl.v1847 c arg8 harg8 x7 (ix2 r 0) = x7 (ix3 5 r 0) := by
  delta kernelRun0_A.sl.v1847
  simp only [View.readAt_eq_ld, harg8.read_unread]
  pointwise

theorem read5_9 (r : Fin 124) (k : Fin 32) : kernelRun0_A.sl.v1856 c arg9 harg9 x8 (ix2 r k) = x8 (ix3 5 r k) := by
  delta kernelRun0_A.sl.v1856
  simp only [View.readAt_eq_ld, harg9.read_unread]
  pointwise

theorem read5_10 (r : Fin 124) (k : Fin 32) : kernelRun0_A.sl.v1858 c arg10 harg10 x9 (ix2 r k) = x9 (ix3 5 r k) := by
  delta kernelRun0_A.sl.v1858
  simp only [View.readAt_eq_ld, harg10.read_unread]
  pointwise

theorem read5_11 (r : Fin 124) : kernelRun0_A.sl.v1869 c arg11 harg11 x10 (ix2 r 0) = x10 (ix3 5 r 0) := by
  delta kernelRun0_A.sl.v1869
  simp only [View.readAt_eq_ld, harg11.read_unread]
  pointwise

end Cert.KernelIdeal.Chain

end
-- ==== Proof.Tile.lean ====
module

public import proofs.«01_k».proof.Proof.Reads
public import proofs.«01_k».proof.Proof.Gen.KernelIdeal.Frame

@[expose] public section

set_option maxRecDepth 16384

noncomputable section

namespace Cert.Flow

/-- The log determinant of one sample. -/
def jac (p : Par) (x : Fin 8 → ℝ) (z : Fin 4 → ℝ) : ℝ := ∑ d, ∑ n ∈ Finset.range 6, gain p (Fin.ofNat 6 n) (at_ p z x n) z d

end Cert.Flow

/-! What the kernel's body writes for one tile, one sample at a time: the sample's flow and its log determinant. -/

namespace Cert.KernelIdeal.Chain

open Idealize.ShloMosaic Idealize.SL.Sem Cert.KernelIdeal.Gen Cert.KernelIdeal.Stage Cert.Flow

variable {c : Dev nD} {arg1 : Memref sig .tc .vmem S8x4096 .f32} {harg1 : arg1.IsWhole} {arg2 : Memref sig .tc .vmem S4x4096 .f32} {harg2 : arg2.IsWhole} {arg3 : Memref sig .tc .vmem S6x32x8 .bf16} {harg3 : arg3.IsWhole} {arg4 : Memref sig .tc .vmem S6x32x8 .bf16} {harg4 : arg4.IsWhole} {arg5 : Memref sig .tc .vmem S6x32x1 .f32} {harg5 : arg5.IsWhole} {arg6 : Memref sig .tc .vmem S6x32x32 .bf16} {harg6 : arg6.IsWhole} {arg7 : Memref sig .tc .vmem S6x32x32 .bf16} {harg7 : arg7.IsWhole} {arg8 : Memref sig .tc .vmem S6x32x1 .f32} {harg8 : arg8.IsWhole} {arg9 : Memref sig .tc .vmem S6x124x32 .bf16} {harg9 : arg9.IsWhole} {arg10 : Memref sig .tc .vmem S6x124x32 .bf16} {harg10 : arg10.IsWhole} {arg11 : Memref sig .tc .vmem S6x124x1 .f32} {harg11 : arg11.IsWhole} {x0 : Vec Ideal S8x4096 .f32} {x1 : Vec Ideal S4x4096 .f32} {x2 : Vec Ideal S6x32x8 .bf16} {x3 : Vec Ideal S6x32x8 .bf16} {x4 : Vec Ideal S6x32x1 .f32} {x5 : Vec Ideal S6x32x32 .bf16} {x6 : Vec Ideal S6x32x32 .bf16} {x7 : Vec Ideal S6x32x1 .f32} {x8 : Vec Ideal S6x124x32 .bf16} {x9 : Vec Ideal S6x124x32 .bf16} {x10 : Vec Ideal S6x124x1 .f32}

variable {t : Fin 4096} {p : Par} {z : Fin 4 → ℝ} {y : Fin 8 → ℝ} {R : ℝ} {H1 H2 : Fin 6 → Fin 32 → ℝ}

/-- The weight blocks hold the specification's weights, the leftovers zero. -/
structure Held (p : Par) (x2 x3 : Vec Ideal S6x32x8 .bf16) (x4 : Vec Ideal S6x32x1 .f32) (x5 x6 : Vec Ideal S6x32x32 .bf16)
    (x7 : Vec Ideal S6x32x1 .f32) (x8 x9 : Vec Ideal S6x124x32 .bf16) (x10 : Vec Ideal S6x124x1 .f32) : Prop where
  h2 : ∀ i r k, x2 (ix3 i r k) = ((p.W1 i k r : ℝ) : EReal)
  h3 : ∀ i r k, x3 (ix3 i r k) = (0 : EReal)
  h4 : ∀ i r, x4 (ix3 i r 0) = ((p.b1 i r : ℝ) : EReal)
  h5 : ∀ i r k, x5 (ix3 i r k) = ((p.W2 i k r : ℝ) : EReal)
  h6 : ∀ i r k, x6 (ix3 i r k) = (0 : EReal)
  h7 : ∀ i r, x7 (ix3 i r 0) = ((p.b2 i r : ℝ) : EReal)
  h8 : ∀ i r k, x8 (ix3 i r k) = ((p.W3 i k (perm r) : ℝ) : EReal)
  h9 : ∀ i r k, x9 (ix3 i r k) = (0 : EReal)
  h10 : ∀ i r, x10 (ix3 i r 0) = ((p.b3 i (perm r) : ℝ) : EReal)

variable (H : Held p x2 x3 x4 x5 x6 x7 x8 x9 x10)
include H

theorem wts0 : Wts p 0 (kernelRun0_A.sl.v157 c arg3 harg3 x2) (kernelRun0_A.sl.v159 c arg4 harg4 x3) (kernelRun0_A.sl.v170 c arg5 harg5 x4) (kernelRun0_A.sl.v179 c arg6 harg6 x5) (kernelRun0_A.sl.v181 c arg7 harg7 x6) (kernelRun0_A.sl.v192 c arg8 harg8 x7) (kernelRun0_A.sl.v201 c arg9 harg9 x8) (kernelRun0_A.sl.v203 c arg10 harg10 x9) (kernelRun0_A.sl.v214 c arg11 harg11 x10) where
  hw1 := fun r k => (read0_3 r k).trans (H.h2 _ _ _)
  hl1 := fun r k => (read0_4 r k).trans (H.h3 _ _ _)
  hb1 := fun r => (read0_5 r).trans (H.h4 _ _)
  hw2 := fun r k => (read0_6 r k).trans (H.h5 _ _ _)
  hl2 := fun r k => (read0_7 r k).trans (H.h6 _ _ _)
  hb2 := fun r => (read0_8 r).trans (H.h7 _ _)
  hw3 := fun r k => (read0_9 r k).trans (H.h8 _ _ _)
  hl3 := fun r k => (read0_10 r k).trans (H.h9 _ _ _)
  hb3 := fun r => (read0_11 r).trans (H.h10 _ _)

theorem wts1 : Wts p 1 (kernelRun0_A.sl.v488 c arg3 harg3 x2) (kernelRun0_A.sl.v490 c arg4 harg4 x3) (kernelRun0_A.sl.v501 c arg5 harg5 x4) (kernelRun0_A.sl.v510 c arg6 harg6 x5) (kernelRun0_A.sl.v512 c arg7 harg7 x6) (kernelRun0_A.sl.v523 c arg8 harg8 x7) (kernelRun0_A.sl.v532 c arg9 harg9 x8) (kernelRun0_A.sl.v534 c arg10 harg10 x9) (kernelRun0_A.sl.v545 c arg11 harg11 x10) where
  hw1 := fun r k => (read1_3 r k).trans (H.h2 _ _ _)
  hl1 := fun r k => (read1_4 r k).trans (H.h3 _ _ _)
  hb1 := fun r => (read1_5 r).trans (H.h4 _ _)
  hw2 := fun r k => (read1_6 r k).trans (H.h5 _ _ _)
  hl2 := fun r k => (read1_7 r k).trans (H.h6 _ _ _)
  hb2 := fun r => (read1_8 r).trans (H.h7 _ _)
  hw3 := fun r k => (read1_9 r k).trans (H.h8 _ _ _)
  hl3 := fun r k => (read1_10 r k).trans (H.h9 _ _ _)
  hb3 := fun r => (read1_11 r).trans (H.h10 _ _)

theorem wts2 : Wts p 2 (kernelRun0_A.sl.v819 c arg3 harg3 x2) (kernelRun0_A.sl.v821 c arg4 harg4 x3) (kernelRun0_A.sl.v832 c arg5 harg5 x4) (kernelRun0_A.sl.v841 c arg6 harg6 x5) (kernelRun0_A.sl.v843 c arg7 harg7 x6) (kernelRun0_A.sl.v854 c arg8 harg8 x7) (kernelRun0_A.sl.v863 c arg9 harg9 x8) (kernelRun0_A.sl.v865 c arg10 harg10 x9) (kernelRun0_A.sl.v876 c arg11 harg11 x10) where
  hw1 := fun r k => (read2_3 r k).trans (H.h2 _ _ _)
  hl1 := fun r k => (read2_4 r k).trans (H.h3 _ _ _)
  hb1 := fun r => (read2_5 r).trans (H.h4 _ _)
  hw2 := fun r k => (read2_6 r k).trans (H.h5 _ _ _)
  hl2 := fun r k => (read2_7 r k).trans (H.h6 _ _ _)
  hb2 := fun r => (read2_8 r).trans (H.h7 _ _)
  hw3 := fun r k => (read2_9 r k).trans (H.h8 _ _ _)
  hl3 := fun r k => (read2_10 r k).trans (H.h9 _ _ _)
  hb3 := fun r => (read2_11 r).trans (H.h10 _ _)

theorem wts3 : Wts p 3 (kernelRun0_A.sl.v1150 c arg3 harg3 x2) (kernelRun0_A.sl.v1152 c arg4 harg4 x3) (kernelRun0_A.sl.v1163 c arg5 harg5 x4) (kernelRun0_A.sl.v1172 c arg6 harg6 x5) (kernelRun0_A.sl.v1174 c arg7 harg7 x6) (kernelRun0_A.sl.v1185 c arg8 harg8 x7) (kernelRun0_A.sl.v1194 c arg9 harg9 x8) (kernelRun0_A.sl.v1196 c arg10 harg10 x9) (kernelRun0_A.sl.v1207 c arg11 harg11 x10) where
  hw1 := fun r k => (read3_3 r k).trans (H.h2 _ _ _)
  hl1 := fun r k => (read3_4 r k).trans (H.h3 _ _ _)
  hb1 := fun r => (read3_5 r).trans (H.h4 _ _)
  hw2 := fun r k => (read3_6 r k).trans (H.h5 _ _ _)
  hl2 := fun r k => (read3_7 r k).trans (H.h6 _ _ _)
  hb2 := fun r => (read3_8 r).trans (H.h7 _ _)
  hw3 := fun r k => (read3_9 r k).trans (H.h8 _ _ _)
  hl3 := fun r k => (read3_10 r k).trans (H.h9 _ _ _)
  hb3 := fun r => (read3_11 r).trans (H.h10 _ _)

theorem wts4 : Wts p 4 (kernelRun0_A.sl.v1481 c arg3 harg3 x2) (kernelRun0_A.sl.v1483 c arg4 harg4 x3) (kernelRun0_A.sl.v1494 c arg5 harg5 x4) (kernelRun0_A.sl.v1503 c arg6 harg6 x5) (kernelRun0_A.sl.v1505 c arg7 harg7 x6) (kernelRun0_A.sl.v1516 c arg8 harg8 x7) (kernelRun0_A.sl.v1525 c arg9 harg9 x8) (kernelRun0_A.sl.v1527 c arg10 harg10 x9) (kernelRun0_A.sl.v1538 c arg11 harg11 x10) where
  hw1 := fun r k => (read4_3 r k).trans (H.h2 _ _ _)
  hl1 := fun r k => (read4_4 r k).trans (H.h3 _ _ _)
  hb1 := fun r => (read4_5 r).trans (H.h4 _ _)
  hw2 := fun r k => (read4_6 r k).trans (H.h5 _ _ _)
  hl2 := fun r k => (read4_7 r k).trans (H.h6 _ _ _)
  hb2 := fun r => (read4_8 r).trans (H.h7 _ _)
  hw3 := fun r k => (read4_9 r k).trans (H.h8 _ _ _)
  hl3 := fun r k => (read4_10 r k).trans (H.h9 _ _ _)
  hb3 := fun r => (read4_11 r).trans (H.h10 _ _)

theorem wts5 : Wts p 5 (kernelRun0_A.sl.v1812 c arg3 harg3 x2) (kernelRun0_A.sl.v1814 c arg4 harg4 x3) (kernelRun0_A.sl.v1825 c arg5 harg5 x4) (kernelRun0_A.sl.v1834 c arg6 harg6 x5) (kernelRun0_A.sl.v1836 c arg7 harg7 x6) (kernelRun0_A.sl.v1847 c arg8 harg8 x7) (kernelRun0_A.sl.v1856 c arg9 harg9 x8) (kernelRun0_A.sl.v1858 c arg10 harg10 x9) (kernelRun0_A.sl.v1869 c arg11 harg11 x10) where
  hw1 := fun r k => (read5_3 r k).trans (H.h2 _ _ _)
  hl1 := fun r k => (read5_4 r k).trans (H.h3 _ _ _)
  hb1 := fun r => (read5_5 r).trans (H.h4 _ _)
  hw2 := fun r k => (read5_6 r k).trans (H.h5 _ _ _)
  hl2 := fun r k => (read5_7 r k).trans (H.h6 _ _ _)
  hb2 := fun r => (read5_8 r).trans (H.h7 _ _)
  hw3 := fun r k => (read5_9 r k).trans (H.h8 _ _ _)
  hl3 := fun r k => (read5_10 r k).trans (H.h9 _ _ _)
  hb3 := fun r => (read5_11 r).trans (H.h10 _ _)

theorem tile_at (hB : Bounded p R H1 H2) (hy : ∀ r, |y r| ≤ R) (hz : ∀ r, |z r| ≤ R) (hx : ∀ r, x0 (ix2 r t) = ((y r : ℝ) : EReal))
    (hc : ∀ r, x1 (ix2 r t) = ((z r : ℝ) : EReal)) :
    T8 (stack8 (row0 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row1 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row2 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (row3 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four0 (kernelRun0_A.sl.r_38 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four1 (kernelRun0_A.sl.r_38 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four2 (kernelRun0_A.sl.r_38 c arg1 harg1 arg2 harg2 arg3 harg3 arg4 harg4 arg5 harg5 arg6 harg6 arg7 harg7 arg8 harg8 arg9 harg9 arg10 harg10 arg11 harg11 x0 x1 x2 x3 x4 x5 x6 x7 x8 x9 x10)) (four3 (kernelRun0_A.sl.r_38 c arg1 harg1 arg2 harg2 arg3 harg3 arg4 harg4 arg5 harg5 arg6 harg6 arg7 harg7 arg8 harg8 arg9 harg9 arg10 harg10 arg11 harg11 x0 x1 x2 x3 x4 x5 x6 x7 x8 x9 x10))) t (at_ p z y 6)
    ∧ T1 (total (kernelRun0_A.sl.r_39 c arg1 harg1 arg2 harg2 arg3 harg3 arg4 harg4 arg5 harg5 arg6 harg6 arg7 harg7 arg8 harg8 arg9 harg9 arg10 harg10 arg11 harg11 x0 x1 x2 x3 x4 x5 x6 x7 x8 x9 x10)) t (jac p y z) := by
  have X0 : T8 (kernelRun0_A.sl.v147 c arg1 harg1 x0) t (at_ p z y 0) := fun r => (read147 r t).trans (hx r)
  have C : T4 (kernelRun0_A.sl.v149 c arg2 harg2 x1) t z := fun r => (read149 r t).trans (hc r)
  have J0 : T4 (kernelRun0_A.sl.v150 (F := Ideal)) t (fun _ => 0) := fun r => by
    delta kernelRun0_A.sl.v150 kernelRun0_A.sl.cst_42
    pointwise
    exact EReal.coe_zero.symm
  have B0 := block0 (wts0 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) H) hB (at_le hB hy 0) hz X0 C J0
  have X1 : T8 (kernelRun0_A.sl.v481 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (at_ p z y 1) := rows0 X0 B0.1
  have J1 := B0.2
  have B1 := block1 (wts1 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) H) hB (at_le hB hy 1) hz X1 C J1
  have X2 : T8 (kernelRun0_A.sl.v812 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (at_ p z y 2) := rows1 X1 B1.1
  have J2 := B1.2
  have B2 := block2 (wts2 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) H) hB (at_le hB hy 2) hz X2 C J2
  have X3 : T8 (kernelRun0_A.sl.v1143 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (at_ p z y 3) := rows2 X2 B2.1
  have J3 := B2.2
  have B3 := block3 (wts3 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) H) hB (at_le hB hy 3) hz X3 C J3
  have X4 : T8 (kernelRun0_A.sl.v1474 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (at_ p z y 4) := rows3 X3 B3.1
  have J4 := B3.2
  have B4 := block4 (wts4 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) H) hB (at_le hB hy 4) hz X4 C J4
  have X5 : T8 (kernelRun0_A.sl.v1805 c arg1 harg1 arg2 harg2 arg3 harg3 arg4 harg4 arg5 harg5 arg6 harg6 arg7 harg7 arg8 harg8 arg9 harg9 arg10 harg10 arg11 harg11 x0 x1 x2 x3 x4 x5 x6 x7 x8 x9 x10) t (at_ p z y 5) := rows4 X4 B4.1
  have J5 := B4.2
  have B5 := block5 (wts5 (c := c) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) H) hB (at_le hB hy 5) hz X5 C J5
  have J6 := B5.2
  refine ⟨stack8_at (y := at_ p z y 6) (row0_at (y := at_ p z y 5) X5) (row1_at (y := at_ p z y 5) X5) (row2_at (y := at_ p z y 5) X5) (row3_at (y := at_ p z y 5) X5) (four0_at (y := Flow.moved (lg p 5 (at_ p z y 5) z) (tr 5 (at_ p z y 5))) B5.1) (four1_at (y := Flow.moved (lg p 5 (at_ p z y 5) z) (tr 5 (at_ p z y 5))) B5.1) (four2_at (y := Flow.moved (lg p 5 (at_ p z y 5) z) (tr 5 (at_ p z y 5))) B5.1) (four3_at (y := Flow.moved (lg p 5 (at_ p z y 5) z) (tr 5 (at_ p z y 5))) B5.1), ?_⟩
  have := total_at J6
  unfold T1 at this ⊢
  rw [this]
  congr 1
  refine Finset.sum_congr rfl fun d _ => ?_
  simp only [Finset.sum_range_succ, Finset.sum_range_zero]
  rfl

end Cert.KernelIdeal.Chain

end
-- ==== Proof.KernelHost.lean ====
module

public import proofs.«01_k».proof.Proof.Tile
public import proofs.«01_k».proof.Proof.Gen.KernelIdeal.Value

@[expose] public section

set_option maxRecDepth 16384

noncomputable section

/-! What the kernel's host code hands to the kernel: the transposed samples and the transposed, reordered weights. -/

namespace Cert.KernelIdeal.HostRead

open Idealize.ShloMosaic Idealize.ShloMosaic.TcCoe Idealize.SL.Sem Cert.KernelIdeal Cert.KernelIdeal.Gen Cert.KernelIdeal.Stage Cert.Flow

/-- The reordering of the last layer's rows, one row at a time. -/
theorem take_rows {α : Type} (x : S6x124x32.Idx → α) (idx : IVec S124x1 32) (i : Fin 6) (r : Fin 124) (k : Fin 32) :
    Host.gather gather_S6x124x32_S124x1_S6x124x32_02_1_n_n_1_1_6132 x idx (ix3 i r k)
      = x (ix3 i ⟨min (idx (ix2 r 0)).toInt.toNat 123, by omega⟩ k) := by
  unfold Host.gather
  congr 1
  funext a
  refine Fin.ext ?_
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · show GatherDims.start _ _ _ _ + GatherDims.batchCoord _ _ _ + GatherDims.offCoord _ _ _ = _
    rw [GatherDims.batchCoord_eq_zero _ _ _ List.not_mem_nil]
    unfold GatherDims.start
    rw [dif_neg (show ¬ ((0 : Fin 3) ∈ gather_S6x124x32_S124x1_S6x124x32_02_1_n_n_1_1_6132.startIndexMap) by decide)]
    show 0 + 0 + i.val = i.val
    omega
  · show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 3) ∈ gather_S6x124x32_S124x1_S6x124x32_02_1_n_n_1_1_6132.startIndexMap from List.mem_singleton.mpr rfl)]
    have e : ∀ h, GatherDims.siIdx gather_S6x124x32_S124x1_S6x124x32_02_1_n_n_1_1_6132 (ix3 i r k) ⟨List.idxOf (1 : Fin 3) gather_S6x124x32_S124x1_S6x124x32_02_1_n_n_1_1_6132.startIndexMap, h⟩ = ix2 r 0 := by
      intro h
      funext b; refine Fin.ext ?_
      match b with
      | ⟨0, _⟩ => rfl
      | ⟨1, _⟩ => rfl
    exact congrArg (fun q => min (idx q).toInt.toNat 123) (e _)
  · show GatherDims.start _ _ _ _ + GatherDims.batchCoord _ _ _ + GatherDims.offCoord _ _ _ = _
    rw [GatherDims.batchCoord_eq_zero _ _ _ List.not_mem_nil]
    unfold GatherDims.start
    rw [dif_neg (show ¬ ((2 : Fin 3) ∈ gather_S6x124x32_S124x1_S6x124x32_02_1_n_n_1_1_6132.startIndexMap) by decide)]
    show 0 + 0 + k.val = k.val
    omega

/-- The same for the last layer's offsets. -/
theorem take_offs {α : Type} (x : S6x124.Idx → α) (idx : IVec S124x1 32) (i : Fin 6) (r : Fin 124) :
    Host.gather gather_S6x124_S124x1_S6x124_0_1_n_n_1_1_61 x idx (ix2 i r)
      = x (ix2 i ⟨min (idx (ix2 r 0)).toInt.toNat 123, by omega⟩) := by
  unfold Host.gather
  congr 1
  funext a
  refine Fin.ext ?_
  have ha : a = 0 ∨ a = 1 := by
    match a with
    | ⟨0, _⟩ => exact Or.inl rfl
    | ⟨1, _⟩ => exact Or.inr rfl
  rcases ha with rfl | rfl
  · show GatherDims.start _ _ _ _ + GatherDims.batchCoord _ _ _ + GatherDims.offCoord _ _ _ = _
    rw [GatherDims.batchCoord_eq_zero _ _ _ List.not_mem_nil]
    unfold GatherDims.start
    rw [dif_neg (show ¬ ((0 : Fin 2) ∈ gather_S6x124_S124x1_S6x124_0_1_n_n_1_1_61.startIndexMap) by decide)]
    show 0 + 0 + i.val = i.val
    omega
  · show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S6x124_S124x1_S6x124_0_1_n_n_1_1_61.startIndexMap from List.mem_singleton.mpr rfl)]
    have e : ∀ h, GatherDims.siIdx gather_S6x124_S124x1_S6x124_0_1_n_n_1_1_61 (ix2 i r) ⟨List.idxOf (1 : Fin 2) gather_S6x124_S124x1_S6x124_0_1_n_n_1_1_61.startIndexMap, h⟩ = ix2 r 0 := by
      intro h
      funext b; refine Fin.ext ?_
      match b with
      | ⟨0, _⟩ => rfl
      | ⟨1, _⟩ => rfl
    exact congrArg (fun q => min (idx q).toInt.toNat 123) (e _)

/-- The column of row numbers that the host code reorders by. -/
abbrev order : IVec S124x1 32 := broadcastInDim S124x1 ![0] bcast_S124_S124x1_0 (select (constantI S124 1 0#1)
  (addi (fun i => lit0 (S124.rowMajor i)) (broadcastInDim S124 ![] bcast_S_S124 (constantI S_ 32 124#32))) (fun i => lit0 (S124.rowMajor i)))

/-- Row `r` of the reordered layer is row `perm r` of the given one. -/
theorem order_at (r : Fin 124) : min (order (ix2 r 0)).toInt.toNat 123 = perm r := by
  revert r; decide +kernel

variable (m : (ℓ : Loc nD τ sig) → Buf (Elt Ideal) ℓ) (c : Dev nD)

theorem V0 (r : Fin 8) (n : Fin 131072) : V m c main_v0 (ix2 r n) = m ((c : Thread nD τ).loc main_arg0) (ix2 n r) := by
  show StableHlo.after hostOps0 _ (Proc.devRef .tc main_v0) (ix2 r n) = _
  after_results
  pointwise

theorem V1 (r : Fin 4) (n : Fin 131072) : V m c main_v1 (ix2 r n) = m ((c : Thread nD τ).loc main_arg1) (ix2 n r) := by
  show StableHlo.after hostOps0 _ (Proc.devRef .tc main_v1) (ix2 r n) = _
  after_results
  pointwise

/-- The weights of the specification, as the seven arrays hold them. -/
structure Weights (p : Par) (a2 : Vec Ideal S6x8x32 .f32) (a3 : Vec Ideal S6x32 .f32) (a4 : Vec Ideal S6x32x32 .f32) (a5 : Vec Ideal S6x32 .f32)
    (a6 : Vec Ideal S6x32x124 .f32) (a7 : Vec Ideal S6x124 .f32) : Prop where
  w1 : ∀ i k r, a2 (ix3 i k r) = ((p.W1 i k r : ℝ) : EReal)
  b1 : ∀ i r, a3 (ix2 i r) = ((p.b1 i r : ℝ) : EReal)
  w2 : ∀ i k r, a4 (ix3 i k r) = ((p.W2 i k r : ℝ) : EReal)
  b2 : ∀ i r, a5 (ix2 i r) = ((p.b2 i r : ℝ) : EReal)
  w3 : ∀ i k r, a6 (ix3 i k r) = ((p.W3 i k r : ℝ) : EReal)
  b3 : ∀ i r, a7 (ix2 i r) = ((p.b3 i r : ℝ) : EReal)

/-- A real number taken from itself leaves nothing. -/
theorem self_sub (r : ℝ) : ((r : ℝ) : EReal) - ((r : ℝ) : EReal) = 0 := by
  rw [← EReal.coe_sub, sub_self, EReal.coe_zero]

theorem V9 (i : Fin 6) (r : Fin 124) (k : Fin 32) : V m c main_v9 (ix3 i r k) = m ((c : Thread nD τ).loc main_arg6) (ix3 i k (perm r)) := by
  show StableHlo.after hostOps0 _ (Proc.devRef .tc main_v9) (ix3 i r k) = _
  after_results
  beta_reduce
  rw [take_rows]
  have e : (⟨min (order (ix2 r 0)).toInt.toNat 123, by omega⟩ : Fin 124) = perm r := Fin.ext (order_at r)
  refine (congrArg (fun q => transpose S6x124x32 [0, 2, 1] (m ((c : Thread nD τ).loc main_arg6)) transposes_S6x32x124_S6x124x32_0_2_1 (ix3 i q k)) e).trans ?_
  pointwise

theorem V28 (i : Fin 6) (r : Fin 124) : V m c main_v28 (ix2 i r) = m ((c : Thread nD τ).loc main_arg7) (ix2 i (perm r)) := by
  show StableHlo.after hostOps0 _ (Proc.devRef .tc main_v28) (ix2 i r) = _
  after_results
  beta_reduce
  rw [take_offs]
  have e : (⟨min (order (ix2 r 0)).toInt.toNat 123, by omega⟩ : Fin 124) = perm r := Fin.ext (order_at r)
  exact congrArg (fun q => m ((c : Thread nD τ).loc main_arg7) (ix2 i q)) e

variable {m c} {p : Par} (H : Weights p (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)))
include H

theorem held : Chain.Held p (V m c main_v10) (V m c main_v13) (V m c main_v22) (V m c main_v14) (V m c main_v17) (V m c main_v23)
    (V m c main_v18) (V m c main_v21) (V m c main_v29) where
  h2 i r k := by
    refine Eq.trans ?_ (H.w1 i k r)
    show StableHlo.after hostOps0 _ (Proc.devRef .tc main_v10) (ix3 i r k) = _
    after_results
    pointwise
  h3 i r k := by
    refine Eq.trans (b := (fun a : EReal => a - a) (m ((c : Thread nD τ).loc main_arg2) (ix3 i k r))) ?_ ?_
    · show StableHlo.after hostOps0 _ (Proc.devRef .tc main_v13) (ix3 i r k) = _
      after_results
      pointwise
    · rw [H.w1]; exact self_sub _
  h4 i r := by
    refine Eq.trans ?_ (H.b1 i r)
    show StableHlo.after hostOps0 _ (Proc.devRef .tc main_v22) (ix3 i r 0) = _
    after_results
    pointwise
  h5 i r k := by
    refine Eq.trans ?_ (H.w2 i k r)
    show StableHlo.after hostOps0 _ (Proc.devRef .tc main_v14) (ix3 i r k) = _
    after_results
    pointwise
  h6 i r k := by
    refine Eq.trans (b := (fun a : EReal => a - a) (m ((c : Thread nD τ).loc main_arg4) (ix3 i k r))) ?_ ?_
    · show StableHlo.after hostOps0 _ (Proc.devRef .tc main_v17) (ix3 i r k) = _
      after_results
      pointwise
    · rw [H.w2]; exact self_sub _
  h7 i r := by
    refine Eq.trans ?_ (H.b2 i r)
    show StableHlo.after hostOps0 _ (Proc.devRef .tc main_v23) (ix3 i r 0) = _
    after_results
    pointwise
  h8 i r k := by
    refine Eq.trans ?_ ((V9 m c i r k).trans (H.w3 i k (perm r)))
    show @Eq EReal (StableHlo.after hostOps0 (fun b => m (c, b)) (Proc.devRef .tc main_v18) (ix3 i r k)) (StableHlo.after hostOps0 (fun b => m (c, b)) (Proc.devRef .tc main_v9) (ix3 i r k))
    after_results
    rfl
  h9 i r k := by
    refine Eq.trans (b := (fun a : EReal => a - a) (V m c main_v9 (ix3 i r k))) ?_ ?_
    · show @Eq EReal (StableHlo.after hostOps0 (fun b => m (c, b)) (Proc.devRef .tc main_v21) (ix3 i r k)) <| (fun a : EReal => a - a) (StableHlo.after hostOps0 (fun b => m (c, b)) (Proc.devRef .tc main_v9) (ix3 i r k))
      after_results
      rfl
    · rw [V9, H.w3]; exact self_sub _
  h10 i r := by
    refine Eq.trans ?_ ((V28 m c i r).trans (H.b3 i (perm r)))
    show StableHlo.after hostOps0 _ (Proc.devRef .tc main_v29) (ix3 i r 0) = StableHlo.after hostOps0 (fun b => m (c, b)) (Proc.devRef .tc main_v28) (ix2 i r)
    after_results
    pointwise

end Cert.KernelIdeal.HostRead
-- ==== Proof.PreRead.lean ====
module

public import proofs.«01_k».proof.Proof.Gen.Pre_logits_bounded
public import proofs.«01_k».proof.Proof.KernelHost
public import Idealize.ShloMosaic.Lib.Pointwise

@[expose] public section

set_option maxRecDepth 16384

noncomputable section

/-! What the precondition says of the arguments: every entry is a real number, and the weights keep every width and height logit within 60. -/

namespace Cert.PreRead

open Idealize.ShloMosaic
open Cert.Pre_logits_bounded Cert.Pre_logits_bounded.Gen Cert.Flow

/-! ## Words and literals -/

theorem and_one : ∀ {a b : BitVec 1}, IntOp.andi a b = 1#1 → a = 1#1 ∧ b = 1#1 := by decide

theorem truth {P : Prop} [Decidable P] (h : BitVec.ofBool (decide P) = 1#1) : P := by
  by_contra hp
  rw [decide_eq_false hp] at h
  exact absurd h (by decide)

theorem lit_bot : Ideal.ofBits .f32 0xFF800000#32 = (⊥ : EReal) := by simp [Ideal.ofBits, Ideal.ieee, -EReal.coe_mul]
theorem lit_top : Ideal.ofBits .f32 0x7F800000#32 = (⊤ : EReal) := by simp [Ideal.ofBits, Ideal.ieee, -EReal.coe_mul]
theorem lit_one : Ideal.ofBits .f32 0x3F800000#32 = ((1 : ℝ) : EReal) := by
  simp [Ideal.ofBits, Ideal.ieee, -EReal.coe_mul]; norm_num
theorem lit_sixty : Ideal.ofBits .f32 0x42700000#32 = ((60 : ℝ) : EReal) := by
  simp [Ideal.ofBits, Ideal.ieee, -EReal.coe_mul]; norm_num

/-- The size of an extended real. -/
def size (a : EReal) : EReal := max a (-a)

theorem size_real (r : ℝ) : size (r : EReal) = ((|r| : ℝ) : EReal) := by
  unfold size
  rw [← EReal.coe_neg, abs]
  exact (Monotone.map_max (fun a b h => EReal.coe_le_coe_iff.mpr h)).symm

theorem real_of {a : EReal} (h : size a < ⊤) : ∃ r : ℝ, a = ((r : ℝ) : EReal) := by
  unfold size at h
  induction a with
  | bot => simp at h
  | coe r => exact ⟨r, rfl⟩
  | top => simp at h

/-! ## Maxima -/

/-- An entry is at most the maximum it enters. -/
theorem le_max_all {s : Shape} {axes : List (Fin s.rank)} (op : EReal → EReal → EReal) (ho : op = max) (x : s.Idx → EReal) (init : S_.Idx → EReal) (h : s.ReducesTo axes S_) (hu : 0 < S_.numel) (i : s.Idx) :
    x i ≤ Host.reduce op x init h hu ix0 := by
  subst ho
  rw [Host.reduce_eq_fold]
  refine (Finset.le_fold_max _).mpr (Or.inr ⟨i, Finset.mem_filter.mpr ⟨Finset.mem_univ _, ?_⟩, le_rfl⟩)
  funext d
  exact d.elim0

/-- The largest size among an array's entries. -/
def biggest {s : Shape} {axes : List (Fin s.rank)} (A : FVec Ideal s .f32) (h : s.ReducesTo axes S_) : FVec Ideal S_ .f32 :=
  Host.reduce FloatOps.maximumf (Host.absf A) (constant S_ .f32 0xFF800000#32) h h_S_

theorem le_biggest {s : Shape} {axes : List (Fin s.rank)} (A : FVec Ideal s .f32) (h : s.ReducesTo axes S_) (i : s.Idx) : size (A i) ≤ biggest A h ix0 :=
  le_max_all (FloatOps.maximumf (F := Ideal) (φ := .f32)) rfl (Host.absf A) (constant (F := Ideal) S_ .f32 0xFF800000#32) h h_S_ i

/-- The array has a largest size that is finite. -/
def finite {s : Shape} {axes : List (Fin s.rank)} (A : FVec Ideal s .f32) (h : s.ReducesTo axes S_) : IVec S_ 1 :=
  cmpf .olt (biggest A h) (constant S_ .f32 0x7F800000#32)

theorem lt_of_finite {s : Shape} {axes : List (Fin s.rank)} {A : FVec Ideal s .f32} {h : s.ReducesTo axes S_} (hf : finite A h ix0 = 1#1) : biggest A h ix0 < ⊤ := by
  unfold finite at hf
  generalize biggest A h = B at hf ⊢
  have := truth (P := B ix0 < Ideal.ofBits .f32 0x7F800000#32) hf
  rwa [lit_top] at this

theorem real_of_finite {s : Shape} {axes : List (Fin s.rank)} {A : FVec Ideal s .f32} {h : s.ReducesTo axes S_} (hf : finite A h ix0 = 1#1) (i : s.Idx) : ∃ r : ℝ, A i = ((r : ℝ) : EReal) :=
  real_of ((le_biggest A h i).trans_lt (lt_of_finite hf))

/-! ## The chain of bounds -/

/-- The common bound on coordinates and context: at least one. -/
def reach (a0 : FVec Ideal S131072x8 .f32) (a1 : FVec Ideal S131072x4 .f32) : FVec Ideal S_ .f32 :=
  maximumf (maximumf (biggest a0 reducesTo_S131072x8_S_d0_1) (biggest a1 reducesTo_S131072x4_S_d0_1)) (constant S_ .f32 0x3F800000#32)

def first (r : FVec Ideal S_ .f32) (a2 : FVec Ideal S6x8x32 .f32) (a3 : FVec Ideal S6x32 .f32) : FVec Ideal S6x32 .f32 :=
  addf (Host.reduceAdd (mulf (broadcastInDim S6x8x32 ![] bcast_S_S6x8x32 r) (Host.absf a2)) (constant S_ .f32 0x00000000#32) reducesTo_S6x8x32_S6x32_d1 h_S_) (Host.absf a3)

def second (h : FVec Ideal S6x32 .f32) (a4 : FVec Ideal S6x32x32 .f32) (a5 : FVec Ideal S6x32 .f32) : FVec Ideal S6x32 .f32 :=
  addf (Host.reduceAdd (mulf (broadcastInDim S6x32x32 ![0, 1, 2] bcast_S6x32x1_S6x32x32_0_1_2 (broadcastInDim S6x32x1 ![0, 1] bcast_S6x32_S6x32x1_0_1 h)) (Host.absf a4)) (constant S_ .f32 0x00000000#32) reducesTo_S6x32x32_S6x32_d1 h_S_) (Host.absf a5)

def third (h : FVec Ideal S6x32 .f32) (a6 : FVec Ideal S6x32x124 .f32) (a7 : FVec Ideal S6x124 .f32) : FVec Ideal S6x124 .f32 :=
  addf (Host.reduceAdd (mulf (broadcastInDim S6x32x124 ![0, 1, 2] bcast_S6x32x1_S6x32x124_0_1_2 (broadcastInDim S6x32x1 ![0, 1] bcast_S6x32_S6x32x1_0_1 h)) (Host.absf a6)) (constant S_ .f32 0x00000000#32) reducesTo_S6x32x124_S6x124_d1 h_S_) (Host.absf a7)

variable {a0 : FVec Ideal S131072x8 .f32} {a1 : FVec Ideal S131072x4 .f32} {a2 : FVec Ideal S6x8x32 .f32} {a3 : FVec Ideal S6x32 .f32} {a4 : FVec Ideal S6x32x32 .f32} {a5 : FVec Ideal S6x32 .f32} {a6 : FVec Ideal S6x32x124 .f32} {a7 : FVec Ideal S6x124 .f32}

/-- The precondition, its chain of operations named. -/
theorem unfolded : Cert.Pre_logits_bounded.fn (F := Ideal) a0 a1 a2 a3 a4 a5 a6 a7
    = fn_part3 (F := Ideal) (finite a0 reducesTo_S131072x8_S_d0_1) (finite a1 reducesTo_S131072x4_S_d0_1) (finite a2 reducesTo_S6x8x32_S_d0_1_2) (finite a3 reducesTo_S6x32_S_d0_1) (finite a4 reducesTo_S6x32x32_S_d0_1_2) (finite a5 reducesTo_S6x32_S_d0_1) (finite a6 reducesTo_S6x32x124_S_d0_1_2) (finite a7 reducesTo_S6x124_S_d0_1)
      (third (second (first (reach a0 a1) a2 a3) a4 a5) a6 a7) := rfl

theorem spread (v : IVec S_ 1) (i : Fin 6) (d : Fin 4) (b : Fin 20) : broadcastInDim S6x4x20 ![] bcast_S_S6x4x20 v (ix3 i d b) = v ix0 := by
  pointwise

/-- The logits cut per coordinate, widths and heights only. -/
theorem cut_at (L : FVec Ideal S6x124 .f32) (i : Fin 6) (d : Fin 4) (b : Fin 20) :
    extractStridedSlice S6x4x20 ![0, 0, 0] (shapeCast S6x4x31 L shapeCasts_S6x124_S6x4x31) slices_S6x4x31_S6x4x20_0_0_0 (ix3 i d b) = L (ix2 i ⟨31 * d + b, by omega⟩) := by
  pointwise
  exact congrArg (fun q => L (ix2 i q)) (Fin.ext (by show _ = 31 * (d : ℕ) + b; dsimp only; omega))

theorem parts {v2 v5 v8 v11 v14 v17 v20 v23 : IVec S_ 1} {L : FVec Ideal S6x124 .f32} (h : fn_part3 (F := Ideal) v2 v5 v8 v11 v14 v17 v20 v23 L = fun _ => 1#1) (i : Fin 6) (d : Fin 4) (b : Fin 20) :
    L (ix2 i ⟨31 * d + b, by omega⟩) ≤ ((60 : ℝ) : EReal) ∧ v2 ix0 = 1#1 ∧ v5 ix0 = 1#1 ∧ v8 ix0 = 1#1 ∧ v11 ix0 = 1#1 ∧ v14 ix0 = 1#1 ∧ v17 ix0 = 1#1 ∧ v20 ix0 = 1#1 ∧ v23 ix0 = 1#1 := by
  have e := congrFun h (ix3 i d b)
  unfold fn_part3 at e
  obtain ⟨e, h8⟩ := and_one e
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨e, h1⟩ := and_one e
  rw [spread] at h1 h2 h3 h4 h5 h6 h7 h8
  refine ⟨?_, h1, h2, h3, h4, h5, h6, h7, h8⟩
  have := truth (P := extractStridedSlice S6x4x20 ![0, 0, 0] (shapeCast S6x4x31 L shapeCasts_S6x124_S6x4x31) slices_S6x4x31_S6x4x20_0_0_0 (ix3 i d b) ≤ Ideal.ofBits .f32 0x42700000#32) e
  rwa [lit_sixty, cut_at] at this

theorem first_real {R : ℝ} {r : FVec Ideal S_ .f32} (hr : r ix0 = ((R : ℝ) : EReal)) {W : Fin 6 → Fin 8 → Fin 32 → ℝ} {b : Fin 6 → Fin 32 → ℝ}
    (hW : ∀ i k j, a2 (ix3 i k j) = ((W i k j : ℝ) : EReal)) (hb : ∀ i j, a3 (ix2 i j) = ((b i j : ℝ) : EReal)) (i : Fin 6) (j : Fin 32) :
    first r a2 a3 (ix2 i j) = (((∑ k, R * |W i k j|) + |b i j| : ℝ) : EReal) := by
  unfold first
  pointwise
  show (∑ k, r ix0 * size (a2 (ix3 i k j))) + size (a3 (ix2 i j)) = _
  simp only [hr, hW, hb, size_real, ← EReal.coe_mul, coe_sum, ← EReal.coe_add]

theorem second_real {H : Fin 6 → Fin 32 → ℝ} {h : FVec Ideal S6x32 .f32} (hr : ∀ i k, h (ix2 i k) = ((H i k : ℝ) : EReal)) {W : Fin 6 → Fin 32 → Fin 32 → ℝ} {b : Fin 6 → Fin 32 → ℝ}
    (hW : ∀ i k j, a4 (ix3 i k j) = ((W i k j : ℝ) : EReal)) (hb : ∀ i j, a5 (ix2 i j) = ((b i j : ℝ) : EReal)) (i : Fin 6) (j : Fin 32) :
    second h a4 a5 (ix2 i j) = (((∑ k, H i k * |W i k j|) + |b i j| : ℝ) : EReal) := by
  unfold second
  pointwise
  show (∑ k, h (ix2 i k) * size (a4 (ix3 i k j))) + size (a5 (ix2 i j)) = _
  simp only [hr, hW, hb, size_real, ← EReal.coe_mul, coe_sum, ← EReal.coe_add]

theorem third_real {H : Fin 6 → Fin 32 → ℝ} {h : FVec Ideal S6x32 .f32} (hr : ∀ i k, h (ix2 i k) = ((H i k : ℝ) : EReal)) {W : Fin 6 → Fin 32 → Fin 124 → ℝ} {b : Fin 6 → Fin 124 → ℝ}
    (hW : ∀ i k j, a6 (ix3 i k j) = ((W i k j : ℝ) : EReal)) (hb : ∀ i j, a7 (ix2 i j) = ((b i j : ℝ) : EReal)) (i : Fin 6) (j : Fin 124) :
    third h a6 a7 (ix2 i j) = (((∑ k, H i k * |W i k j|) + |b i j| : ℝ) : EReal) := by
  unfold third
  pointwise
  show (∑ k, h (ix2 i k) * size (a6 (ix3 i k j))) + size (a7 (ix2 i j)) = _
  simp only [hr, hW, hb, size_real, ← EReal.coe_mul, coe_sum, ← EReal.coe_add]

theorem max_at (A B : FVec Ideal S_ .f32) : maximumf A B ix0 = max (A ix0) (B ix0) := rfl

theorem one_at : constant (F := Ideal) S_ .f32 0x3F800000#32 ix0 = ((1 : ℝ) : EReal) := lit_one

theorem reach_of {b0 b1 o : EReal} (ho : o = ((1 : ℝ) : EReal)) (h0 : b0 < ⊤) (h1 : b1 < ⊤) :
    ∃ R : ℝ, max (max b0 b1) o = ((R : ℝ) : EReal) ∧ 1 ≤ R ∧ b0 ≤ ((R : ℝ) : EReal) ∧ b1 ≤ ((R : ℝ) : EReal) := by
  subst ho
  have t : max (max b0 b1) ((1 : ℝ) : EReal) ≠ ⊤ := (max_lt (max_lt h0 h1) (EReal.coe_lt_top 1)).ne
  have b : max (max b0 b1) ((1 : ℝ) : EReal) ≠ ⊥ := ((EReal.bot_lt_coe 1).trans_le (le_max_right _ _)).ne'
  obtain ⟨R, hR⟩ : ∃ R : ℝ, max (max b0 b1) ((1 : ℝ) : EReal) = ((R : ℝ) : EReal) := ⟨_, (EReal.coe_toReal t b).symm⟩
  refine ⟨R, hR, EReal.coe_le_coe_iff.mp ?_, ?_, ?_⟩
  · exact hR ▸ le_max_right _ _
  · exact hR ▸ (le_max_left _ _).trans (le_max_left _ _)
  · exact hR ▸ (le_max_right _ _).trans (le_max_left _ _)

/-- The common bound is a real number, at least one, and bounds both largest sizes. -/
theorem reach_real (h0 : biggest a0 reducesTo_S131072x8_S_d0_1 ix0 < ⊤) (h1 : biggest a1 reducesTo_S131072x4_S_d0_1 ix0 < ⊤) :
    ∃ R : ℝ, reach a0 a1 ix0 = ((R : ℝ) : EReal) ∧ 1 ≤ R ∧ biggest a0 reducesTo_S131072x8_S_d0_1 ix0 ≤ ((R : ℝ) : EReal) ∧ biggest a1 reducesTo_S131072x4_S_d0_1 ix0 ≤ ((R : ℝ) : EReal) := by
  obtain ⟨R, hR, h⟩ := reach_of one_at h0 h1
  exact ⟨R, ((max_at _ _).trans (congrArg (fun q => max q _) (max_at _ _))).trans hR, h⟩

/-- Everything the precondition gives. -/
theorem read (h : Cert.Pre_logits_bounded.fn (F := Ideal) a0 a1 a2 a3 a4 a5 a6 a7 = fun _ => 1#1) :
    ∃ (p : Par) (R : ℝ) (H1 H2 : Fin 6 → Fin 32 → ℝ) (X : Fin 131072 → Fin 8 → ℝ) (Z : Fin 131072 → Fin 4 → ℝ),
      Cert.KernelIdeal.HostRead.Weights p a2 a3 a4 a5 a6 a7 ∧ Bounded p R H1 H2 ∧ (∀ n r, a0 (ix2 n r) = ((X n r : ℝ) : EReal)) ∧ (∀ n r, a1 (ix2 n r) = ((Z n r : ℝ) : EReal))
        ∧ (∀ n r, |X n r| ≤ R) ∧ ∀ n r, |Z n r| ≤ R := by
  rw [unfolded] at h
  have q := parts h
  obtain ⟨-, f0, f1, f2, f3, f4, f5, f6, f7⟩ := q 0 0 0
  choose X hX using fun n r => real_of_finite f0 (ix2 n r)
  choose Z hZ using fun n r => real_of_finite f1 (ix2 n r)
  choose W1 hW1 using fun i k j => real_of_finite f2 (ix3 i k j)
  choose b1 hb1 using fun i j => real_of_finite f3 (ix2 i j)
  choose W2 hW2 using fun i k j => real_of_finite f4 (ix3 i k j)
  choose b2 hb2 using fun i j => real_of_finite f5 (ix2 i j)
  choose W3 hW3 using fun i k j => real_of_finite f6 (ix3 i k j)
  choose b3 hb3 using fun i j => real_of_finite f7 (ix2 i j)
  obtain ⟨R, hR, one, r0, r1⟩ := reach_real (lt_of_finite f0) (lt_of_finite f1)
  have s1 := first_real hR hW1 hb1
  have s2 := second_real s1 hW2 hb2
  have s3 := third_real s2 hW3 hb3
  refine ⟨⟨W1, b1, W2, b2, W3, b3⟩, R, _, _, X, Z, ⟨hW1, hb1, hW2, hb2, hW3, hb3⟩, ⟨one, fun _ _ => rfl, fun _ _ => rfl, fun i j hj => ?_⟩, hX, hZ, fun n r => ?_, fun n r => ?_⟩
  · have := (q i ⟨j.val / 31, by omega⟩ ⟨j.val % 31, hj⟩).1
    rw [show (⟨31 * (j.val / 31) + j.val % 31, by omega⟩ : Fin 124) = j from Fin.ext (Nat.div_add_mod _ _), s3] at this
    exact EReal.coe_le_coe_iff.mp this
  · have := (le_biggest a0 reducesTo_S131072x8_S_d0_1 (ix2 n r)).trans r0
    rw [hX, size_real] at this
    exact EReal.coe_le_coe_iff.mp this
  · have := (le_biggest a1 reducesTo_S131072x4_S_d0_1 (ix2 n r)).trans r1
    rw [hZ, size_real] at this
    exact EReal.coe_le_coe_iff.mp this

end Cert.PreRead

end
-- ==== Proof.KernelOut.lean ====
module

public import proofs.«01_k».proof.Proof.KernelHost

@[expose] public section

set_option maxRecDepth 16384

noncomputable section

/-! The kernel's two result arrays, one sample at a time. -/

namespace Cert.KernelIdeal.Out

open Idealize.ShloMosaic Idealize.ShloMosaic.TcCoe Idealize.SL.Sem Cert.KernelIdeal Cert.KernelIdeal.Gen Cert.KernelIdeal.Stage Cert.KernelIdeal.Chain Cert.Flow

theorem hz : (![0, 0] : Fin 2 → Nat) = fun _ => 0 := funext fun a => by fin_cases a <;> rfl

section Body

variable {c : Dev nD} {i : grid0.Coords} {arg1 : Memref sig .tc .vmem S8x4096 .f32} {harg1 : arg1.IsWhole} {arg2 : Memref sig .tc .vmem S4x4096 .f32} {harg2 : arg2.IsWhole} {arg3 : Memref sig .tc .vmem S6x32x8 .bf16} {harg3 : arg3.IsWhole} {arg4 : Memref sig .tc .vmem S6x32x8 .bf16} {harg4 : arg4.IsWhole} {arg5 : Memref sig .tc .vmem S6x32x1 .f32} {harg5 : arg5.IsWhole} {arg6 : Memref sig .tc .vmem S6x32x32 .bf16} {harg6 : arg6.IsWhole} {arg7 : Memref sig .tc .vmem S6x32x32 .bf16} {harg7 : arg7.IsWhole} {arg8 : Memref sig .tc .vmem S6x32x1 .f32} {harg8 : arg8.IsWhole} {arg9 : Memref sig .tc .vmem S6x124x32 .bf16} {harg9 : arg9.IsWhole} {arg10 : Memref sig .tc .vmem S6x124x32 .bf16} {harg10 : arg10.IsWhole} {arg11 : Memref sig .tc .vmem S6x124x1 .f32} {harg11 : arg11.IsWhole} {arg12 : Memref sig .tc .vmem S8x4096 .f32} {harg12 : arg12.IsWhole} {arg13 : Memref sig .tc .vmem S1x4096 .f32} {harg13 : arg13.IsWhole} {arg14 : Memref sig .tc .vmem S8x128 .f32} {harg14 : arg14.IsWhole} {x0 : Vec Ideal S8x4096 .f32} {x1 : Vec Ideal S4x4096 .f32} {x2 : Vec Ideal S6x32x8 .bf16} {x3 : Vec Ideal S6x32x8 .bf16} {x4 : Vec Ideal S6x32x1 .f32} {x5 : Vec Ideal S6x32x32 .bf16} {x6 : Vec Ideal S6x32x32 .bf16} {x7 : Vec Ideal S6x32x1 .f32} {x8 : Vec Ideal S6x124x32 .bf16} {x9 : Vec Ideal S6x124x32 .bf16} {x10 : Vec Ideal S6x124x1 .f32}

variable {t : Fin 4096} {p : Par} {z : Fin 4 → ℝ} {y : Fin 8 → ℝ} {R : ℝ} {H1 H2 : Fin 6 → Fin 32 → ℝ}

/-- What the body leaves in its first output block, at one sample. -/
theorem out11_at (H : Held p x2 x3 x4 x5 x6 x7 x8 x9 x10) (hB : Bounded p R H1 H2) (hy : ∀ r, |y r| ≤ R) (hz' : ∀ r, |z r| ≤ R)
    (hx : ∀ r, x0 (ix2 r t) = ((y r : ℝ) : EReal)) (hc : ∀ r, x1 (ix2 r t) = ((z r : ℝ) : EReal)) :
    T8 (out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10) t (at_ p z y 6) := by
  have h := (tile_at (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) H hB hy hz' hx hc).1
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  rw [View.canon_unit_zero hz]
  exact h

/-- What the body leaves in its second output block, at one sample. -/
theorem out12_at (H : Held p x2 x3 x4 x5 x6 x7 x8 x9 x10) (hB : Bounded p R H1 H2) (hy : ∀ r, |y r| ≤ R) (hz' : ∀ r, |z r| ≤ R)
    (hx : ∀ r, x0 (ix2 r t) = ((y r : ℝ) : EReal)) (hc : ∀ r, x1 (ix2 r t) = ((z r : ℝ) : EReal)) :
    T1 (out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10) t (jac p y z) := by
  have h := (tile_at (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) H hB hy hz' hx hc).2
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  rw [View.canon_unit_zero hz]
  exact h

end Body

variable (m : (ℓ : Loc nD τ sig) → Buf (Elt Ideal) ℓ) (c : Dev nD)

/-- The samples of tile `t`. -/
abbrev lane (t : Fin cfg0.N) (l : Fin 4096) : Fin 131072 := ⟨4096 * t.val + l.val, by have := t.isLt; have h : cfg0.N = 32 := N_0; omega⟩

theorem idx0 : ∀ t : Fin cfg0.N, win0_0.index t 0 * win0_0.size 0 = 0 ∧ win0_0.index t 1 * win0_0.size 1 = 4096 * t.val :=
  (by decide +kernel : ∀ t : Fin grid0.N, win0_0.index t 0 * win0_0.size 0 = 0 ∧ win0_0.index t 1 * win0_0.size 1 = 4096 * t.val)

/-- Where the block of tile `t` sits in the array. -/
theorem emb0 (t : Fin cfg0.N) (r : Fin 8) (l : Fin 4096) : ((cfg0.win 0).blk t).view.emb (ix2 r l) = (ix2 r (lane t l) : S8x131072.Idx) := by
  have h := idx0 t
  funext a
  refine Fin.ext ?_
  match a with
  | ⟨0, q⟩ => exact (Pipeline.Window.rect_emb_val win0_0 t (ix2 r l) ⟨0, q⟩).trans ((congrArg (· + r.val) h.1).trans (Nat.zero_add _))
  | ⟨1, q⟩ => exact (Pipeline.Window.rect_emb_val win0_0 t (ix2 r l) ⟨1, q⟩).trans (congrArg (· + l.val) h.2)

theorem idx1 : ∀ t : Fin cfg0.N, win0_1.index t 0 * win0_1.size 0 = 0 ∧ win0_1.index t 1 * win0_1.size 1 = 4096 * t.val :=
  (by decide +kernel : ∀ t : Fin grid0.N, win0_1.index t 0 * win0_1.size 0 = 0 ∧ win0_1.index t 1 * win0_1.size 1 = 4096 * t.val)

/-- Where the block of tile `t` sits in the array. -/
theorem emb1 (t : Fin cfg0.N) (r : Fin 4) (l : Fin 4096) : ((cfg0.win 1).blk t).view.emb (ix2 r l) = (ix2 r (lane t l) : S4x131072.Idx) := by
  have h := idx1 t
  funext a
  refine Fin.ext ?_
  match a with
  | ⟨0, q⟩ => exact (Pipeline.Window.rect_emb_val win0_1 t (ix2 r l) ⟨0, q⟩).trans ((congrArg (· + r.val) h.1).trans (Nat.zero_add _))
  | ⟨1, q⟩ => exact (Pipeline.Window.rect_emb_val win0_1 t (ix2 r l) ⟨1, q⟩).trans (congrArg (· + l.val) h.2)

theorem idx11 : ∀ t : Fin cfg0.N, win0_11.index t 0 * win0_11.size 0 = 0 ∧ win0_11.index t 1 * win0_11.size 1 = 4096 * t.val :=
  (by decide +kernel : ∀ t : Fin grid0.N, win0_11.index t 0 * win0_11.size 0 = 0 ∧ win0_11.index t 1 * win0_11.size 1 = 4096 * t.val)

/-- Where the block of tile `t` sits in the array. -/
theorem emb11 (t : Fin cfg0.N) (r : Fin 8) (l : Fin 4096) : ((cfg0.win 11).blk t).view.emb (ix2 r l) = (ix2 r (lane t l) : S8x131072.Idx) := by
  have h := idx11 t
  funext a
  refine Fin.ext ?_
  match a with
  | ⟨0, q⟩ => exact (Pipeline.Window.rect_emb_val win0_11 t (ix2 r l) ⟨0, q⟩).trans ((congrArg (· + r.val) h.1).trans (Nat.zero_add _))
  | ⟨1, q⟩ => exact (Pipeline.Window.rect_emb_val win0_11 t (ix2 r l) ⟨1, q⟩).trans (congrArg (· + l.val) h.2)

theorem idx12 : ∀ t : Fin cfg0.N, win0_12.index t 0 * win0_12.size 0 = 0 ∧ win0_12.index t 1 * win0_12.size 1 = 4096 * t.val :=
  (by decide +kernel : ∀ t : Fin grid0.N, win0_12.index t 0 * win0_12.size 0 = 0 ∧ win0_12.index t 1 * win0_12.size 1 = 4096 * t.val)

/-- Where the block of tile `t` sits in the array. -/
theorem emb12 (t : Fin cfg0.N) (r : Fin 1) (l : Fin 4096) : ((cfg0.win 12).blk t).view.emb (ix2 r l) = (ix2 r (lane t l) : S1x131072.Idx) := by
  have h := idx12 t
  funext a
  refine Fin.ext ?_
  match a with
  | ⟨0, q⟩ => exact (Pipeline.Window.rect_emb_val win0_12 t (ix2 r l) ⟨0, q⟩).trans ((congrArg (· + r.val) h.1).trans (Nat.zero_add _))
  | ⟨1, q⟩ => exact (Pipeline.Window.rect_emb_val win0_12 t (ix2 r l) ⟨1, q⟩).trans (congrArg (· + l.val) h.2)

theorem blk0 (t : Fin cfg0.N) (r : Fin 8) (l : Fin 4096) : iblk m c 0 t (ix2 r l) = V m c main_v0 (ix2 r (lane t l)) :=
  congrArg (V m c main_v0) (emb0 t r l)

theorem blk1 (t : Fin cfg0.N) (r : Fin 4) (l : Fin 4096) : iblk m c 1 t (ix2 r l) = V m c main_v1 (ix2 r (lane t l)) :=
  congrArg (V m c main_v1) (emb1 t r l)

theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

theorem blk2 (t : Fin cfg0.N) : (iblk m c 2 t : Vec Ideal S6x32x8 _) = V m c main_v10 := by
  have h := idx2 t
  funext y
  refine congrArg (V m c main_v10) (funext fun a => Fin.ext ?_)
  match a with
  | ⟨0, q⟩ => exact Pipeline.Window.rect_emb_val_of_index_zero win0_2 t ⟨0, q⟩ h.1 y
  | ⟨1, q⟩ => exact Pipeline.Window.rect_emb_val_of_index_zero win0_2 t ⟨1, q⟩ h.2.1 y
  | ⟨2, q⟩ => exact Pipeline.Window.rect_emb_val_of_index_zero win0_2 t ⟨2, q⟩ h.2.2 y

theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem blk3 (t : Fin cfg0.N) : (iblk m c 3 t : Vec Ideal S6x32x8 _) = V m c main_v13 := by
  have h := idx3 t
  funext y
  refine congrArg (V m c main_v13) (funext fun a => Fin.ext ?_)
  match a with
  | ⟨0, q⟩ => exact Pipeline.Window.rect_emb_val_of_index_zero win0_3 t ⟨0, q⟩ h.1 y
  | ⟨1, q⟩ => exact Pipeline.Window.rect_emb_val_of_index_zero win0_3 t ⟨1, q⟩ h.2.1 y
  | ⟨2, q⟩ => exact Pipeline.Window.rect_emb_val_of_index_zero win0_3 t ⟨2, q⟩ h.2.2 y

theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

theorem blk4 (t : Fin cfg0.N) : (iblk m c 4 t : Vec Ideal S6x32x1 _) = V m c main_v22 := by
  have h := idx4 t
  funext y
  refine congrArg (V m c main_v22) (funext fun a => Fin.ext ?_)
  match a with
  | ⟨0, q⟩ => exact Pipeline.Window.rect_emb_val_of_index_zero win0_4 t ⟨0, q⟩ h.1 y
  | ⟨1, q⟩ => exact Pipeline.Window.rect_emb_val_of_index_zero win0_4 t ⟨1, q⟩ h.2.1 y
  | ⟨2, q⟩ => exact Pipeline.Window.rect_emb_val_of_index_zero win0_4 t ⟨2, q⟩ h.2.2 y

theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

theorem blk5 (t : Fin cfg0.N) : (iblk m c 5 t : Vec Ideal S6x32x32 _) = V m c main_v14 := by
  have h := idx5 t
  funext y
  refine congrArg (V m c main_v14) (funext fun a => Fin.ext ?_)
  match a with
  | ⟨0, q⟩ => exact Pipeline.Window.rect_emb_val_of_index_zero win0_5 t ⟨0, q⟩ h.1 y
  | ⟨1, q⟩ => exact Pipeline.Window.rect_emb_val_of_index_zero win0_5 t ⟨1, q⟩ h.2.1 y
  | ⟨2, q⟩ => exact Pipeline.Window.rect_emb_val_of_index_zero win0_5 t ⟨2, q⟩ h.2.2 y

theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

theorem blk6 (t : Fin cfg0.N) : (iblk m c 6 t : Vec Ideal S6x32x32 _) = V m c main_v17 := by
  have h := idx6 t
  funext y
  refine congrArg (V m c main_v17) (funext fun a => Fin.ext ?_)
  match a with
  | ⟨0, q⟩ => exact Pipeline.Window.rect_emb_val_of_index_zero win0_6 t ⟨0, q⟩ h.1 y
  | ⟨1, q⟩ => exact Pipeline.Window.rect_emb_val_of_index_zero win0_6 t ⟨1, q⟩ h.2.1 y
  | ⟨2, q⟩ => exact Pipeline.Window.rect_emb_val_of_index_zero win0_6 t ⟨2, q⟩ h.2.2 y

theorem idx7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)

theorem blk7 (t : Fin cfg0.N) : (iblk m c 7 t : Vec Ideal S6x32x1 _) = V m c main_v23 := by
  have h := idx7 t
  funext y
  refine congrArg (V m c main_v23) (funext fun a => Fin.ext ?_)
  match a with
  | ⟨0, q⟩ => exact Pipeline.Window.rect_emb_val_of_index_zero win0_7 t ⟨0, q⟩ h.1 y
  | ⟨1, q⟩ => exact Pipeline.Window.rect_emb_val_of_index_zero win0_7 t ⟨1, q⟩ h.2.1 y
  | ⟨2, q⟩ => exact Pipeline.Window.rect_emb_val_of_index_zero win0_7 t ⟨2, q⟩ h.2.2 y

theorem idx8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)

theorem blk8 (t : Fin cfg0.N) : (iblk m c 8 t : Vec Ideal S6x124x32 _) = V m c main_v18 := by
  have h := idx8 t
  funext y
  refine congrArg (V m c main_v18) (funext fun a => Fin.ext ?_)
  match a with
  | ⟨0, q⟩ => exact Pipeline.Window.rect_emb_val_of_index_zero win0_8 t ⟨0, q⟩ h.1 y
  | ⟨1, q⟩ => exact Pipeline.Window.rect_emb_val_of_index_zero win0_8 t ⟨1, q⟩ h.2.1 y
  | ⟨2, q⟩ => exact Pipeline.Window.rect_emb_val_of_index_zero win0_8 t ⟨2, q⟩ h.2.2 y

theorem idx9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)

theorem blk9 (t : Fin cfg0.N) : (iblk m c 9 t : Vec Ideal S6x124x32 _) = V m c main_v21 := by
  have h := idx9 t
  funext y
  refine congrArg (V m c main_v21) (funext fun a => Fin.ext ?_)
  match a with
  | ⟨0, q⟩ => exact Pipeline.Window.rect_emb_val_of_index_zero win0_9 t ⟨0, q⟩ h.1 y
  | ⟨1, q⟩ => exact Pipeline.Window.rect_emb_val_of_index_zero win0_9 t ⟨1, q⟩ h.2.1 y
  | ⟨2, q⟩ => exact Pipeline.Window.rect_emb_val_of_index_zero win0_9 t ⟨2, q⟩ h.2.2 y

theorem idx10 : ∀ t : Fin cfg0.N, win0_10.index t 0 = 0 ∧ win0_10.index t 1 = 0 ∧ win0_10.index t 2 = 0 :=
  (by decide +kernel : ∀ t : Fin grid0.N, win0_10.index t 0 = 0 ∧ win0_10.index t 1 = 0 ∧ win0_10.index t 2 = 0)

theorem blk10 (t : Fin cfg0.N) : (iblk m c 10 t : Vec Ideal S6x124x1 _) = V m c main_v29 := by
  have h := idx10 t
  funext y
  refine congrArg (V m c main_v29) (funext fun a => Fin.ext ?_)
  match a with
  | ⟨0, q⟩ => exact Pipeline.Window.rect_emb_val_of_index_zero win0_10 t ⟨0, q⟩ h.1 y
  | ⟨1, q⟩ => exact Pipeline.Window.rect_emb_val_of_index_zero win0_10 t ⟨1, q⟩ h.2.1 y
  | ⟨2, q⟩ => exact Pipeline.Window.rect_emb_val_of_index_zero win0_10 t ⟨2, q⟩ h.2.2 y

variable {m c} {p : Par} {R : ℝ} {H1 H2 : Fin 6 → Fin 32 → ℝ} {X : Fin 131072 → Fin 8 → ℝ} {Z : Fin 131072 → Fin 4 → ℝ}

/-- The samples and the weights are real numbers within the bounds. -/
structure Given (p : Par) (R : ℝ) (H1 H2 : Fin 6 → Fin 32 → ℝ) (X : Fin 131072 → Fin 8 → ℝ) (Z : Fin 131072 → Fin 4 → ℝ)
    (m : (ℓ : Loc nD τ sig) → Buf (Elt Ideal) ℓ) (c : Dev nD) : Prop where
  wts : HostRead.Weights p (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
  bnd : Bounded p R H1 H2
  x : ∀ n r, m ((c : Thread nD τ).loc main_arg0) (ix2 n r) = ((X n r : ℝ) : EReal)
  z : ∀ n r, m ((c : Thread nD τ).loc main_arg1) (ix2 n r) = ((Z n r : ℝ) : EReal)
  xle : ∀ n r, |X n r| ≤ R
  zle : ∀ n r, |Z n r| ≤ R

variable (G : Given p R H1 H2 X Z m c)
include G

theorem held_blk (t : Fin cfg0.N) : Held p (iblk m c 2 t) (iblk m c 3 t) (iblk m c 4 t) (iblk m c 5 t) (iblk m c 6 t) (iblk m c 7 t)
    (iblk m c 8 t) (iblk m c 9 t) (iblk m c 10 t) := by
  rw [blk2, blk3, blk4, blk5, blk6, blk7, blk8, blk9, blk10]
  exact HostRead.held G.wts

theorem x_at (t : Fin cfg0.N) (l : Fin 4096) (r : Fin 8) : iblk m c 0 t (ix2 r l) = ((X (lane t l) r : ℝ) : EReal) :=
  (blk0 m c t r l).trans ((HostRead.V0 m c r (lane t l)).trans (G.x _ _))

theorem z_at (t : Fin cfg0.N) (l : Fin 4096) (r : Fin 4) : iblk m c 1 t (ix2 r l) = ((Z (lane t l) r : ℝ) : EReal) :=
  (blk1 m c t r l).trans ((HostRead.V1 m c r (lane t l)).trans (G.z _ _))

theorem tile11 (t : Fin cfg0.N) (l : Fin 4096) (r : Fin 8) :
    (dats m 0 c).arrAt 11 cfg0.N (ix2 r (lane t l)) = ((at_ p (Z (lane t l)) (X (lane t l)) 6 r : ℝ) : EReal) := by
  rw [← emb11 t r l]
  refine ((dats m 0 c).arrAt_emb_eq_flushed 11 Value.disjoint11 t (flush0_11 t) (ix2 r l)).trans ?_
  rw [Value.flushed11_A]
  have key : T8 (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)) l (at_ p (Z (lane t l)) (X (lane t l)) 6) := out11_at (held_blk G t) G.bnd (G.xle _) (G.zle _) (x_at G t l) (z_at G t l)
  generalize out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) = O at key ⊢
  exact key r

theorem tile12 (t : Fin cfg0.N) (l : Fin 4096) :
    (dats m 0 c).arrAt 12 cfg0.N (ix2 0 (lane t l)) = ((jac p (X (lane t l)) (Z (lane t l)) : ℝ) : EReal) := by
  rw [← emb12 t 0 l]
  refine ((dats m 0 c).arrAt_emb_eq_flushed 12 Value.disjoint12 t (flush0_12 t) (ix2 0 l)).trans ?_
  rw [Value.flushed12_A]
  have key : T1 (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)) l (jac p (X (lane t l)) (Z (lane t l))) := out12_at (held_blk G t) G.bnd (G.xle _) (G.zle _) (x_at G t l) (z_at G t l)
  generalize out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) = O at key ⊢
  exact key

theorem lane_of (n : Fin 131072) : ∃ (t : Fin cfg0.N) (l : Fin 4096), lane t l = n := by
  have h : cfg0.N = 32 := N_0
  refine ⟨⟨n.val / 4096, by omega⟩, ⟨n.val % 4096, by omega⟩, Fin.ext ?_⟩
  show 4096 * (n.val / 4096) + n.val % 4096 = n.val
  omega

/-- The first result array, at every index. -/
theorem final11 (r : Fin 8) (n : Fin 131072) : (dats m 0 c).arrAt 11 cfg0.N (ix2 r n) = ((at_ p (Z n) (X n) 6 r : ℝ) : EReal) := by
  obtain ⟨t, l, rfl⟩ := lane_of G n
  exact tile11 G t l r

/-- The second result array, at every index. -/
theorem final12 (n : Fin 131072) : (dats m 0 c).arrAt 12 cfg0.N (ix2 0 n) = ((jac p (X n) (Z n) : ℝ) : EReal) := by
  obtain ⟨t, l, rfl⟩ := lane_of G n
  exact tile12 G t l

end Cert.KernelIdeal.Out
-- ==== Proof.RefOps.lean ====
module

public import proofs.«01_k».proof.Proof.Gen.ReferenceIdeal.Run
public import proofs.«01_k».proof.Proof.StageMore
public import Idealize.ShloMosaic.Lib.Pointwise

@[expose] public section

set_option maxRecDepth 16384

noncomputable section

/-! The reference's array operations read at one index: which weights a block takes, which coordinates it gathers,
    which bin's entry it looks up, and the running sums of the bin sizes. -/

namespace Cert.ReferenceIdeal.RefOps

open Idealize.ShloMosaic Idealize.ShloMosaic.TcCoe Idealize.SL.Sem Cert.ReferenceIdeal Cert.ReferenceIdeal.Gen Cert.Flow

/-! ## The part of each table that belongs to block `i` -/

theorem row4 {α : Type} (X : S6x4.Idx → α) {cnt : (⟨S_, .i32⟩ : BufTy).Contents (Elt Ideal)} {i : Fin 6} (h : cnt = fun _ => BitVec.ofNat 32 i) (d : Fin 4) :
    shapeCast S4 (Host.dynamicSlice S1x4 X (fun k => (((![cnt, constantI S_ 32 0#32] : Fin 2 → (⟨S_, .i32⟩ : BufTy).Contents (Elt Ideal))) k (Shape.Idx.first h_S_)).toInt) sliceFits_S6x4_S1x4) shapeCasts_S1x4_S4 (ix1 d) = X (ix2 i d) := by
  subst h
  pointwise
  congr 1
  revert i; revert d; decide +kernel

theorem row8 {α : Type} (X : S6x8.Idx → α) {cnt : (⟨S_, .i32⟩ : BufTy).Contents (Elt Ideal)} {i : Fin 6} (h : cnt = fun _ => BitVec.ofNat 32 i) (d : Fin 8) :
    shapeCast S8 (Host.dynamicSlice S1x8 X (fun k => (((![cnt, constantI S_ 32 0#32] : Fin 2 → (⟨S_, .i32⟩ : BufTy).Contents (Elt Ideal))) k (Shape.Idx.first h_S_)).toInt) sliceFits_S6x8_S1x8) shapeCasts_S1x8_S8 (ix1 d) = X (ix2 i d) := by
  subst h
  pointwise
  congr 1
  revert i; revert d; decide +kernel

theorem row32 {α : Type} (X : S6x32.Idx → α) {cnt : (⟨S_, .i32⟩ : BufTy).Contents (Elt Ideal)} {i : Fin 6} (h : cnt = fun _ => BitVec.ofNat 32 i) (d : Fin 32) :
    shapeCast S32 (Host.dynamicSlice S1x32 X (fun k => (((![cnt, constantI S_ 32 0#32] : Fin 2 → (⟨S_, .i32⟩ : BufTy).Contents (Elt Ideal))) k (Shape.Idx.first h_S_)).toInt) sliceFits_S6x32_S1x32) shapeCasts_S1x32_S32 (ix1 d) = X (ix2 i d) := by
  subst h
  pointwise
  congr 1
  revert i; revert d; decide +kernel

theorem row124 {α : Type} (X : S6x124.Idx → α) {cnt : (⟨S_, .i32⟩ : BufTy).Contents (Elt Ideal)} {i : Fin 6} (h : cnt = fun _ => BitVec.ofNat 32 i) (d : Fin 124) :
    shapeCast S124 (Host.dynamicSlice S1x124 X (fun k => (((![cnt, constantI S_ 32 0#32] : Fin 2 → (⟨S_, .i32⟩ : BufTy).Contents (Elt Ideal))) k (Shape.Idx.first h_S_)).toInt) sliceFits_S6x124_S1x124) shapeCasts_S1x124_S124 (ix1 d) = X (ix2 i d) := by
  subst h
  pointwise
  congr 1
  revert i; revert d; decide +kernel

theorem mat8_32 {α : Type} (X : S6x8x32.Idx → α) {cnt : (⟨S_, .i32⟩ : BufTy).Contents (Elt Ideal)} {i : Fin 6} (h : cnt = fun _ => BitVec.ofNat 32 i) (a : Fin 8) (d : Fin 32) :
    shapeCast S8x32 (Host.dynamicSlice S1x8x32 X (fun k => (((![cnt, constantI S_ 32 0#32, constantI S_ 32 0#32] : Fin 3 → (⟨S_, .i32⟩ : BufTy).Contents (Elt Ideal))) k (Shape.Idx.first h_S_)).toInt) sliceFits_S6x8x32_S1x8x32) shapeCasts_S1x8x32_S8x32 (ix2 a d) = X (ix3 i a d) := by
  subst h
  pointwise
  refine congrArg X ?_
  congr 1
  · refine Fin.ext ?_
    dsimp only
    clear a d
    revert i; decide +kernel
  · refine Fin.ext ((congrArg (· + a.val) (?_ : _ = 0)).trans (Nat.zero_add _))
    clear a d
    revert i; decide +kernel
  · refine Fin.ext ((congrArg (· + d.val) (?_ : _ = 0)).trans (Nat.zero_add _))
    clear a d
    revert i; decide +kernel

theorem mat32_32 {α : Type} (X : S6x32x32.Idx → α) {cnt : (⟨S_, .i32⟩ : BufTy).Contents (Elt Ideal)} {i : Fin 6} (h : cnt = fun _ => BitVec.ofNat 32 i) (a : Fin 32) (d : Fin 32) :
    shapeCast S32x32 (Host.dynamicSlice S1x32x32 X (fun k => (((![cnt, constantI S_ 32 0#32, constantI S_ 32 0#32] : Fin 3 → (⟨S_, .i32⟩ : BufTy).Contents (Elt Ideal))) k (Shape.Idx.first h_S_)).toInt) sliceFits_S6x32x32_S1x32x32) shapeCasts_S1x32x32_S32x32 (ix2 a d) = X (ix3 i a d) := by
  subst h
  pointwise
  refine congrArg X ?_
  congr 1
  · refine Fin.ext ?_
    dsimp only
    clear a d
    revert i; decide +kernel
  · refine Fin.ext ((congrArg (· + a.val) (?_ : _ = 0)).trans (Nat.zero_add _))
    clear a d
    revert i; decide +kernel
  · refine Fin.ext ((congrArg (· + d.val) (?_ : _ = 0)).trans (Nat.zero_add _))
    clear a d
    revert i; decide +kernel

theorem mat32_124 {α : Type} (X : S6x32x124.Idx → α) {cnt : (⟨S_, .i32⟩ : BufTy).Contents (Elt Ideal)} {i : Fin 6} (h : cnt = fun _ => BitVec.ofNat 32 i) (a : Fin 32) (d : Fin 124) :
    shapeCast S32x124 (Host.dynamicSlice S1x32x124 X (fun k => (((![cnt, constantI S_ 32 0#32, constantI S_ 32 0#32] : Fin 3 → (⟨S_, .i32⟩ : BufTy).Contents (Elt Ideal))) k (Shape.Idx.first h_S_)).toInt) sliceFits_S6x32x124_S1x32x124) shapeCasts_S1x32x124_S32x124 (ix2 a d) = X (ix3 i a d) := by
  subst h
  pointwise
  refine congrArg X ?_
  congr 1
  · refine Fin.ext ?_
    dsimp only
    clear a d
    revert i; decide +kernel
  · refine Fin.ext ((congrArg (· + a.val) (?_ : _ = 0)).trans (Nat.zero_add _))
    clear a d
    revert i; decide +kernel
  · refine Fin.ext ((congrArg (· + d.val) (?_ : _ = 0)).trans (Nat.zero_add _))
    clear a d
    revert i; decide +kernel

/-! ## Lookups -/

/-- Four of the eight coordinates. -/
theorem cols {α : Type} (x : S131072x8.Idx → α) (idx : IVec S4x1 32) (n : Fin 131072) (d : Fin 4) :
    Host.gather gather_S131072x8_S4x1_S131072x4_0_1_n_n_1_1_1310721 x idx (ix2 n d) = x (ix2 n ⟨min (idx (ix2 d 0)).toInt.toNat 7, by omega⟩) := by
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [show GatherDims.start gather_S131072x8_S4x1_S131072x4_0_1_n_n_1_1_1310721 (ix2 n d) idx (0 : Fin 2) = 0 from
      dif_neg (show ¬ ((0 : Fin 2) ∈ GatherDims.startIndexMap gather_S131072x8_S4x1_S131072x4_0_1_n_n_1_1_1310721) by decide)]
    exact Nat.zero_add n.val
  · rw [GatherDims.offCoord_eq_zero _ _ _ (fun h => ((GatherDims.mem_sKept _ _).mp h).1 (List.mem_singleton.mpr rfl))]
    unfold GatherDims.start
    rw [dif_pos (show (1 : Fin 2) ∈ GatherDims.startIndexMap gather_S131072x8_S4x1_S131072x4_0_1_n_n_1_1_1310721 from List.mem_singleton.mpr rfl)]
    have e : ∀ h, GatherDims.siIdx gather_S131072x8_S4x1_S131072x4_0_1_n_n_1_1_1310721 (ix2 n d) ⟨List.idxOf (1 : Fin 2) (GatherDims.startIndexMap gather_S131072x8_S4x1_S131072x4_0_1_n_n_1_1_1310721), h⟩ = ix2 d 0 := fun h =>
      funext fun b => Fin.ext (match b with
        | ⟨0, _⟩ => rfl
        | ⟨1, _⟩ => rfl)
    exact congrArg (fun q => min (idx q).toInt.toNat 7) (e _)

/-- Eight columns picked out of four. -/
theorem back {α : Type} (x : S131072x4.Idx → α) (idx : IVec S8x1 32) (n : Fin 131072) (d : Fin 8) :
    Host.gather gather_S131072x4_S8x1_S131072x8_0_1_n_n_1_1_1310721 x idx (ix2 n d) = x (ix2 n ⟨min (idx (ix2 d 0)).toInt.toNat 3, by omega⟩) := by
  unfold Host.gather
  refine congrArg x (funext fun a => Fin.ext ?_)
  show GatherDims.start _ _ _ _ + GatherDims.batchCoord _ _ _ + GatherDims.offCoord _ _ _ = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [show GatherDims.start gather_S131072x4_S8x1_S131072x8_0_1_n_n_1_1_1310721 (ix2 n d) idx (0 : Fin 2) = 0 from
      dif_neg (show ¬ ((0 : Fin 2) ∈ GatherDims.startIndexMap gather_S131072x4_S8x1_S131072x8_0_1_n_n_1_1_1310721) by decide)]
    exact Nat.zero_add n.val
  · rw [GatherDims.offCoord_eq_zero _ _ _ (fun h => ((GatherDims.mem_sKept _ _).mp h).1 (List.mem_singleton.mpr rfl))]
    unfold GatherDims.start
    rw [dif_pos (show (1 : Fin 2) ∈ GatherDims.startIndexMap gather_S131072x4_S8x1_S131072x8_0_1_n_n_1_1_1310721 from List.mem_singleton.mpr rfl)]
    have e : ∀ h, GatherDims.siIdx gather_S131072x4_S8x1_S131072x8_0_1_n_n_1_1_1310721 (ix2 n d) ⟨List.idxOf (1 : Fin 2) (GatherDims.startIndexMap gather_S131072x4_S8x1_S131072x8_0_1_n_n_1_1_1310721), h⟩ = ix2 d 0 := fun h =>
      funext fun b => Fin.ext (match b with
        | ⟨0, _⟩ => rfl
        | ⟨1, _⟩ => rfl)
    exact congrArg (fun q => min (idx q).toInt.toNat 3) (e _)

/-- One of 10 entries along the last axis. -/
theorem look10 {α : Type} (x : S131072x4x10.Idx → α) (idx : IVec S131072x4x1x1 32) (n : Fin 131072) (d : Fin 4) :
    Host.gather gather_S131072x4x10_S131072x4x1x1_S131072x4x1_n_2_01_01_2_3_111 x idx (ix3 n d 0) = x (ix3 n d ⟨min (idx (ix4 n d 0 0)).toInt.toNat 9, by omega⟩) := by
  unfold Host.gather
  refine congrArg x (funext fun a => Fin.ext ?_)
  show GatherDims.start _ _ _ _ + GatherDims.batchCoord _ _ _ + GatherDims.offCoord _ _ _ = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (show (0 : Fin 3) ∈ GatherDims.operandBatchingDims gather_S131072x4x10_S131072x4x1x1_S131072x4x1_n_2_01_01_2_3_111 by decide),
      GatherDims.offCoord_eq_zero _ _ _ (fun h => ((GatherDims.mem_sKept _ _).mp h).2 (show (0 : Fin 3) ∈ GatherDims.operandBatchingDims gather_S131072x4x10_S131072x4x1x1_S131072x4x1_n_2_01_01_2_3_111 by decide))]
    unfold GatherDims.batchCoord
    rw [dif_pos (show (0 : Fin 3) ∈ GatherDims.operandBatchingDims gather_S131072x4x10_S131072x4x1x1_S131072x4x1_n_2_01_01_2_3_111 by decide)]
    show 0 + n.val + 0 = n.val
    omega
  · rw [GatherDims.start_batching _ _ _ _ (show (1 : Fin 3) ∈ GatherDims.operandBatchingDims gather_S131072x4x10_S131072x4x1x1_S131072x4x1_n_2_01_01_2_3_111 by decide),
      GatherDims.offCoord_eq_zero _ _ _ (fun h => ((GatherDims.mem_sKept _ _).mp h).2 (show (1 : Fin 3) ∈ GatherDims.operandBatchingDims gather_S131072x4x10_S131072x4x1x1_S131072x4x1_n_2_01_01_2_3_111 by decide))]
    unfold GatherDims.batchCoord
    rw [dif_pos (show (1 : Fin 3) ∈ GatherDims.operandBatchingDims gather_S131072x4x10_S131072x4x1x1_S131072x4x1_n_2_01_01_2_3_111 by decide)]
    show 0 + d.val + 0 = d.val
    omega
  · rw [GatherDims.batchCoord_eq_zero _ _ _ (show ¬ ((2 : Fin 3) ∈ GatherDims.operandBatchingDims gather_S131072x4x10_S131072x4x1x1_S131072x4x1_n_2_01_01_2_3_111) by decide),
      GatherDims.offCoord_eq_zero _ _ _ (fun h => ((GatherDims.mem_sKept _ _).mp h).1 (List.mem_singleton.mpr rfl))]
    unfold GatherDims.start
    rw [dif_pos (show (2 : Fin 3) ∈ GatherDims.startIndexMap gather_S131072x4x10_S131072x4x1x1_S131072x4x1_n_2_01_01_2_3_111 from List.mem_singleton.mpr rfl)]
    have e : ∀ h, GatherDims.siIdx gather_S131072x4x10_S131072x4x1x1_S131072x4x1_n_2_01_01_2_3_111 (ix3 n d 0) ⟨List.idxOf (2 : Fin 3) (GatherDims.startIndexMap gather_S131072x4x10_S131072x4x1x1_S131072x4x1_n_2_01_01_2_3_111), h⟩ = ix4 n d 0 0 := fun h =>
      funext fun b => Fin.ext (match b with
        | ⟨0, _⟩ => rfl
        | ⟨1, _⟩ => rfl
        | ⟨2, _⟩ => rfl
        | ⟨3, _⟩ => rfl)
    exact congrArg (fun q => min (idx q).toInt.toNat 9) (e _)

/-- One of 11 entries along the last axis. -/
theorem look11 {α : Type} (x : S131072x4x11.Idx → α) (idx : IVec S131072x4x1x1 32) (n : Fin 131072) (d : Fin 4) :
    Host.gather gather_S131072x4x11_S131072x4x1x1_S131072x4x1_n_2_01_01_2_3_111 x idx (ix3 n d 0) = x (ix3 n d ⟨min (idx (ix4 n d 0 0)).toInt.toNat 10, by omega⟩) := by
  unfold Host.gather
  refine congrArg x (funext fun a => Fin.ext ?_)
  show GatherDims.start _ _ _ _ + GatherDims.batchCoord _ _ _ + GatherDims.offCoord _ _ _ = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (show (0 : Fin 3) ∈ GatherDims.operandBatchingDims gather_S131072x4x11_S131072x4x1x1_S131072x4x1_n_2_01_01_2_3_111 by decide),
      GatherDims.offCoord_eq_zero _ _ _ (fun h => ((GatherDims.mem_sKept _ _).mp h).2 (show (0 : Fin 3) ∈ GatherDims.operandBatchingDims gather_S131072x4x11_S131072x4x1x1_S131072x4x1_n_2_01_01_2_3_111 by decide))]
    unfold GatherDims.batchCoord
    rw [dif_pos (show (0 : Fin 3) ∈ GatherDims.operandBatchingDims gather_S131072x4x11_S131072x4x1x1_S131072x4x1_n_2_01_01_2_3_111 by decide)]
    show 0 + n.val + 0 = n.val
    omega
  · rw [GatherDims.start_batching _ _ _ _ (show (1 : Fin 3) ∈ GatherDims.operandBatchingDims gather_S131072x4x11_S131072x4x1x1_S131072x4x1_n_2_01_01_2_3_111 by decide),
      GatherDims.offCoord_eq_zero _ _ _ (fun h => ((GatherDims.mem_sKept _ _).mp h).2 (show (1 : Fin 3) ∈ GatherDims.operandBatchingDims gather_S131072x4x11_S131072x4x1x1_S131072x4x1_n_2_01_01_2_3_111 by decide))]
    unfold GatherDims.batchCoord
    rw [dif_pos (show (1 : Fin 3) ∈ GatherDims.operandBatchingDims gather_S131072x4x11_S131072x4x1x1_S131072x4x1_n_2_01_01_2_3_111 by decide)]
    show 0 + d.val + 0 = d.val
    omega
  · rw [GatherDims.batchCoord_eq_zero _ _ _ (show ¬ ((2 : Fin 3) ∈ GatherDims.operandBatchingDims gather_S131072x4x11_S131072x4x1x1_S131072x4x1_n_2_01_01_2_3_111) by decide),
      GatherDims.offCoord_eq_zero _ _ _ (fun h => ((GatherDims.mem_sKept _ _).mp h).1 (List.mem_singleton.mpr rfl))]
    unfold GatherDims.start
    rw [dif_pos (show (2 : Fin 3) ∈ GatherDims.startIndexMap gather_S131072x4x11_S131072x4x1x1_S131072x4x1_n_2_01_01_2_3_111 from List.mem_singleton.mpr rfl)]
    have e : ∀ h, GatherDims.siIdx gather_S131072x4x11_S131072x4x1x1_S131072x4x1_n_2_01_01_2_3_111 (ix3 n d 0) ⟨List.idxOf (2 : Fin 3) (GatherDims.startIndexMap gather_S131072x4x11_S131072x4x1x1_S131072x4x1_n_2_01_01_2_3_111), h⟩ = ix4 n d 0 0 := fun h =>
      funext fun b => Fin.ext (match b with
        | ⟨0, _⟩ => rfl
        | ⟨1, _⟩ => rfl
        | ⟨2, _⟩ => rfl
        | ⟨3, _⟩ => rfl)
    exact congrArg (fun q => min (idx q).toInt.toNat 10) (e _)

/-! ## Running sums -/

theorem fold_sum {ι : Type} (l : List ι) (g : EReal → ι → EReal) (f : ι → EReal) (h : ∀ r n, g r n = r + f n) (v : EReal) :
    l.foldl g v = v + (l.map f).sum := by
  induction l generalizing v with
  | nil => simp
  | cons a l ih => rw [List.foldl_cons, ih, h, List.map_cons, List.sum_cons, add_assoc]

/-- What position `k` of the window ending at entry `b` adds. -/
def term (w : Fin 10 → ℝ) (b : Fin 10) (k : ℕ) : EReal :=
  if h : 9 ≤ b.val + k ∧ b.val + k - 9 < 10 then ((w ⟨b.val + k - 9, h.2⟩ : ℝ) : EReal) else 0

/-- The shape of one window, and its entries in order. -/
theorem window_len : (⟨3, ![1, 1, 10]⟩ : Shape).numel = 10 := by
  show ∏ a : Fin 3, (![1, 1, 10] : Fin 3 → Nat) a = 10
  decide

theorem window_at (n : Fin (⟨3, ![1, 1, 10]⟩ : Shape).numel) :
    (⟨3, ![1, 1, 10]⟩ : Shape).rowMajor.symm n = ix3 (0 : Fin 1) (0 : Fin 1) (n.cast window_len) :=
  ((⟨3, ![1, 1, 10]⟩ : Shape).rowMajor.symm_apply_eq).2 (Fin.ext (by
    rw [Shape.rowMajor_val_three]
    show n.val = (0 * 1 + 0) * 10 + n.val
    omega))

theorem running (W : FVec Ideal S131072x4x10 .f32) (w : Fin 10 → ℝ) (n : Fin 131072) (d : Fin 4) (hW : ∀ b, W (ix3 n d b) = ((w b : ℝ) : EReal)) (b : Fin 10) :
    Host.reduceWindowAdd ![1, 1, 10] ![1, 1, 1] ![0, 0, 9] ![0, 0, 0] W (broadcastInDim S_ ![] bcast_S_S_ (constant S_ .f32 0x00000000#32)) reduceWindows_S131072x4x10_S131072x4x10_w1s1p0_0_w1s1p0_0_w10s1p9_0 h_S_ (ix3 n d b)
      = ((∑ k : Fin 10, if (k : ℕ) < b + 1 then w k else 0 : ℝ) : EReal) := by
  have hv : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  unfold Host.reduceWindowAdd
  rw [hv, Ideal.hostReduceWindowAdd_def]
  unfold Ideal.hostReduceWindowAdd Host.reduceWindow
  refine (fold_sum _ _ (fun k => term w b k.val) ?_ 0).trans ?_
  · intro r k
    have w0 : ((⟨3, ![1, 1, 10]⟩ : Shape).rowMajor.symm k 0).val = 0 := by rw [window_at]; rfl
    have w1 : ((⟨3, ![1, 1, 10]⟩ : Shape).rowMajor.symm k 1).val = 0 := by rw [window_at]; rfl
    have w2 : ((⟨3, ![1, 1, 10]⟩ : Shape).rowMajor.symm k 2).val = k.val := by rw [window_at]; rfl
    have e0 : n.val * 1 + ((⟨3, ![1, 1, 10]⟩ : Shape).rowMajor.symm k 0).val - 0 = n.val := by rw [w0]; omega
    have e1 : d.val * 1 + ((⟨3, ![1, 1, 10]⟩ : Shape).rowMajor.symm k 1).val - 0 = d.val := by rw [w1]; omega
    have e2 : b.val * 1 + ((⟨3, ![1, 1, 10]⟩ : Shape).rowMajor.symm k 2).val = b.val + k.val := by rw [w2]; omega
    dsimp only
    unfold term
    refine congrArg (r + ·) ?_
    split
    · next hin =>
      have h2 := hin 2
      change 9 ≤ b.val * 1 + ((⟨3, ![1, 1, 10]⟩ : Shape).rowMajor.symm k 2).val
        ∧ b.val * 1 + ((⟨3, ![1, 1, 10]⟩ : Shape).rowMajor.symm k 2).val - 9 < 10 at h2
      rw [e2] at h2
      rw [dif_pos h2, ← hW]
      refine congrArg W (funext fun a => Fin.ext ?_)
      match a with
      | ⟨0, _⟩ => exact e0
      | ⟨1, _⟩ => exact e1
      | ⟨2, _⟩ => exact congrArg (· - 9) e2
    · next hin =>
      rw [dif_neg]
      intro h
      refine hin fun a => ?_
      match a with
      | ⟨0, _⟩ => exact ⟨Nat.zero_le _, lt_of_eq_of_lt e0 n.isLt⟩
      | ⟨1, _⟩ => exact ⟨Nat.zero_le _, lt_of_eq_of_lt e1 d.isLt⟩
      | ⟨2, _⟩ =>
        show 9 ≤ b.val * 1 + ((⟨3, ![1, 1, 10]⟩ : Shape).rowMajor.symm k 2).val
          ∧ b.val * 1 + ((⟨3, ![1, 1, 10]⟩ : Shape).rowMajor.symm k 2).val - 9 < 10
        rw [e2]; exact h
  · rw [zero_add, ← Fin.sum_univ_def, Finset.sum_range (fun k => term w b k) |>.symm, window_len]
    unfold term
    fin_cases b <;> simp [Finset.sum_range_succ, Fin.sum_univ_castSucc, ← EReal.coe_add]

end Cert.ReferenceIdeal.RefOps

end
-- ==== Proof.RefNet.lean ====
module

public import proofs.«01_k».proof.Proof.RefOps

@[expose] public section

set_option maxRecDepth 16384

noncomputable section

/-! One block of the reference read one sample at a time: literals and the network. -/

namespace Cert.ReferenceIdeal.RefRead

open Idealize.ShloMosaic Idealize.ShloMosaic.TcCoe Idealize.SL.Sem
open Cert.KernelIdeal.Stage (softplus_real)
open Cert.ReferenceIdeal Cert.ReferenceIdeal.Gen Cert.ReferenceIdeal.RefOps Cert.Flow

variable {n : Fin 131072}

/-! ## Literals -/

theorem lit_zero : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]; norm_num
theorem lit_bot : Ideal.ofBits .f32 0xFF800000#32 = (⊥ : EReal) := by simp [Ideal.ofBits, Ideal.ieee, -EReal.coe_mul]
theorem lit_div : Ideal.ofBits .f32 0x3F31B3A1#32 = ((11645857 / 16777216 : ℝ) : EReal) := by
  simp [Ideal.ofBits, Ideal.ieee, -EReal.coe_mul]; norm_num
/-- The width of the margin added to the last knot. -/
def eps : ℝ := 8796093 / 8796093022208
theorem lit_eps : Ideal.ofBits .f32 0x358637BD#32 = ((eps : ℝ) : EReal) := by
  simp [Ideal.ofBits, Ideal.ieee, -EReal.coe_mul, eps]; norm_num

/-! ## The network -/

theorem dense_at {m : ℕ} {v : Fin m → ℝ} {k : ℕ} {W : Fin m → Fin k → ℝ} {b : Fin k → ℝ} (j : Fin k) :
    ∑ x, ((v x : ℝ) : EReal) * ((W x j : ℝ) : EReal) + ((b j : ℝ) : EReal) = ((dense v W b j : ℝ) : EReal) := by
  simp only [← EReal.coe_mul, coe_sum, ← EReal.coe_add]
  rfl

theorem layer8_32 {A : FVec Ideal S131072x8 .f32} {B : FVec Ideal S8x32 .f32} {b : FVec Ideal S32 .f32} {v : Fin 8 → ℝ} {W : Fin 8 → Fin 32 → ℝ}
    {w : Fin 32 → ℝ} (hA : ∀ k, A (ix2 n k) = ((v k : ℝ) : EReal)) (hB : ∀ k j, B (ix2 k j) = ((W k j : ℝ) : EReal)) (hb : ∀ j, b (ix1 j) = ((w j : ℝ) : EReal)) (j : Fin 32) :
    addf (Host.dotGeneral dot_S131072x8_S8x32_S131072x32_1_0_0_1_n_n none A B) (broadcastInDim S131072x32 ![0, 1] bcast_S1x32_S131072x32_0_1 (broadcastInDim S1x32 ![1] bcast_S32_S1x32_1 b)) (ix2 n j)
      = ((dense v W w j : ℝ) : EReal) := by
  pointwise
  simp only [hA, hB, hb]
  exact dense_at j

theorem layer32_32 {A : FVec Ideal S131072x32 .f32} {B : FVec Ideal S32x32 .f32} {b : FVec Ideal S32 .f32} {v : Fin 32 → ℝ} {W : Fin 32 → Fin 32 → ℝ}
    {w : Fin 32 → ℝ} (hA : ∀ k, A (ix2 n k) = ((v k : ℝ) : EReal)) (hB : ∀ k j, B (ix2 k j) = ((W k j : ℝ) : EReal)) (hb : ∀ j, b (ix1 j) = ((w j : ℝ) : EReal)) (j : Fin 32) :
    addf (Host.dotGeneral dot_S131072x32_S32x32_S131072x32_1_0_0_1_n_n none A B) (broadcastInDim S131072x32 ![0, 1] bcast_S1x32_S131072x32_0_1 (broadcastInDim S1x32 ![1] bcast_S32_S1x32_1 b)) (ix2 n j)
      = ((dense v W w j : ℝ) : EReal) := by
  pointwise
  simp only [hA, hB, hb]
  exact dense_at j

theorem layer32_124 {A : FVec Ideal S131072x32 .f32} {B : FVec Ideal S32x124 .f32} {b : FVec Ideal S124 .f32} {v : Fin 32 → ℝ} {W : Fin 32 → Fin 124 → ℝ}
    {w : Fin 124 → ℝ} (hA : ∀ k, A (ix2 n k) = ((v k : ℝ) : EReal)) (hB : ∀ k j, B (ix2 k j) = ((W k j : ℝ) : EReal)) (hb : ∀ j, b (ix1 j) = ((w j : ℝ) : EReal)) (j : Fin 124) :
    addf (Host.dotGeneral dot_S131072x32_S32x124_S131072x124_1_0_0_1_n_n none A B) (broadcastInDim S131072x124 ![0, 1] bcast_S1x124_S131072x124_0_1 (broadcastInDim S1x124 ![1] bcast_S124_S1x124_1 b)) (ix2 n j)
      = ((dense v W w j : ℝ) : EReal) := by
  pointwise
  simp only [hA, hB, hb]
  exact dense_at j

theorem leaky {A : FVec Ideal S131072x32 .f32} {v : Fin 32 → ℝ} (hA : ∀ k, A (ix2 n k) = ((v k : ℝ) : EReal)) (k : Fin 32) :
    select (cmpf .oge A (broadcastInDim S131072x32 ![] bcast_S_S131072x32 (constant S_ .f32 0x00000000#32))) A (mulf (broadcastInDim S131072x32 ![] bcast_S_S131072x32 (id (constant S_ .f32 0x3C23D70A#32))) A) (ix2 n k)
      = ((leak (v k) : ℝ) : EReal) := by
  simp only [id_eq]
  pointwise
  simp only [hA, lit_slp, ← EReal.coe_mul, EReal.coe_nonneg, leak]
  split <;> rfl

theorem inputs {A : FVec Ideal S131072x4 .f32} {B : FVec Ideal S131072x4 .f32} {v w : Fin 4 → ℝ} (hA : ∀ d, A (ix2 n d) = ((v d : ℝ) : EReal))
    (hB : ∀ d, B (ix2 n d) = ((w d : ℝ) : EReal)) (k : Fin 8) :
    concatenate S131072x8 1 [⟨S131072x4, A⟩, ⟨S131072x4, B⟩] concatenates_S131072x4_S131072x4_S131072x8_d1 (ix2 n k)
      = (((if h : (k : ℕ) < 4 then v ⟨k, h⟩ else w ⟨(k : ℕ) - 4, by omega⟩) : ℝ) : EReal) := by
  fin_cases k <;> · pointwise; simp [hA, hB]

end Cert.ReferenceIdeal.RefRead

end
-- ==== Proof.RefPick.lean ====
module

public import proofs.«01_k».proof.Proof.RefNet

@[expose] public section

set_option maxRecDepth 16384

noncomputable section

/-! One block of the reference read one sample at a time: looking up the bin's entries, and the rational quadratic. -/

namespace Cert.ReferenceIdeal.RefRead

open Idealize.ShloMosaic Idealize.ShloMosaic.TcCoe Idealize.SL.Sem
open Cert.KernelIdeal.Stage (softplus_real)
open Cert.ReferenceIdeal Cert.ReferenceIdeal.Gen Cert.ReferenceIdeal.RefOps Cert.Flow

variable {n : Fin 131072}

theorem col4 {α : Type} (X : S4.Idx → α) (d : Fin 4) : broadcastInDim S4x1 ![0] bcast_S4_S4x1_0 X (ix2 d 0) = X (ix1 d) := by
  pointwise

theorem col8 {α : Type} (X : S8.Idx → α) (d : Fin 8) : broadcastInDim S8x1 ![0] bcast_S8_S8x1_0 X (ix2 d 0) = X (ix1 d) := by
  pointwise

theorem cut0 (X : FVec Ideal S131072x4x31 .f32) (d : Fin 4) (b : Fin 10) :
    extractStridedSlice S131072x4x10 ![0, 0, 0] X slices_S131072x4x31_S131072x4x10_0_0_0 (ix3 n d b) = X (ix3 n d ⟨0 + b, by omega⟩) := by
  pointwise

theorem cut10 (X : FVec Ideal S131072x4x31 .f32) (d : Fin 4) (b : Fin 10) :
    extractStridedSlice S131072x4x10 ![0, 0, 10] X slices_S131072x4x31_S131072x4x10_0_0_10 (ix3 n d b) = X (ix3 n d ⟨10 + b, by omega⟩) := by
  pointwise

theorem cut20 (X : FVec Ideal S131072x4x31 .f32) (d : Fin 4) (b : Fin 11) :
    extractStridedSlice S131072x4x11 ![0, 0, 20] X slices_S131072x4x31_S131072x4x11_0_0_20 (ix3 n d b) = X (ix3 n d ⟨20 + b, by omega⟩) := by
  pointwise

theorem split31 (X : FVec Ideal S131072x124 .f32) (d : Fin 4) (b : Fin 31) :
    shapeCast S131072x4x31 X shapeCasts_S131072x124_S131072x4x31 (ix3 n d b) = X (ix2 n ⟨31 * d + b, by omega⟩) := by
  pointwise
  exact congrArg (fun q => X (ix2 n q)) (Fin.ext (by show d.val * 31 + b.val = 31 * d.val + b.val; omega))

theorem diffs {X : FVec Ideal S131072x4x11 .f32} {u : Fin 4 → Fin 10 → ℝ} (hX : ∀ d k, X (ix3 n d k) = ((knot (u d) (k : Fin 11) : ℝ) : EReal)) (d : Fin 4) (k : Fin 10) :
    subf (extractStridedSlice S131072x4x10 ![0, 0, 1] X slices_S131072x4x11_S131072x4x10_0_0_1) (extractStridedSlice S131072x4x10 ![0, 0, 0] X slices_S131072x4x11_S131072x4x10_0_0_0) (ix3 n d k)
      = ((wid (u d) k : ℝ) : EReal) := by
  pointwise
  rw [hX, hX, ← EReal.coe_sub]
  dsimp only
  rw [Nat.add_comm 1]
  rfl

theorem less_zero {X : FVec Ideal S131072x4x11 .f32} {f : Fin 4 → Fin 11 → ℝ} (hX : ∀ d k, X (ix3 n d k) = ((f d k : ℝ) : EReal)) (d : Fin 4) (k : Fin 11) :
    subf X (broadcastInDim S131072x4x11 ![] bcast_S_S131072x4x11 (constant S_ .f32 0x00000000#32)) (ix3 n d k) = ((f d k : ℝ) : EReal) := by
  pointwise
  rw [hX]

theorem after_first {X : FVec Ideal S131072x4x11 .f32} (d : Fin 4) (k : Fin 10) :
    extractStridedSlice S131072x4x10 ![0, 0, 1] X slices_S131072x4x11_S131072x4x10_0_0_1 (ix3 n d k) = X (ix3 n d ⟨k + 1, by omega⟩) := by
  pointwise
  exact congrArg (fun q => X (ix3 n d q)) (Fin.ext (Nat.add_comm 1 k.val))

theorem slopes_ratio {X Y : FVec Ideal S131072x4x10 .f32} {u w : Fin 4 → Fin 10 → ℝ} (hX : ∀ d k, X (ix3 n d k) = ((wid (u d) (k : Fin 10) : ℝ) : EReal))
    (hY : ∀ d k, Y (ix3 n d k) = ((wid (w d) (k : Fin 10) : ℝ) : EReal)) (d : Fin 4) (k : Fin 10) : Host.divf X Y (ix3 n d k) = ((wid (u d) k / wid (w d) k : ℝ) : EReal) := by
  pointwise
  rw [hX, hY, div_real _ _ (wid_pos _ _ (by omega)).ne']

theorem drop1 {α : Type} (X : S131072x4x1.Idx → α) (d : Fin 4) : shapeCast S131072x4 X shapeCasts_S131072x4x1_S131072x4 (ix2 n d) = X (ix3 n d 0) := by
  pointwise

theorem word10 {I : IVec S131072x4x1 32} {d : Fin 4} {q : ℕ} (hq : q ≤ 9) (hI : I (ix3 n d 0) = BitVec.ofNat 32 q) :
    min (shapeCast S131072x4x1x1 (select (cmpi .slt I (broadcastInDim S131072x4x1 ![] bcast_S_S131072x4x1 (constantI S_ 32 0#32))) (addi I (broadcastInDim S131072x4x1 ![] bcast_S_S131072x4x1 (constantI S_ 32 10#32))) I) shapeCasts_S131072x4x1_S131072x4x1x1 (ix4 n d 0 0)).toInt.toNat 9 = q := by
  pointwise
  rw [hI]
  clear hI
  interval_cases q <;> decide +kernel

theorem pick10 {I : IVec S131072x4x1 32} {d : Fin 4} {q : ℕ} (hq : q ≤ 9) (hI : I (ix3 n d 0) = BitVec.ofNat 32 q) {X : FVec Ideal S131072x4x10 .f32} {f : ℕ → ℝ} (hX : ∀ k : Fin 10, X (ix3 n d k) = ((f k : ℝ) : EReal)) :
    shapeCast S131072x4 (Host.gather gather_S131072x4x10_S131072x4x1x1_S131072x4x1_n_2_01_01_2_3_111 X (shapeCast S131072x4x1x1 (select (cmpi .slt I (broadcastInDim S131072x4x1 ![] bcast_S_S131072x4x1 (constantI S_ 32 0#32))) (addi I (broadcastInDim S131072x4x1 ![] bcast_S_S131072x4x1 (constantI S_ 32 10#32))) I) shapeCasts_S131072x4x1_S131072x4x1x1)) shapeCasts_S131072x4x1_S131072x4 (ix2 n d)
      = ((f q : ℝ) : EReal) := by
  refine (drop1 _ d).trans ((look10 _ _ n d).trans ((hX _).trans ?_))
  exact congrArg (fun q => ((f q : ℝ) : EReal)) (word10 hq hI)

theorem word11 {I : IVec S131072x4x1 32} {d : Fin 4} {q : ℕ} (hq : q ≤ 9) (hI : I (ix3 n d 0) = BitVec.ofNat 32 q) :
    min (shapeCast S131072x4x1x1 (select (cmpi .slt I (broadcastInDim S131072x4x1 ![] bcast_S_S131072x4x1 (constantI S_ 32 0#32))) (addi I (broadcastInDim S131072x4x1 ![] bcast_S_S131072x4x1 (constantI S_ 32 11#32))) I) shapeCasts_S131072x4x1_S131072x4x1x1 (ix4 n d 0 0)).toInt.toNat 10 = q := by
  pointwise
  rw [hI]
  clear hI
  interval_cases q <;> decide +kernel

theorem pick11 {I : IVec S131072x4x1 32} {d : Fin 4} {q : ℕ} (hq : q ≤ 9) (hI : I (ix3 n d 0) = BitVec.ofNat 32 q) {X : FVec Ideal S131072x4x11 .f32} {f : ℕ → ℝ} (hX : ∀ k : Fin 11, X (ix3 n d k) = ((f k : ℝ) : EReal)) :
    shapeCast S131072x4 (Host.gather gather_S131072x4x11_S131072x4x1x1_S131072x4x1_n_2_01_01_2_3_111 X (shapeCast S131072x4x1x1 (select (cmpi .slt I (broadcastInDim S131072x4x1 ![] bcast_S_S131072x4x1 (constantI S_ 32 0#32))) (addi I (broadcastInDim S131072x4x1 ![] bcast_S_S131072x4x1 (constantI S_ 32 11#32))) I) shapeCasts_S131072x4x1_S131072x4x1x1)) shapeCasts_S131072x4x1_S131072x4 (ix2 n d)
      = ((f q : ℝ) : EReal) := by
  refine (drop1 _ d).trans ((look11 _ _ n d).trans ((hX _).trans ?_))
  exact congrArg (fun q => ((f q : ℝ) : EReal)) (word11 hq hI)

/-! ## The rational quadratic -/

section
variable {uw uh : Fin 4 → Fin 10 → ℝ} {ud : Fin 4 → ℕ → ℝ} {x : Fin 4 → ℝ}
  {X K W D S0 S1 T M N : FVec Ideal S131072x4 .f32}

theorem theta (hX : ∀ d, X (ix2 n d) = ((x d : ℝ) : EReal)) (hK : ∀ d, K (ix2 n d) = ((knot (uw d) (bin (uw d) (x d)) : ℝ) : EReal))
    (hW : ∀ d, W (ix2 n d) = ((wid (uw d) (bin (uw d) (x d)) : ℝ) : EReal)) (d : Fin 4) : Host.divf (subf X K) W (ix2 n d) = ((th (uw d) (x d) : ℝ) : EReal) := by
  pointwise
  rw [hX, hK, hW, ← EReal.coe_sub, div_real _ _ (wid_pos _ _ (bin_le _ _)).ne']
  rfl

theorem rest (hT : ∀ d, T (ix2 n d) = ((th (uw d) (x d) : ℝ) : EReal)) (d : Fin 4) :
    subf (broadcastInDim S131072x4 ![] bcast_S_S131072x4 (constant S_ .f32 0x3F800000#32)) T (ix2 n d) = ((1 - th (uw d) (x d) : ℝ) : EReal) := by
  pointwise
  rw [hT, ← EReal.coe_one, ← EReal.coe_sub]

theorem both (hT : ∀ d, T (ix2 n d) = ((th (uw d) (x d) : ℝ) : EReal)) (d : Fin 4) :
    mulf T (subf (broadcastInDim S131072x4 ![] bcast_S_S131072x4 (constant S_ .f32 0x3F800000#32)) T) (ix2 n d) = ((tm (uw d) (x d) : ℝ) : EReal) := by
  pointwise
  rw [hT, ← EReal.coe_one, ← EReal.coe_sub, ← EReal.coe_mul]
  rfl

theorem below (hD : ∀ d, D (ix2 n d) = ((del (uw d) (uh d) (x d) : ℝ) : EReal)) (h0 : ∀ d, S0 (ix2 n d) = ((Flow.slope (ud d (bin (uw d) (x d))) : ℝ) : EReal))
    (h1 : ∀ d, S1 (ix2 n d) = ((Flow.slope (ud d (bin (uw d) (x d) + 1)) : ℝ) : EReal)) (hM : ∀ d, M (ix2 n d) = ((tm (uw d) (x d) : ℝ) : EReal)) (d : Fin 4) :
    addf D (mulf (subf (addf S0 S1) (mulf (broadcastInDim S131072x4 ![] bcast_S_S131072x4 (constant S_ .f32 0x40000000#32)) D)) M) (ix2 n d)
      = ((den (uw d) (uh d) (ud d) (x d) : ℝ) : EReal) := by
  pointwise
  rw [hD, h0, h1, hM, lit_two, ← EReal.coe_mul, ← EReal.coe_add, ← EReal.coe_sub, ← EReal.coe_mul, ← EReal.coe_add]
  rfl

theorem value (hx0 : ∀ d, 0 ≤ x d) (hx1 : ∀ d, x d ≤ 1) (hK : ∀ d, K (ix2 n d) = ((knot (uh d) (bin (uw d) (x d)) : ℝ) : EReal)) (hW : ∀ d, W (ix2 n d) = ((wid (uh d) (bin (uw d) (x d)) : ℝ) : EReal))
    (hD : ∀ d, D (ix2 n d) = ((del (uw d) (uh d) (x d) : ℝ) : EReal)) (h0 : ∀ d, S0 (ix2 n d) = ((Flow.slope (ud d (bin (uw d) (x d))) : ℝ) : EReal))
    (hT : ∀ d, T (ix2 n d) = ((th (uw d) (x d) : ℝ) : EReal)) (hM : ∀ d, M (ix2 n d) = ((tm (uw d) (x d) : ℝ) : EReal))
    (hN : ∀ d, N (ix2 n d) = ((den (uw d) (uh d) (ud d) (x d) : ℝ) : EReal)) (d : Fin 4) :
    addf K (Host.divf (mulf W (addf (mulf D (mulf T T)) (mulf S0 M))) N) (ix2 n d) = ((outv (uw d) (uh d) (ud d) (x d) : ℝ) : EReal) := by
  pointwise
  rw [hK, hW, hD, h0, hT, hM, hN]
  simp only [← EReal.coe_mul, ← EReal.coe_add]
  rw [div_real _ _ (den_pos _ _ _ (hx0 d) (hx1 d)).ne', ← EReal.coe_add]
  congr 1
  unfold outv num
  ring

theorem logs (hx0 : ∀ d, 0 ≤ x d) (hx1 : ∀ d, x d ≤ 1)
    (hD : ∀ d, D (ix2 n d) = ((del (uw d) (uh d) (x d) : ℝ) : EReal)) (h0 : ∀ d, S0 (ix2 n d) = ((Flow.slope (ud d (bin (uw d) (x d))) : ℝ) : EReal))
    (h1 : ∀ d, S1 (ix2 n d) = ((Flow.slope (ud d (bin (uw d) (x d) + 1)) : ℝ) : EReal))
    (hT : ∀ d, T (ix2 n d) = ((th (uw d) (x d) : ℝ) : EReal)) (hK : ∀ d, K (ix2 n d) = ((1 - th (uw d) (x d) : ℝ) : EReal)) (hM : ∀ d, M (ix2 n d) = ((tm (uw d) (x d) : ℝ) : EReal))
    (hN : ∀ d, N (ix2 n d) = ((den (uw d) (uh d) (ud d) (x d) : ℝ) : EReal)) (d : Fin 4) :
    subf (Host.log (mulf (mulf D D) (addf (addf (mulf S1 (mulf T T)) (mulf (mulf (broadcastInDim S131072x4 ![] bcast_S_S131072x4 (constant S_ .f32 0x40000000#32)) D) M)) (mulf S0 (mulf K K))))) (mulf (broadcastInDim S131072x4 ![] bcast_S_S131072x4 (constant S_ .f32 0x40000000#32)) (Host.log N)) (ix2 n d)
      = ((ladv (uw d) (uh d) (ud d) (x d) : ℝ) : EReal) := by
  pointwise
  rw [hD, h0, h1, hT, hK, hM, hN, lit_two]
  simp only [← EReal.coe_mul, ← EReal.coe_add]
  have e : del (uw d) (uh d) (x d) * del (uw d) (uh d) (x d) * (Flow.slope (ud d (bin (uw d) (x d) + 1)) * (th (uw d) (x d) * th (uw d) (x d)) + 2 * del (uw d) (uh d) (x d) * tm (uw d) (x d)
      + Flow.slope (ud d (bin (uw d) (x d))) * ((1 - th (uw d) (x d)) * (1 - th (uw d) (x d)))) = dnum (uw d) (uh d) (ud d) (x d) := by
    unfold dnum; ring
  rw [e, log_real (dnum_pos _ _ _ (hx0 d) (hx1 d)), log_real (den_pos _ _ _ (hx0 d) (hx1 d)), ← EReal.coe_mul, ← EReal.coe_sub]
  rfl

end

/-! ## Putting the columns back, and adding up -/

theorem chosen {B : IVec S131072 1} {P : Prop} [Decidable P] (hB : B (ix1 n) = if P then 1#1 else 0#1) {A C : FVec Ideal S131072x4 .f32} {a c : Fin 4 → ℝ} (hA : ∀ d, A (ix2 n d) = ((a d : ℝ) : EReal)) (hC : ∀ d, C (ix2 n d) = ((c d : ℝ) : EReal)) (d : Fin 4) :
    select (broadcastInDim S131072x4 ![0, 1] bcast_S131072x1_S131072x4_0_1 (broadcastInDim S131072x1 ![0] bcast_S131072_S131072x1_0 B)) A C (ix2 n d) = (((if P then a d else c d) : ℝ) : EReal) := by
  pointwise
  rw [hB, hA, hC]
  split <;> rfl

theorem summed {J : FVec Ideal S131072 .f32} {j : ℝ} (hJ : J (ix1 n) = ((j : ℝ) : EReal)) {A : FVec Ideal S131072x4 .f32} {a : Fin 4 → ℝ} (hA : ∀ d, A (ix2 n d) = ((a d : ℝ) : EReal)) :
    addf J (Host.reduceAdd A (constant S_ .f32 0x00000000#32) reducesTo_S131072x4_S131072_d1 h_S_) (ix1 n) = ((j + ∑ d, a d : ℝ) : EReal) := by
  pointwise
  simp only [hJ, hA, coe_sum, ← EReal.coe_add]

theorem kept {B : IVec S8 1} {A C : FVec Ideal S131072x8 .f32} {v : EReal} (r : Fin 8) (h1 : B (ix1 r) = 1#1 → A (ix2 n r) = v) (h0 : B (ix1 r) = 0#1 → C (ix2 n r) = v) :
    select (broadcastInDim S131072x8 ![1] bcast_S8_S131072x8_1 B) A C (ix2 n r) = v := by
  pointwise
  have : B (ix1 r) = 1#1 ∨ B (ix1 r) = 0#1 := by
    generalize B (ix1 r) = b
    revert b; decide
  rcases this with h | h
  · rw [h]; exact h1 h
  · rw [h]; exact h0 h

end Cert.ReferenceIdeal.RefRead

end
-- ==== Proof.RefSoft.lean ====
module

public import proofs.«01_k».proof.Proof.RefNet

@[expose] public section

set_option maxRecDepth 16384

noncomputable section

/-! One block of the reference read one sample at a time: the softmax. -/

namespace Cert.ReferenceIdeal.RefRead

open Idealize.ShloMosaic Idealize.ShloMosaic.TcCoe Idealize.SL.Sem
open Cert.KernelIdeal.Stage (softplus_real)
open Cert.ReferenceIdeal Cert.ReferenceIdeal.Gen Cert.ReferenceIdeal.RefOps Cert.Flow

variable {n : Fin 131072}

/-! ## The softmax -/

theorem max_fold {ι : Type} (s : Finset ι) (h : s.Nonempty) (f : ι → ℝ) : ∃ M : ℝ, s.fold max (⊥ : EReal) (fun x => ((f x : ℝ) : EReal)) = ((M : ℝ) : EReal) := by
  induction h using Finset.Nonempty.cons_induction with
  | singleton a => exact ⟨f a, by simp⟩
  | cons a s ha hs ih =>
    obtain ⟨M, hM⟩ := ih
    exact ⟨max (f a) M, by rw [Finset.fold_cons, hM, max_real]⟩

theorem rowFold {α : Type} (op : α → α → α) [Std.Commutative op] [Std.Associative op] (x : S131072x4x10.Idx → α) (init : S_.Idx → α) (n : Fin 131072) (d : Fin 4) :
    Host.reduce op x init reducesTo_S131072x4x10_S131072x4_d2 h_S_ (ix2 n d) = Finset.univ.fold op (init (Shape.Idx.first h_S_)) (fun b : Fin 10 => x (ix3 n d b)) :=
  (Host.reduce_eq_fold op x init _ _ _).trans (Shape.ReducesTo.fold_fiber_r3_a2 reducesTo_S131072x4x10_S131072x4_d2 (ix2 n d) op _ x)

theorem rowMax_op (op : EReal → EReal → EReal) (ho : op = max) {A : S131072x4x10.Idx → EReal} {O : S_.Idx → EReal} (hO : O (Shape.Idx.first h_S_) = ⊥) {u : Fin 4 → Fin 10 → ℝ}
    (hA : ∀ d b, A (ix3 n d b) = ((u d b : ℝ) : EReal)) (d : Fin 4) : ∃ M : ℝ, Host.reduce op A O reducesTo_S131072x4x10_S131072x4_d2 h_S_ (ix2 n d) = ((M : ℝ) : EReal) := by
  subst ho
  obtain ⟨M, hM⟩ := max_fold (Finset.univ : Finset (Fin 10)) ⟨0, Finset.mem_univ _⟩ (u d)
  refine ⟨M, ?_⟩
  rw [rowFold, hO, ← hM]
  exact congrArg (fun g => Finset.fold max ⊥ g Finset.univ) (funext fun b => hA d b)

theorem rowMax {A : FVec Ideal S131072x4x10 .f32} {u : Fin 4 → Fin 10 → ℝ} (hA : ∀ d b, A (ix3 n d b) = ((u d b : ℝ) : EReal)) (d : Fin 4) :
    ∃ M : ℝ, Host.reduce FloatOps.maximumf A (constant S_ .f32 0xFF800000#32) reducesTo_S131072x4x10_S131072x4_d2 h_S_ (ix2 n d) = ((M : ℝ) : EReal) :=
  rowMax_op (FloatOps.maximumf (F := Ideal) (φ := .f32)) rfl (A := A) (O := constant (F := Ideal) S_ .f32 0xFF800000#32) lit_bot hA d

theorem soft_of {A : FVec Ideal S131072x4x10 .f32} {R : FVec Ideal S131072x4 .f32} {u : Fin 10 → ℝ} {M : ℝ} {d : Fin 4} (hA : ∀ b, A (ix3 n d b) = ((u b : ℝ) : EReal))
    (hR : R (ix2 n d) = ((M : ℝ) : EReal)) (b : Fin 10) :
    Host.exp (subf A (broadcastInDim S131072x4x10 ![0, 1, 2] bcast_S131072x4x1_S131072x4x10_0_1_2 (broadcastInDim S131072x4x1 ![0, 1] bcast_S131072x4_S131072x4x1_0_1 (maximumf (broadcastInDim S131072x4 ![] bcast_S_S131072x4 (constant S_ .f32 0xFF800000#32)) R)))) (ix3 n d b)
      = ((Real.exp (u b - M) : ℝ) : EReal) := by
  pointwise
  rw [hA, hR, lit_bot, max_eq_right bot_le, ← EReal.coe_sub, Ideal.exp_coe]

theorem soft {A : FVec Ideal S131072x4x10 .f32} {u : Fin 4 → Fin 10 → ℝ} (hA : ∀ d b, A (ix3 n d b) = ((u d b : ℝ) : EReal)) (d : Fin 4) :
    ∃ M : ℝ, ∀ b, Host.exp (subf A (broadcastInDim S131072x4x10 ![0, 1, 2] bcast_S131072x4x1_S131072x4x10_0_1_2 (broadcastInDim S131072x4x1 ![0, 1] bcast_S131072x4_S131072x4x1_0_1 (maximumf (broadcastInDim S131072x4 ![] bcast_S_S131072x4 (constant S_ .f32 0xFF800000#32)) (Host.reduce FloatOps.maximumf A (constant S_ .f32 0xFF800000#32) reducesTo_S131072x4x10_S131072x4_d2 h_S_))))) (ix3 n d b)
      = ((Real.exp (u d b - M) : ℝ) : EReal) :=
  (rowMax hA d).imp fun _ hM => soft_of (hA d) hM

theorem share (u : Fin 10 → ℝ) (M : ℝ) (b : Fin 10) : Real.exp (u b - M) / ∑ k, Real.exp (u k - M) = Real.exp (u b) / tot u := by
  have : ∑ k, Real.exp (u k - M) = tot u / Real.exp M := by
    unfold tot
    rw [Finset.sum_div]
    exact Finset.sum_congr rfl fun k _ => Real.exp_sub _ _
  rw [this, Real.exp_sub, div_div_div_cancel_right₀ (Real.exp_pos M).ne']

theorem running_real (u : Fin 10 → ℝ) (k : ℕ) (hk : k ≤ 10) : (∑ b : Fin 10, if (b : ℕ) < k then mn + sc * (Real.exp (u b) / tot u) else 0) = (k : ℝ) * mn + sc / tot u * part u k := by
  have e : ∀ b : Fin 10, (if (b : ℕ) < k then mn + sc * (Real.exp (u b) / tot u) else 0)
      = (if (b : ℕ) < k then mn else 0) + sc / tot u * (if (b : ℕ) < k then Real.exp (u b) else 0) := fun b => by
    split
    · ring
    · ring
  rw [Finset.sum_congr rfl fun b _ => e b, Finset.sum_add_distrib, ← Finset.mul_sum]
  congr 1
  rw [Finset.sum_ite, Finset.sum_const_zero, add_zero, Finset.sum_const, nsmul_eq_mul]
  congr 2
  interval_cases k <;> decide

end Cert.ReferenceIdeal.RefRead

end
-- ==== Proof.RefKnots.lean ====
module

public import proofs.«01_k».proof.Proof.RefSoft

@[expose] public section

set_option maxRecDepth 16384

noncomputable section

/-! One block of the reference read one sample at a time: the knots. -/

namespace Cert.ReferenceIdeal.RefRead

open Idealize.ShloMosaic Idealize.ShloMosaic.TcCoe Idealize.SL.Sem
open Cert.KernelIdeal.Stage (softplus_real)
open Cert.ReferenceIdeal Cert.ReferenceIdeal.Gen Cert.ReferenceIdeal.RefOps Cert.Flow

variable {n : Fin 131072}

theorem sizes {E : FVec Ideal S131072x4x10 .f32} {u : Fin 10 → ℝ} {M : ℝ} {d : Fin 4} (hM : ∀ b, E (ix3 n d b) = ((Real.exp (u b - M) : ℝ) : EReal)) (b : Fin 10) :
    (addf (broadcastInDim S131072x4x10 ![] bcast_S_S131072x4x10 (constant S_ .f32 0x3A83126F#32)) (mulf (broadcastInDim S131072x4x10 ![] bcast_S_S131072x4x10 (constant S_ .f32 0x3F7D70A4#32)) (Host.divf E (broadcastInDim S131072x4x10 ![0, 1, 2] bcast_S131072x4x1_S131072x4x10_0_1_2 (broadcastInDim S131072x4x1 ![0, 1] bcast_S131072x4_S131072x4x1_0_1 (Host.reduceAdd E (constant S_ .f32 0x00000000#32) reducesTo_S131072x4x10_S131072x4_d2 h_S_)))))) (ix3 n d b)
    = ((mn + sc * (Real.exp (u b) / tot u) : ℝ) : EReal) := by
  pointwise
  have hp : (∑ k, Real.exp (u k - M)) ≠ 0 := (Finset.sum_pos (fun k _ => Real.exp_pos _) ⟨0, Finset.mem_univ _⟩).ne'
  simp only [hM, lit_mn, lit_sc, coe_sum]
  rw [div_real _ _ hp, share, ← EReal.coe_mul, ← EReal.coe_add]

theorem cat {T : FVec Ideal S131072x4x10 .f32} {O : FVec Ideal S131072x4x1 .f32} {u : Fin 4 → Fin 10 → ℝ}
    (hr : ∀ d (b : Fin 10), T (ix3 n d b) = ((((b + 1 : ℕ) : ℝ) * mn + sc / tot (u d) * part (u d) (b + 1) : ℝ) : EReal)) (hO : ∀ d, O (ix3 n d 0) = ((0 : ℝ) : EReal)) (d : Fin 4) (k : Fin 11) :
    concatenate S131072x4x11 2 [⟨S131072x4x1, O⟩, ⟨S131072x4x9, (extractStridedSlice S131072x4x9 ![0, 0, 0] T slices_S131072x4x10_S131072x4x9_0_0_0)⟩, ⟨S131072x4x1, (addf O (broadcastInDim S131072x4x1 ![] bcast_S_S131072x4x1 (constant S_ .f32 0x3F800000#32)))⟩] concatenates_S131072x4x1_S131072x4x9_S131072x4x1_S131072x4x11_d2 (ix3 n d k)
      = ((knot (u d) k : ℝ) : EReal) := by
  pointwise
  unfold knot
  by_cases h0 : (k : ℕ) < 1
  · refine (dif_pos h0).trans (((congrArg (fun q => O (ix3 n d q)) (Subsingleton.elim _ (0 : Fin 1))).trans (hO d)).trans ?_)
    rw [if_pos (by omega : (k : ℕ) = 0)]
  · refine (dif_neg h0).trans ?_
    by_cases h1 : (k : ℕ) - 1 < 9
    · refine (dif_pos h1).trans ((hr d _).trans ?_)
      rw [if_neg (by omega : ¬ (k : ℕ) = 0), if_neg (by omega : ¬ (k : ℕ) = 10)]
      simp only [Nat.sub_add_cancel (show 1 ≤ (k : ℕ) by omega)]
    · refine (dif_neg h1).trans ?_
      refine (congrArg (· + (1 : EReal)) ((congrArg (fun q => O (ix3 n d q)) (Subsingleton.elim _ (0 : Fin 1))).trans (hO d))).trans ?_
      rw [if_neg (by omega : ¬ (k : ℕ) = 0), if_pos (by omega : (k : ℕ) = 10)]
      simp

theorem knots {E : FVec Ideal S131072x4x10 .f32} {O : FVec Ideal S131072x4x1 .f32} {u : Fin 4 → Fin 10 → ℝ}
    (hE : ∀ d, ∃ M : ℝ, ∀ b, E (ix3 n d b) = ((Real.exp (u d b - M) : ℝ) : EReal)) (hO : ∀ d, O (ix3 n d 0) = ((0 : ℝ) : EReal)) (d : Fin 4) (k : Fin 11) :
    concatenate S131072x4x11 2 [⟨S131072x4x1, O⟩, ⟨S131072x4x9, (extractStridedSlice S131072x4x9 ![0, 0, 0] (Host.reduceWindowAdd ![1, 1, 10] ![1, 1, 1] ![0, 0, 9] ![0, 0, 0] (addf (broadcastInDim S131072x4x10 ![] bcast_S_S131072x4x10 (constant S_ .f32 0x3A83126F#32)) (mulf (broadcastInDim S131072x4x10 ![] bcast_S_S131072x4x10 (constant S_ .f32 0x3F7D70A4#32)) (Host.divf E (broadcastInDim S131072x4x10 ![0, 1, 2] bcast_S131072x4x1_S131072x4x10_0_1_2 (broadcastInDim S131072x4x1 ![0, 1] bcast_S131072x4_S131072x4x1_0_1 (Host.reduceAdd E (constant S_ .f32 0x00000000#32) reducesTo_S131072x4x10_S131072x4_d2 h_S_)))))) (broadcastInDim S_ ![] bcast_S_S_ (constant S_ .f32 0x00000000#32)) reduceWindows_S131072x4x10_S131072x4x10_w1s1p0_0_w1s1p0_0_w10s1p9_0 h_S_) slices_S131072x4x10_S131072x4x9_0_0_0)⟩, ⟨S131072x4x1, (addf O (broadcastInDim S131072x4x1 ![] bcast_S_S131072x4x1 (constant S_ .f32 0x3F800000#32)))⟩] concatenates_S131072x4x1_S131072x4x9_S131072x4x1_S131072x4x11_d2 (ix3 n d k)
      = ((knot (u d) k : ℝ) : EReal) :=
  cat (fun d b => by
    obtain ⟨M, hM⟩ := hE d
    exact (running _ _ n d (sizes hM) b).trans (congrArg _ (running_real (u d) (b + 1) (by omega)))) hO d k

end Cert.ReferenceIdeal.RefRead

end
-- ==== Proof.RefSearch.lean ====
module

public import proofs.«01_k».proof.Proof.RefNet

@[expose] public section

set_option maxRecDepth 16384

noncomputable section

/-! One block of the reference read one sample at a time: derivatives at the knots, the interval and the bin search. -/

namespace Cert.ReferenceIdeal.RefRead

open Idealize.ShloMosaic Idealize.ShloMosaic.TcCoe Idealize.SL.Sem
open Cert.KernelIdeal.Stage (softplus_real)
open Cert.ReferenceIdeal Cert.ReferenceIdeal.Gen Cert.ReferenceIdeal.RefOps Cert.Flow

variable {n : Fin 131072}

/-! ## Derivatives at the knots -/

theorem slopes {A Z : FVec Ideal S131072x4x11 .f32} {v : Fin 4 → Fin 11 → ℝ} (hA : ∀ d k, A (ix3 n d k) = ((v d k : ℝ) : EReal)) (hZ : ∀ d k, Z (ix3 n d k) = ((v d k : ℝ) : EReal)) {O : FVec Ideal S_ .f32} (hO : O = constant S_ .f32 0x00000000#32) (d : Fin 4) (k : Fin 11) :
    Host.divf (addf (broadcastInDim S131072x4x11 ![] bcast_S_S131072x4x11 (constant S_ .f32 0x3A83126F#32)) (select (cmpf .une Z Z) (addf A (broadcastInDim S131072x4x11 ![] bcast_S_S131072x4x11 O)) (addf (maximumf A (broadcastInDim S131072x4x11 ![] bcast_S_S131072x4x11 O)) (Host.log1p (Host.exp (Host.negf (Host.absf Z))))))) (broadcastInDim S131072x4x11 ![] bcast_S_S131072x4x11 (constant S_ .f32 0x3F31B3A1#32)) (ix3 n d k)
      = ((slope (v d k) : ℝ) : EReal) := by
  subst hO
  pointwise
  simp only [hA, hZ, lit_mn, lit_div]
  rw [if_neg (fun h => h rfl), show FloatOps.absf (F := Ideal) (φ := .f32) ((v d k : ℝ) : EReal) = max ((v d k : ℝ) : EReal) (-((v d k : ℝ) : EReal)) from rfl,
    ← zero_sub (max ((v d k : ℝ) : EReal) (-((v d k : ℝ) : EReal))), softplus_real, ← EReal.coe_add, div_real _ _ (by norm_num)]
  congr 1
  unfold Flow.slope dv
  ring

/-! ## The interval and the bin search -/

theorem and_fold {ι : Type} [DecidableEq ι] (s : Finset ι) (P Q : ι → Prop) [DecidablePred P] [DecidablePred Q] :
    (s.fold IntOp.andi (1#1) (fun x => IntOp.andi (BitVec.ofBool (decide (P x))) (BitVec.ofBool (decide (Q x)))) = 1#1 ∧ ∀ x ∈ s, P x ∧ Q x)
      ∨ (s.fold IntOp.andi (1#1) (fun x => IntOp.andi (BitVec.ofBool (decide (P x))) (BitVec.ofBool (decide (Q x)))) = 0#1 ∧ ¬ ∀ x ∈ s, P x ∧ Q x) := by
  refine Finset.induction_on s (Or.inl ⟨by simp, by simp⟩) fun a s ha ih => ?_
  rw [Finset.fold_insert ha]
  have e : (∀ x ∈ insert a s, P x ∧ Q x) ↔ (P a ∧ Q a) ∧ ∀ x ∈ s, P x ∧ Q x := by simp
  rw [e]
  rcases ih with ⟨h, hs⟩ | ⟨h, hs⟩ <;> rw [h] <;> by_cases hp : P a <;> by_cases hq : Q a
  · exact Or.inl ⟨by simp only [hp, hq, decide_true]; rfl, ⟨hp, hq⟩, hs⟩
  · exact Or.inr ⟨by simp only [hp, hq, decide_true, decide_false]; rfl, fun k => hq k.1.2⟩
  · exact Or.inr ⟨by simp only [hp, hq, decide_true, decide_false]; rfl, fun k => hp k.1.1⟩
  · exact Or.inr ⟨by simp only [hp, hq, decide_true, decide_false]; rfl, fun k => hp k.1.1⟩
  · exact Or.inr ⟨by simp only [hp, hq, decide_true, decide_false]; rfl, fun k => hs k.2⟩
  · exact Or.inr ⟨by simp only [hp, hq, decide_true, decide_false]; rfl, fun k => hs k.2⟩
  · exact Or.inr ⟨by simp only [hp, hq, decide_true, decide_false]; rfl, fun k => hs k.2⟩
  · exact Or.inr ⟨by simp only [hp, hq, decide_true, decide_false]; rfl, fun k => hs k.2⟩

theorem inside {A : FVec Ideal S131072x4 .f32} {t : Fin 4 → ℝ} (hA : ∀ d, A (ix2 n d) = ((t d : ℝ) : EReal)) :
    Host.reduce IntOp.andi (andi (cmpf .oge A (broadcastInDim S131072x4 ![] bcast_S_S131072x4 (constant S_ .f32 0x00000000#32))) (cmpf .ole A (broadcastInDim S131072x4 ![] bcast_S_S131072x4 (constant S_ .f32 0x3F800000#32)))) (constantI S_ 1 1#1) reducesTo_S131072x4_S131072_d1 h_S_ (ix1 n)
      = (open Classical in if ins t then 1#1 else 0#1) := by
  pointwise
  simp only [hA, EReal.coe_nonneg, ← EReal.coe_one, EReal.coe_le_coe_iff]
  rcases and_fold (Finset.univ : Finset (Fin 4)) (fun d => 0 ≤ t d) (fun d => t d ≤ 1) with ⟨h, k⟩ | ⟨h, k⟩
  · rw [if_pos (show ins t from fun d => k d (Finset.mem_univ _))]; exact h
  · rw [if_neg (show ¬ ins t from fun q => k fun d _ => q d)]; exact h

theorem clipped {A : FVec Ideal S131072x4 .f32} {t : Fin 4 → ℝ} (hA : ∀ d, A (ix2 n d) = ((t d : ℝ) : EReal)) (d : Fin 4) :
    minimumf (broadcastInDim S131072x4 ![] bcast_S_S131072x4 (id (constant S_ .f32 0x3F800000#32))) (maximumf (broadcastInDim S131072x4 ![] bcast_S_S131072x4 (id (constant S_ .f32 0x00000000#32))) A) (ix2 n d)
      = ((cl (t d) : ℝ) : EReal) := by
  simp only [id_eq]
  pointwise
  rw [hA, ← EReal.coe_zero, ← EReal.coe_one, max_real, min_real]; rfl

theorem search {X : FVec Ideal S131072x4 .f32} {K : FVec Ideal S131072x4x11 .f32} {u : Fin 4 → Fin 10 → ℝ} {x : Fin 4 → ℝ} (h0 : ∀ d, 0 ≤ x d) (h1 : ∀ d, x d ≤ 1)
    (hX : ∀ d, X (ix2 n d) = ((x d : ℝ) : EReal)) (hK : ∀ d k, K (ix3 n d k) = ((knot (u d) (k : Fin 11) : ℝ) : EReal)) (d : Fin 4) :
    broadcastInDim S131072x4x1 ![0, 1] bcast_S131072x4_S131072x4x1_0_1 (minsi (broadcastInDim S131072x4 ![] bcast_S_S131072x4 (id (constantI S_ 32 9#32))) (maxsi (broadcastInDim S131072x4 ![] bcast_S_S131072x4 (id (constantI S_ 32 0#32))) (subi (Host.reduce IntOp.addi (extui 32 (cmpf .oge (broadcastInDim S131072x4x11 ![0, 1, 2] bcast_S131072x4x1_S131072x4x11_0_1_2 (broadcastInDim S131072x4x1 ![0, 1] bcast_S131072x4_S131072x4x1_0_1 X)) (select (broadcastInDim S131072x4x11 ![2] bcast_S11_S131072x4x11_2 (cmpi .eq (iotaInDim S11 32 0) (broadcastInDim S11 ![] bcast_S_S11 (constantI S_ 32 10#32)))) (addf K (broadcastInDim S131072x4x11 ![] bcast_S_S131072x4x11 (constant S_ .f32 0x358637BD#32))) K)) natLt_1_32) (constantI S_ 32 0#32) reducesTo_S131072x4x11_S131072x4_d2 h_S_) (broadcastInDim S131072x4 ![] bcast_S_S131072x4 (constantI S_ 32 1#32))))) (ix3 n d 0)
      = BitVec.ofNat 32 (bin (u d) (x d)) := by
  simp only [id_eq]
  pointwise
  simp only [hX, hK, lit_eps]
  have hsel : ∀ k : Fin 11, (decide (Scalar.select (IntOp.cmpi CmpIPredicate.eq (BitVec.ofNat 32 (k : ℕ)) 10#32) (((knot (u d) k : ℝ) : EReal) + ((eps : ℝ) : EReal)) ((knot (u d) k : ℝ) : EReal) ≤ ((x d : ℝ) : EReal)))
      = decide ((k : ℕ) ≤ bin (u d) (x d)) := fun k => by
    have hb := bin_le (u d) (x d)
    refine decide_eq_decide.2 ?_
    by_cases hk : (k : ℕ) = 10
    · have : k = 10 := Fin.ext hk
      subst this
      show (((knot (u d) 10 : ℝ) : EReal) + ((eps : ℝ) : EReal)) ≤ _ ↔ 10 ≤ bin (u d) (x d)
      rw [knot_ten, ← EReal.coe_add, EReal.coe_le_coe_iff]
      have := h1 d
      have : 0 < eps := by unfold eps; norm_num
      constructor
      · intro h; linarith
      · intro h; omega
    · have : IntOp.cmpi CmpIPredicate.eq (BitVec.ofNat 32 (k : ℕ)) 10#32 = 0#1 := by
        revert hk; revert k; decide +kernel
      rw [this]
      show ((knot (u d) k : ℝ) : EReal) ≤ _ ↔ _
      rw [EReal.coe_le_coe_iff]
      rcases Nat.eq_zero_or_pos (k : ℕ) with hz | hz
      · rw [hz, knot_zero]; exact ⟨fun _ => Nat.zero_le _, fun _ => h0 d⟩
      · have := knot_le_iff (u d) (x d) ((k : ℕ) - 1) (by omega)
        rw [Nat.sub_add_cancel hz] at this
        rw [this]; omega
  simp only [hsel]
  have hb := bin_le (u d) (x d)
  generalize bin (u d) (x d) = q at hb
  interval_cases q <;> decide +kernel

end Cert.ReferenceIdeal.RefRead

end
-- ==== Proof.RefStep.lean ====
module

public import proofs.«01_k».proof.Proof.RefPick
public import proofs.«01_k».proof.Proof.RefKnots
public import proofs.«01_k».proof.Proof.RefSearch

@[expose] public section

set_option maxRecDepth 16384

noncomputable section

/-! One trip of the reference's loop, read one sample at a time: it is one coupling block of the specification. -/

namespace Cert.ReferenceIdeal.RefRead

open Idealize.ShloMosaic Idealize.ShloMosaic.TcCoe Idealize.SL.Sem
open Cert.KernelIdeal.Stage (softplus_real)
open Cert.ReferenceIdeal Cert.ReferenceIdeal.Gen Cert.ReferenceIdeal.Value Cert.ReferenceIdeal.RefOps Cert.Flow

/-- The carried buffers at the start of block `i`: the tables, the weights, the context, the coordinates and the log-determinants so far. -/
structure At (p : Par) (Z : Fin 131072 → Fin 4 → ℝ) (V0 : Valuation τ sig (Elt Ideal)) (i : Fin 6) (Y : Fin 131072 → Fin 8 → ℝ) (J : Fin 131072 → ℝ) : Prop where
  cnt : (V0 (Proc.devRef .tc main_v1_11) : IVec S_ 32) = fun _ => BitVec.ofNat 32 i
  mask : (V0 (Proc.devRef .tc main_v1_0) : IVec S6x8 1) = fun j => lit0 (S6x8.rowMajor j)
  cnd : (V0 (Proc.devRef .tc main_v1_1) : IVec S6x4 32) = fun j => lit1 (S6x4.rowMajor j)
  trf : (V0 (Proc.devRef .tc main_v1_2) : IVec S6x4 32) = fun j => lit2 (S6x4.rowMajor j)
  plc : (V0 (Proc.devRef .tc main_v1_3) : IVec S6x8 32) = fun j => lit3 (S6x8.rowMajor j)
  w1 : ∀ i k r, (V0 (Proc.devRef .tc main_v1_4) : FVec Ideal S6x8x32 .f32) (ix3 i k r) = ((p.W1 i k r : ℝ) : EReal)
  b1 : ∀ i r, (V0 (Proc.devRef .tc main_v1_5) : FVec Ideal S6x32 .f32) (ix2 i r) = ((p.b1 i r : ℝ) : EReal)
  w2 : ∀ i k r, (V0 (Proc.devRef .tc main_v1_6) : FVec Ideal S6x32x32 .f32) (ix3 i k r) = ((p.W2 i k r : ℝ) : EReal)
  b2 : ∀ i r, (V0 (Proc.devRef .tc main_v1_7) : FVec Ideal S6x32 .f32) (ix2 i r) = ((p.b2 i r : ℝ) : EReal)
  w3 : ∀ i k r, (V0 (Proc.devRef .tc main_v1_8) : FVec Ideal S6x32x124 .f32) (ix3 i k r) = ((p.W3 i k r : ℝ) : EReal)
  b3 : ∀ i r, (V0 (Proc.devRef .tc main_v1_9) : FVec Ideal S6x124 .f32) (ix2 i r) = ((p.b3 i r : ℝ) : EReal)
  z : ∀ n d, (V0 (Proc.devRef .tc main_v1_10) : FVec Ideal S131072x4 .f32) (ix2 n d) = ((Z n d : ℝ) : EReal)
  y : ∀ n r, (V0 (Proc.devRef .tc main_v1_12) : FVec Ideal S131072x8 .f32) (ix2 n r) = ((Y n r : ℝ) : EReal)
  j : ∀ n, (V0 (Proc.devRef .tc main_v1_13) : FVec Ideal S131072 .f32) (ix1 n) = ((J n : ℝ) : EReal)

/-! ## The tables -/

theorem tab_cond : ∀ (i : Fin 6) (d : Fin 4), min (lit1 (S6x4.rowMajor (ix2 i d))).toInt.toNat 7 = cond i d := by decide +kernel
theorem tab_trafo : ∀ (i : Fin 6) (d : Fin 4), min (lit2 (S6x4.rowMajor (ix2 i d))).toInt.toNat 7 = trafo i d := by decide +kernel
theorem tab_mask : ∀ (i : Fin 6) (r : Fin 8), lit0 (S6x8.rowMajor (ix2 i r)) = if place i r = none then 1#1 else 0#1 := by decide +kernel
theorem tab_place : ∀ (i : Fin 6) (r : Fin 8) (d : Fin 4), place i r = some d → min (lit3 (S6x8.rowMajor (ix2 i r))).toInt.toNat 3 = d := by decide +kernel

section
variable {p : Par} {Z : Fin 131072 → Fin 4 → ℝ} {V0 : Valuation τ sig (Elt Ideal)} {i : Fin 6} {Y : Fin 131072 → Fin 8 → ℝ} {J : Fin 131072 → ℝ}

/-- Columns of the coordinates named by a table's row. -/
theorem gathered (H : At p Z V0 i Y J) {T : IVec S6x4 32} {f : Fin 6 → Fin 4 → Fin 8} (hT : ∀ (i : Fin 6) (d : Fin 4), min (T (ix2 i d)).toInt.toNat 7 = f i d) (n : Fin 131072) (d : Fin 4) :
    Host.gather gather_S131072x8_S4x1_S131072x4_0_1_n_n_1_1_1310721 (V0 (Proc.devRef .tc main_v1_12)) (broadcastInDim S4x1 ![0] bcast_S4_S4x1_0 (shapeCast S4 (Host.dynamicSlice S1x4 T (fun k => (((![V0 (Proc.devRef .tc main_v1_11), constantI S_ 32 0#32] : Fin 2 → (⟨S_, .i32⟩ : BufTy).Contents (Elt Ideal))) k (Shape.Idx.first h_S_)).toInt) sliceFits_S6x4_S1x4) shapeCasts_S1x4_S4)) (ix2 n d)
      = ((Y n (f i d) : ℝ) : EReal) := by
  refine (cols _ _ n d).trans ((H.y n _).trans (congrArg (fun r => ((Y n r : ℝ) : EReal)) (Fin.ext ?_)))
  refine (congrArg (fun q : BitVec 32 => min q.toInt.toNat 7) ((col4 _ d).trans (row4 T H.cnt d))).trans (hT i d)

theorem v15 (H : At p Z V0 i Y J) (n : Fin 131072) (d : Fin 4) : (res_main_while0b_v15 V0 : FVec Ideal S131072x4 .f32) (ix2 n d) = ((tr i (Y n) d : ℝ) : EReal) :=
  gathered H (fun i d => (congrArg (fun T : IVec S6x4 32 => min (T (ix2 i d)).toInt.toNat 7) H.trf).trans (tab_trafo i d)) n d

theorem v22 (H : At p Z V0 i Y J) (n : Fin 131072) (j : Fin 32) :
    (res_main_while0b_v22 V0 : FVec Ideal S131072x32 .f32) (ix2 n j) = ((dense (netin i (Y n) (Z n)) (p.W1 i) (p.b1 i) j : ℝ) : EReal) :=
  layer8_32 (inputs (fun d => gathered H (fun i d => (congrArg (fun T : IVec S6x4 32 => min (T (ix2 i d)).toInt.toNat 7) H.cnd).trans (tab_cond i d)) n d) (H.z n))
    (fun k j => (mat8_32 _ H.cnt k j).trans (H.w1 i k j)) (fun j => (row32 _ H.cnt j).trans (H.b1 i j)) j

theorem v27 (H : At p Z V0 i Y J) (n : Fin 131072) (j : Fin 32) :
    (res_main_while0b_v27 V0 : FVec Ideal S131072x32 .f32) (ix2 n j) = ((dense (hid1 p i (Y n) (Z n)) (p.W2 i) (p.b2 i) j : ℝ) : EReal) :=
  layer32_32 (leaky (v22 H n)) (fun k j => (mat32_32 _ H.cnt k j).trans (H.w2 i k j)) (fun j => (row32 _ H.cnt j).trans (H.b2 i j)) j

theorem v33 (H : At p Z V0 i Y J) (n : Fin 131072) (d : Fin 4) (b : Fin 31) :
    (res_main_while0b_v33 V0 : FVec Ideal S131072x4x31 .f32) (ix3 n d b) = ((lg p i (Y n) (Z n) ⟨31 * d + b, by omega⟩ : ℝ) : EReal) :=
  (split31 _ d b).trans (layer32_124 (leaky (v27 H n)) (fun k j => (mat32_124 _ H.cnt k j).trans (H.w3 i k j)) (fun j => (row124 _ H.cnt j).trans (H.b3 i j)) _)

theorem v34 (H : At p Z V0 i Y J) (n : Fin 131072) (d : Fin 4) (b : Fin 10) :
    (res_main_while0b_v34 V0 : FVec Ideal S131072x4x10 .f32) (ix3 n d b) = ((lgW (lg p i (Y n) (Z n)) d b : ℝ) : EReal) := by
  refine (cut0 _ d b).trans ((v33 H n d _).trans ?_)
  exact congrArg (fun q => ((lg p i (Y n) (Z n) q : ℝ) : EReal)) (Fin.ext (by show 31 * d.val + (0 + b.val) = 31 * d.val + b.val; omega))

theorem v35 (H : At p Z V0 i Y J) (n : Fin 131072) (d : Fin 4) (b : Fin 10) :
    (res_main_while0b_v35 V0 : FVec Ideal S131072x4x10 .f32) (ix3 n d b) = ((lgH (lg p i (Y n) (Z n)) d b : ℝ) : EReal) := by
  refine (cut10 _ d b).trans ((v33 H n d _).trans ?_)
  exact congrArg (fun q => ((lg p i (Y n) (Z n) q : ℝ) : EReal)) (Fin.ext (by show 31 * d.val + (10 + b.val) = 31 * d.val + 10 + b.val; omega))

theorem v36 (H : At p Z V0 i Y J) (n : Fin 131072) (d : Fin 4) (b : Fin 11) :
    (res_main_while0b_v36 V0 : FVec Ideal S131072x4x11 .f32) (ix3 n d b) = ((lgD (lg p i (Y n) (Z n)) d b : ℝ) : EReal) := by
  refine (cut20 _ d b).trans ((v33 H n d _).trans ?_)
  rw [lgD, dif_pos b.isLt]
  exact congrArg (fun q => ((lg p i (Y n) (Z n) q : ℝ) : EReal)) (Fin.ext (by show 31 * d.val + (20 + b.val) = 31 * d.val + 20 + b.val; omega))

theorem v50 (H : At p Z V0 i Y J) (n : Fin 131072) (d : Fin 4) :
    ∃ M : ℝ, ∀ b, (res_main_while0b_v50 V0 : FVec Ideal S131072x4x10 .f32) (ix3 n d b) = ((Real.exp (lgW (lg p i (Y n) (Z n)) d b - M) : ℝ) : EReal) :=
  soft (v34 H n) d

theorem v61 (V0 : Valuation τ sig (Elt Ideal)) (n : Fin 131072) (d : Fin 4) : (res_main_while0b_v61 V0 : FVec Ideal S131072x4x1 .f32) (ix3 n d 0) = ((0 : ℝ) : EReal) := lit_zero

theorem v64 (H : At p Z V0 i Y J) (n : Fin 131072) (d : Fin 4) (k : Fin 11) :
    (res_main_while0b_v64 V0 : FVec Ideal S131072x4x11 .f32) (ix3 n d k) = ((knot (lgW (lg p i (Y n) (Z n)) d) k : ℝ) : EReal) :=
  knots (v50 H n) (v61 V0 n) d k

theorem v67 (H : At p Z V0 i Y J) (n : Fin 131072) (d : Fin 4) (k : Fin 10) :
    (res_main_while0b_v67 V0 : FVec Ideal S131072x4x10 .f32) (ix3 n d k) = ((wid (lgW (lg p i (Y n) (Z n)) d) k : ℝ) : EReal) :=
  diffs (v64 H n) d k

theorem v79 (H : At p Z V0 i Y J) (n : Fin 131072) (d : Fin 4) :
    ∃ M : ℝ, ∀ b, (res_main_while0b_v79 V0 : FVec Ideal S131072x4x10 .f32) (ix3 n d b) = ((Real.exp (lgH (lg p i (Y n) (Z n)) d b - M) : ℝ) : EReal) :=
  soft (v35 H n) d

theorem v90 (V0 : Valuation τ sig (Elt Ideal)) (n : Fin 131072) (d : Fin 4) : (res_main_while0b_v90 V0 : FVec Ideal S131072x4x1 .f32) (ix3 n d 0) = ((0 : ℝ) : EReal) := lit_zero

theorem v93 (H : At p Z V0 i Y J) (n : Fin 131072) (d : Fin 4) (k : Fin 11) :
    (res_main_while0b_v93 V0 : FVec Ideal S131072x4x11 .f32) (ix3 n d k) = ((knot (lgH (lg p i (Y n) (Z n)) d) k : ℝ) : EReal) :=
  knots (v79 H n) (v90 V0 n) d k

theorem v96 (H : At p Z V0 i Y J) (n : Fin 131072) (d : Fin 4) (k : Fin 10) :
    (res_main_while0b_v96 V0 : FVec Ideal S131072x4x10 .f32) (ix3 n d k) = ((wid (lgH (lg p i (Y n) (Z n)) d) k : ℝ) : EReal) :=
  diffs (v93 H n) d k

theorem call3 (H : At p Z V0 i Y J) (n : Fin 131072) (d : Fin 4) (k : Fin 11) :
    (res_main_while0b_call14_v3 V0 : FVec Ideal S131072x4x11 .f32) (ix3 n d k) = ((lgD (lg p i (Y n) (Z n)) d k : ℝ) : EReal) :=
  less_zero (fun d k => v36 H n d k) d k

theorem v72 (H : At p Z V0 i Y J) (n : Fin 131072) (d : Fin 4) (k : Fin 11) :
    (res_main_while0b_v72 V0 : FVec Ideal S131072x4x11 .f32) (ix3 n d k) = ((Flow.slope (lgD (lg p i (Y n) (Z n)) d k) : ℝ) : EReal) :=
  slopes (v := fun d k => lgD (lg p i (Y n) (Z n)) d k) (v36 H n) (call3 H n) rfl d k

theorem v42 (H : At p Z V0 i Y J) (n : Fin 131072) :
    (res_main_while0b_v42 V0 : IVec S131072 1) (ix1 n) = (open Classical in if ins (tr i (Y n)) then 1#1 else 0#1) :=
  inside (v15 H n)

theorem v43 (H : At p Z V0 i Y J) (n : Fin 131072) (d : Fin 4) : (res_main_while0b_v43 V0 : FVec Ideal S131072x4 .f32) (ix2 n d) = ((cl (tr i (Y n) d) : ℝ) : EReal) :=
  clipped (v15 H n) d

theorem v111 (H : At p Z V0 i Y J) (n : Fin 131072) (d : Fin 4) :
    (res_main_while0b_v111 V0 : IVec S131072x4x1 32) (ix3 n d 0) = BitVec.ofNat 32 (bin (lgW (lg p i (Y n) (Z n)) d) (cl (tr i (Y n) d))) :=
  search (x := fun d => cl (tr i (Y n) d)) (u := fun d => lgW (lg p i (Y n) (Z n)) d) (fun _ => cl_nonneg _) (fun _ => cl_le _) (v43 H n) (v64 H n) d

theorem v120 (H : At p Z V0 i Y J) (n : Fin 131072) (d : Fin 4) : (res_main_while0b_v120 V0 : FVec Ideal S131072x4 .f32) (ix2 n d) = ((del (lgW (lg p i (Y n) (Z n)) d) (lgH (lg p i (Y n) (Z n)) d) (cl (tr i (Y n) d)) : ℝ) : EReal) :=
  pick10 (bin_le _ _) (v111 H n d) (f := fun q => wid (lgH (lg p i (Y n) (Z n)) d) q / wid (lgW (lg p i (Y n) (Z n)) d) q) (fun k => slopes_ratio (v96 H n) (v67 H n) d k)

theorem v122 (H : At p Z V0 i Y J) (n : Fin 131072) (d : Fin 4) : (res_main_while0b_v122 V0 : FVec Ideal S131072x4 .f32) (ix2 n d) = ((Flow.slope (lgD (lg p i (Y n) (Z n)) d (bin (lgW (lg p i (Y n) (Z n)) d) (cl (tr i (Y n) d)))) : ℝ) : EReal) :=
  pick11 (bin_le _ _) (v111 H n d) (f := fun q => Flow.slope (lgD (lg p i (Y n) (Z n)) d q)) (fun k => v72 H n d k)

theorem v125 (H : At p Z V0 i Y J) (n : Fin 131072) (d : Fin 4) : (res_main_while0b_v125 V0 : FVec Ideal S131072x4 .f32) (ix2 n d) = ((Flow.slope (lgD (lg p i (Y n) (Z n)) d (bin (lgW (lg p i (Y n) (Z n)) d) (cl (tr i (Y n) d)) + 1)) : ℝ) : EReal) :=
  pick10 (bin_le _ _) (v111 H n d) (f := fun q => Flow.slope (lgD (lg p i (Y n) (Z n)) d (q + 1))) (fun k => (after_first d k).trans (v72 H n d _))

theorem v129 (H : At p Z V0 i Y J) (n : Fin 131072) (d : Fin 4) : (res_main_while0b_v129 V0 : FVec Ideal S131072x4 .f32) (ix2 n d) = ((th (lgW (lg p i (Y n) (Z n)) d) (cl (tr i (Y n) d)) : ℝ) : EReal) :=
  theta (x := fun d => cl (tr i (Y n) d)) (uw := fun d => lgW (lg p i (Y n) (Z n)) d) (v43 H n) (fun d => pick11 (bin_le _ _) (v111 H n d) (f := fun q => knot (lgW (lg p i (Y n) (Z n)) d) q) (fun k => v64 H n d k)) (fun d => pick10 (bin_le _ _) (v111 H n d) (f := fun q => wid (lgW (lg p i (Y n) (Z n)) d) q) (fun k => v67 H n d k)) d

theorem v132 (H : At p Z V0 i Y J) (n : Fin 131072) (d : Fin 4) : (res_main_while0b_v132 V0 : FVec Ideal S131072x4 .f32) (ix2 n d) = ((tm (lgW (lg p i (Y n) (Z n)) d) (cl (tr i (Y n) d)) : ℝ) : EReal) :=
  both (x := fun d => cl (tr i (Y n) d)) (uw := fun d => lgW (lg p i (Y n) (Z n)) d) (v129 H n) d

theorem v143 (H : At p Z V0 i Y J) (n : Fin 131072) (d : Fin 4) : (res_main_while0b_v143 V0 : FVec Ideal S131072x4 .f32) (ix2 n d) = ((den (lgW (lg p i (Y n) (Z n)) d) (lgH (lg p i (Y n) (Z n)) d) (lgD (lg p i (Y n) (Z n)) d) (cl (tr i (Y n) d)) : ℝ) : EReal) :=
  below (x := fun d => cl (tr i (Y n) d)) (uw := fun d => lgW (lg p i (Y n) (Z n)) d) (uh := fun d => lgH (lg p i (Y n) (Z n)) d) (ud := fun d => lgD (lg p i (Y n) (Z n)) d) (v120 H n) (v122 H n) (v125 H n) (v132 H n) d

theorem v154 (H : At p Z V0 i Y J) (n : Fin 131072) (d : Fin 4) : (res_main_while0b_v154 V0 : FVec Ideal S131072x4 .f32) (ix2 n d) = ((1 - th (lgW (lg p i (Y n) (Z n)) d) (cl (tr i (Y n) d)) : ℝ) : EReal) :=
  rest (x := fun d => cl (tr i (Y n) d)) (uw := fun d => lgW (lg p i (Y n) (Z n)) d) (v129 H n) d

/-! ## The trip -/

theorem put (x : FVec Ideal S131072x4 .f32) (idx : IVec S8x1 32) (n : Fin 131072) (r : Fin 8) (d : Fin 4) (e : min (idx (ix2 r 0)).toInt.toNat 3 = d) :
    Host.gather gather_S131072x4_S8x1_S131072x8_0_1_n_n_1_1_1310721 x idx (ix2 n r) = x (ix2 n d) :=
  (back x idx n r).trans (congrArg (fun q => x (ix2 n q)) (Fin.ext e))

theorem next_x (H : At p Z V0 i Y J) (n : Fin 131072) (r : Fin 8) : (step_main_v1_12 V0 : FVec Ideal S131072x8 .f32) (ix2 n r) = ((step p i (Y n) (Z n) r : ℝ) : EReal) := by
  classical
  have hm : ∀ r, shapeCast S8 (Host.dynamicSlice S1x8 (V0 (Proc.devRef .tc main_v1_0)) (fun k => (((![V0 (Proc.devRef .tc main_v1_11), constantI S_ 32 0#32] : Fin 2 → (⟨S_, .i32⟩ : BufTy).Contents (Elt Ideal))) k (Shape.Idx.first h_S_)).toInt) sliceFits_S6x8_S1x8) shapeCasts_S1x8_S8 (ix1 r) = if place i r = none then 1#1 else 0#1 := fun r =>
    (row8 _ H.cnt r).trans ((congrFun H.mask (ix2 i r)).trans (tab_mask i r))
  refine kept r (fun h => ?_) (fun h => ?_)
  · have e : place i r = none := by
      by_contra hne
      rw [hm r, if_neg hne] at h
      exact absurd h (by decide)
    refine (H.y n r).trans ?_
    unfold step
    rw [e]
  · obtain ⟨d, e⟩ : ∃ d, place i r = some d := by
      rcases he : place i r with _ | d
      · rw [hm r, if_pos he] at h
        exact absurd h (by decide)
      · exact ⟨d, rfl⟩
    have ej : min (lit3 (S6x8.rowMajor (ix2 i r))).toInt.toNat 3 = d := tab_place i r d e
    refine (put _ _ n r d ?_).trans ?_
    · exact (congrArg (fun q : BitVec 32 => min q.toInt.toNat 3) ((col8 _ r).trans ((row8 _ H.cnt r).trans (congrFun H.plc (ix2 i r))))).trans ej
    · refine (chosen (v42 H n) (value (x := fun d => cl (tr i (Y n) d)) (uw := fun d => lgW (lg p i (Y n) (Z n)) d) (uh := fun d => lgH (lg p i (Y n) (Z n)) d) (ud := fun d => lgD (lg p i (Y n) (Z n)) d) (fun _ => cl_nonneg _) (fun _ => cl_le _) (fun d => pick11 (bin_le _ _) (v111 H n d) (f := fun q => knot (lgH (lg p i (Y n) (Z n)) d) q) (fun k => v93 H n d k)) (fun d => pick10 (bin_le _ _) (v111 H n d) (f := fun q => wid (lgH (lg p i (Y n) (Z n)) d) q) (fun k => v96 H n d k))
        (v120 H n) (v122 H n) (v129 H n) (v132 H n) (v143 H n)) (v15 H n) d).trans ?_
      unfold step
      rw [e]
      rfl

theorem next_j (H : At p Z V0 i Y J) (n : Fin 131072) : (step_main_v1_13 V0 : FVec Ideal S131072 .f32) (ix1 n) = ((J n + ∑ d, gain p i (Y n) (Z n) d : ℝ) : EReal) := by
  classical
  exact (summed (H.j n) (chosen (v42 H n) (logs (x := fun d => cl (tr i (Y n) d)) (uw := fun d => lgW (lg p i (Y n) (Z n)) d) (uh := fun d => lgH (lg p i (Y n) (Z n)) d) (ud := fun d => lgD (lg p i (Y n) (Z n)) d) (fun _ => cl_nonneg _) (fun _ => cl_le _) (v120 H n) (v122 H n) (v125 H n) (v129 H n) (v154 H n) (v132 H n) (v143 H n)) (fun d => (lit_zero : _ = ((0 : ℝ) : EReal)))))

end

end Cert.ReferenceIdeal.RefRead

end
-- ==== Proof.RefOut.lean ====
module

public import proofs.«01_k».proof.Proof.RefStep
public import proofs.«01_k».proof.Proof.KernelHost
public import proofs.«01_k».proof.Proof.Tile

@[expose] public section

set_option maxRecDepth 16384

noncomputable section

/-! The reference's two results, one sample at a time: six trips of its loop are six coupling blocks of the specification. -/

namespace Cert.ReferenceIdeal.RefRead

open Idealize.ShloMosaic Idealize.ShloMosaic.TcCoe Idealize.ShloMosaic.Tactic
open Idealize.SL Idealize.SL.RA Idealize.SL.BI
open Idealize.SL.Sem
open Idealize.ShloMosaic.StableHlo
open Cert.ReferenceIdeal Cert.ReferenceIdeal.Gen Cert.ReferenceIdeal.Value Cert.ReferenceIdeal.RefOps Cert.Flow

/-- The coordinates entering block `k`, per sample. -/
def Yat (p : Par) (X : Fin 131072 → Fin 8 → ℝ) (Z : Fin 131072 → Fin 4 → ℝ) (k : ℕ) (n : Fin 131072) : Fin 8 → ℝ := at_ p (Z n) (X n) k

/-- The log determinant collected by the first `k` blocks, per sample. -/
def Jat (p : Par) (X : Fin 131072 → Fin 8 → ℝ) (Z : Fin 131072 → Fin 4 → ℝ) (k : ℕ) (n : Fin 131072) : ℝ :=
  ∑ q ∈ Finset.range k, ∑ d, gain p (Fin.ofNat 6 q) (at_ p (Z n) (X n) q) (Z n) d

variable {p : Par} {X : Fin 131072 → Fin 8 → ℝ} {Z : Fin 131072 → Fin 4 → ℝ}

theorem moved_on {V0 : Valuation τ sig (Elt Ideal)} {k : ℕ} (H : At p Z V0 (Fin.ofNat 6 k) (Yat p X Z k) (Jat p X Z k)) (n : Fin 131072) (r : Fin 8) :
    (STEP V0 (Proc.devRef .tc main_v1_12) : FVec Ideal S131072x8 .f32) (ix2 n r) = ((Yat p X Z (k + 1) n r : ℝ) : EReal) :=
  (congrFun (STEP_main_v1_12 V0) _).trans (next_x H n r)

theorem gained_on {V0 : Valuation τ sig (Elt Ideal)} {k : ℕ} (H : At p Z V0 (Fin.ofNat 6 k) (Yat p X Z k) (Jat p X Z k)) (n : Fin 131072) :
    (STEP V0 (Proc.devRef .tc main_v1_13) : FVec Ideal S131072 .f32) (ix1 n) = ((Jat p X Z (k + 1) n : ℝ) : EReal) := by
  refine (congrFun (STEP_main_v1_13 V0) _).trans ((next_j H n).trans ?_)
  unfold Jat
  rw [Finset.sum_range_succ]
  rfl

theorem next {V0 : Valuation τ sig (Elt Ideal)} {k : ℕ} (hk : k + 1 ≤ 5) (H : At p Z V0 (Fin.ofNat 6 k) (Yat p X Z k) (Jat p X Z k)) :
    At p Z (STEP V0) (Fin.ofNat 6 (k + 1)) (Yat p X Z (k + 1)) (Jat p X Z (k + 1)) where
  cnt := by
    refine (STEP_main_v1_11 V0).trans ?_
    unfold step_main_v1_11
    refine (congrArg (fun q : IVec S_ 32 => (id (addi q (constantI S_ 32 1#32)) : IVec S_ 32)) H.cnt).trans ?_
    funext j
    show BitVec.ofNat 32 ((Fin.ofNat 6 k : Fin 6) : ℕ) + 1#32 = BitVec.ofNat 32 ((Fin.ofNat 6 (k + 1) : Fin 6) : ℕ)
    clear H
    have hk' : k < 5 := by omega
    clear hk
    interval_cases k <;> decide
  mask := (STEP_main_v1_0 V0).trans H.mask
  cnd := (STEP_main_v1_1 V0).trans H.cnd
  trf := (STEP_main_v1_2 V0).trans H.trf
  plc := (STEP_main_v1_3 V0).trans H.plc
  w1 i k r := (congrFun (STEP_main_v1_4 V0) _).trans (H.w1 i k r)
  b1 i r := (congrFun (STEP_main_v1_5 V0) _).trans (H.b1 i r)
  w2 i k r := (congrFun (STEP_main_v1_6 V0) _).trans (H.w2 i k r)
  b2 i r := (congrFun (STEP_main_v1_7 V0) _).trans (H.b2 i r)
  w3 i k r := (congrFun (STEP_main_v1_8 V0) _).trans (H.w3 i k r)
  b3 i r := (congrFun (STEP_main_v1_9 V0) _).trans (H.b3 i r)
  z n d := (congrFun (STEP_main_v1_10 V0) _).trans (H.z n d)
  y := moved_on H
  j := gained_on H

theorem trips {V0 : Valuation τ sig (Elt Ideal)} (H : At p Z V0 (Fin.ofNat 6 0) (Yat p X Z 0) (Jat p X Z 0)) :
    ∀ k, k ≤ 5 → At p Z (STEP^[k] V0) (Fin.ofNat 6 k) (Yat p X Z k) (Jat p X Z k)
  | 0, _ => H
  | k + 1, hk => by
    rw [Function.iterate_succ_apply']
    exact next hk (trips H k (by omega))

variable (m : (ℓ : Loc nD τ sig) → Buf (Elt Ideal) ℓ) (c : Dev nD)

theorem entry_0 : (entryContents preI m c (Proc.devRef .tc main_v1_0) : IVec S6x8 1) = fun j => lit0 (S6x8.rowMajor j) := by
  simp only [entryContents, afterL_cons, afterL_nil]
  after_reads_simp
  rfl

theorem entry_1 : (entryContents preI m c (Proc.devRef .tc main_v1_1) : IVec S6x4 32) = fun j => lit1 (S6x4.rowMajor j) := by
  simp only [entryContents, afterL_cons, afterL_nil]
  after_reads_simp
  rfl

theorem entry_2 : (entryContents preI m c (Proc.devRef .tc main_v1_2) : IVec S6x4 32) = fun j => lit2 (S6x4.rowMajor j) := by
  simp only [entryContents, afterL_cons, afterL_nil]
  after_reads_simp
  rfl

theorem entry_3 : (entryContents preI m c (Proc.devRef .tc main_v1_3) : IVec S6x8 32) = fun j => lit3 (S6x8.rowMajor j) := by
  simp only [entryContents, afterL_cons, afterL_nil]
  after_reads_simp
  rfl

theorem entry_4 : entryContents preI m c (Proc.devRef .tc main_v1_4) = m ((c.tc : Thread nD τ).loc main_arg2) := by
  simp only [entryContents, afterL_cons, afterL_nil]
  after_reads_simp
  rfl

theorem entry_5 : entryContents preI m c (Proc.devRef .tc main_v1_5) = m ((c.tc : Thread nD τ).loc main_arg3) := by
  simp only [entryContents, afterL_cons, afterL_nil]
  after_reads_simp
  rfl

theorem entry_6 : entryContents preI m c (Proc.devRef .tc main_v1_6) = m ((c.tc : Thread nD τ).loc main_arg4) := by
  simp only [entryContents, afterL_cons, afterL_nil]
  after_reads_simp
  rfl

theorem entry_7 : entryContents preI m c (Proc.devRef .tc main_v1_7) = m ((c.tc : Thread nD τ).loc main_arg5) := by
  simp only [entryContents, afterL_cons, afterL_nil]
  after_reads_simp
  rfl

theorem entry_8 : entryContents preI m c (Proc.devRef .tc main_v1_8) = m ((c.tc : Thread nD τ).loc main_arg6) := by
  simp only [entryContents, afterL_cons, afterL_nil]
  after_reads_simp
  rfl

theorem entry_9 : entryContents preI m c (Proc.devRef .tc main_v1_9) = m ((c.tc : Thread nD τ).loc main_arg7) := by
  simp only [entryContents, afterL_cons, afterL_nil]
  after_reads_simp
  rfl

theorem entry_10 : entryContents preI m c (Proc.devRef .tc main_v1_10) = m ((c.tc : Thread nD τ).loc main_arg1) := by
  simp only [entryContents, afterL_cons, afterL_nil]
  after_reads_simp
  rfl

theorem entry_11 : (entryContents preI m c (Proc.devRef .tc main_v1_11) : IVec S_ 32) = fun _ => BitVec.ofNat 32 ((Fin.ofNat 6 0 : Fin 6) : ℕ) := by
  simp only [entryContents, afterL_cons, afterL_nil]
  after_reads_simp
  rfl

theorem entry_12 : entryContents preI m c (Proc.devRef .tc main_v1_12) = m ((c.tc : Thread nD τ).loc main_arg0) := by
  simp only [entryContents, afterL_cons, afterL_nil]
  after_reads_simp
  rfl

theorem entry_13 : (entryContents preI m c (Proc.devRef .tc main_v1_13) : FVec Ideal S131072 .f32) = (broadcastInDim S131072 ![] bcast_S_S131072 (constant (F := Ideal) S_ .f32 0x00000000#32) : FVec Ideal S131072 .f32) := by
  simp only [entryContents, afterL_cons, afterL_nil]
  after_reads_simp
  rfl

variable {m c}
  (hx : ∀ n r, (m ((c.tc : Thread nD τ).loc main_arg0) : FVec Ideal S131072x8 .f32) (ix2 n r) = ((X n r : ℝ) : EReal))
  (hz : ∀ n r, (m ((c.tc : Thread nD τ).loc main_arg1) : FVec Ideal S131072x4 .f32) (ix2 n r) = ((Z n r : ℝ) : EReal))
  (hw : Cert.KernelIdeal.HostRead.Weights p (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)))
include hx hz hw

theorem start : At p Z (entryContents preI m c) (Fin.ofNat 6 0) (Yat p X Z 0) (Jat p X Z 0) where
  cnt := entry_11 m c
  mask := entry_0 m c
  cnd := entry_1 m c
  trf := entry_2 m c
  plc := entry_3 m c
  w1 i k r := (congrFun (entry_4 m c) _).trans (hw.w1 i k r)
  b1 i r := (congrFun (entry_5 m c) _).trans (hw.b1 i r)
  w2 i k r := (congrFun (entry_6 m c) _).trans (hw.w2 i k r)
  b2 i r := (congrFun (entry_7 m c) _).trans (hw.b2 i r)
  w3 i k r := (congrFun (entry_8 m c) _).trans (hw.w3 i k r)
  b3 i r := (congrFun (entry_9 m c) _).trans (hw.b3 i r)
  z n d := (congrFun (entry_10 m c) _).trans (hz n d)
  y n r := (congrFun (entry_12 m c) _).trans (hx n r)
  j n := (congrFun (entry_13 m c) _).trans (lit_zero.trans (congrArg (fun q : ℝ => (q : EReal)) (Finset.sum_range_zero _).symm))

/-- The reference's first result, at every index. -/
theorem result_x (r : Fin 8) (n : Fin 131072) :
    (out_main_v2 (STEP^[6] (entryContents preI m c)) : FVec Ideal S8x131072 .f32) (ix2 r n) = ((at_ p (Z n) (X n) 6 r : ℝ) : EReal) := by
  have h := moved_on (trips (start hx hz hw) 5 le_rfl) n r
  rw [← Function.iterate_succ_apply' STEP 5] at h
  generalize STEP^[6] (entryContents preI m c) = V at h ⊢
  unfold out_main_v2
  pointwise
  exact h

/-- The reference's second result, at every index. -/
theorem result_j (n : Fin 131072) :
    (out_main_v3 (STEP^[6] (entryContents preI m c)) : FVec Ideal S1x131072 .f32) (ix2 0 n) = ((jac p (X n) (Z n) : ℝ) : EReal) := by
  have h := gained_on (trips (start hx hz hw) 5 le_rfl) n
  rw [← Function.iterate_succ_apply' STEP 5] at h
  generalize STEP^[6] (entryContents preI m c) = V at h ⊢
  unfold out_main_v3
  pointwise
  refine h.trans (congrArg (fun q : ℝ => (q : EReal)) ?_)
  unfold Jat jac
  exact Finset.sum_comm

end Cert.ReferenceIdeal.RefRead

end
-- ==== Proof.Algebraic.lean ====
module

public import proofs.«01_k».proof.Defs
public import proofs.«01_k».proof.Proof.PreRead
public import proofs.«01_k».proof.Proof.KernelOut
public import proofs.«01_k».proof.Proof.RefOut

@[expose] public section

noncomputable section

/-! The kernel and the reference leave the same two arrays whenever the precondition holds. -/

namespace Cert.Meet

open Idealize.ShloMosaic Idealize.ShloMosaic.TcCoe Idealize.SL.Sem Cert.Flow

/-- Two arrays over eight rows with the same entries. -/
theorem same8 {A B : (⟨2, ![8, 131072]⟩ : Shape).Idx → EReal} (h : ∀ r n, A (ix2 r n) = B (ix2 r n)) : A = B := by
  funext j
  rw [show j = ix2 (j 0) (j 1) from funext fun a => by fin_cases a <;> rfl]
  exact h _ _

/-- Two arrays over one row with the same entries. -/
theorem same1 {A B : (⟨2, ![1, 131072]⟩ : Shape).Idx → EReal} (h : ∀ n, A (ix2 0 n) = B (ix2 0 n)) : A = B := by
  funext j
  rw [show j = ix2 0 (j 1) from funext fun a => by fin_cases a; exact Subsingleton.elim (α := Fin 1) _ _; rfl]
  exact h _

variable {m : (ℓ : Loc Cert.KernelIdeal.nD Cert.KernelIdeal.τ Cert.KernelIdeal.sig) → Buf (Elt Ideal) ℓ}

/-- What the precondition gives of the kernel's arguments on one device. -/
theorem given (h : Cert.Pre_KernelIdeal_logits_bounded m) (c : Dev Cert.KernelIdeal.nD) :
    ∃ (p : Par) (R : ℝ) (H1 H2 : Fin 6 → Fin 32 → ℝ) (X : Fin 131072 → Fin 8 → ℝ) (Z : Fin 131072 → Fin 4 → ℝ), Cert.KernelIdeal.Out.Given p R H1 H2 X Z m c := by
  obtain ⟨p, R, H1, H2, X, Z, hw, hb, hx, hz, hxl, hzl⟩ := Cert.PreRead.read (h c)
  exact ⟨p, R, H1, H2, X, Z, ⟨hw, hb, hx, hz, hxl, hzl⟩⟩

theorem algebraic : Cert.algebraic_KernelIdeal_ReferenceIdeal_pre_logits_bounded := by
  intro m ρ m' ρ' hp hag
  refine ⟨_, _, Cert.KernelIdeal.Value.run_blocks (F := Ideal) m ρ, ?_⟩
  refine (θ_run _ _ _).mono (fun _ h c => ?_) (Cert.ReferenceIdeal.Value.run (F := Ideal) m' ρ')
  obtain ⟨hv2, hv3, hk⟩ := h c
  obtain ⟨p, R, H1, H2, X, Z, G⟩ := given hp c
  obtain ⟨e0, e1, e2, e3, e4, e5, e6, e7⟩ := hag c
  have hx : ∀ n r, (m' ((c.tc : Thread Cert.ReferenceIdeal.nD Cert.ReferenceIdeal.τ).loc Cert.ReferenceIdeal.main_arg0) : FVec Ideal Cert.ReferenceIdeal.S131072x8 .f32) (ix2 n r) = ((X n r : ℝ) : EReal) :=
    fun n r => (congrFun e0 _).trans (G.x n r)
  have hz : ∀ n r, (m' ((c.tc : Thread Cert.ReferenceIdeal.nD Cert.ReferenceIdeal.τ).loc Cert.ReferenceIdeal.main_arg1) : FVec Ideal Cert.ReferenceIdeal.S131072x4 .f32) (ix2 n r) = ((Z n r : ℝ) : EReal) :=
    fun n r => (congrFun e1 _).trans (G.z n r)
  have hw : Cert.KernelIdeal.HostRead.Weights p (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) :=
    ⟨fun i k r => (congrFun e2 _).trans (G.wts.w1 i k r), fun i r => (congrFun e3 _).trans (G.wts.b1 i r), fun i k r => (congrFun e4 _).trans (G.wts.w2 i k r),
      fun i r => (congrFun e5 _).trans (G.wts.b2 i r), fun i k r => (congrFun e6 _).trans (G.wts.w3 i k r), fun i r => (congrFun e7 _).trans (G.wts.b3 i r)⟩
  exact ⟨hv2.trans (same8 fun r n => (Cert.ReferenceIdeal.RefRead.result_x hx hz hw r n).trans (Cert.KernelIdeal.Out.final11 G r n).symm),
    hv3.trans (same1 fun n => (Cert.ReferenceIdeal.RefRead.result_j hx hz hw n).trans (Cert.KernelIdeal.Out.final12 G n).symm), hk⟩

end Cert.Meet

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_logits_bounded
public import proofs.«01_k».proof.Proof.Algebraic

@[expose] public section

noncomputable section

namespace Cert.Proof

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_logits_bounded := fun m ρ _ => Cert.KernelIdeal.Gen.frame m ρ

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_ri_pre : Cert.quiescent_ReferenceIdeal_pre_logits_bounded := fun m ρ _ => frame_ri m ρ trivial

theorem preserves : Cert.preserves_Kernel_KernelIdeal :=
  IdealRules.named_const.statement Cert.KernelIdeal.κ "inv_deriv" .f32 0x3FB86621#32 ((16777216 / 11645857 : ℝ) : EReal) rfl

theorem claim : Cert.Claim :=
  ⟨Cert.Kernel.Gen.facts, Cert.KernelIdeal.Gen.facts, Cert.ReferenceIdeal.Gen.facts, Cert.Pre_logits_bounded.Gen.facts,
    frame_p, frame_pi, frame_pi_pre, frame_ri, frame_ri_pre, preserves, Cert.Meet.algebraic⟩

end Cert.Proof

end
